-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v35_0) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_well_formed : Cert.Pre_well_formed.Facts),
    quiescent_Kernel (hKernel := hKernel) (hPre_in_range := hPre_in_range)
    ∧ quiescent_KernelIdeal (hKernelIdeal := hKernelIdeal) (hPre_in_range := hPre_in_range)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_in_range.lean ====
abbrev S8x2048x4096 : Shape := ⟨3, ![8, 2048, 4096]⟩
abbrev S124 : Shape := ⟨1, ![124]⟩
abbrev S124x11008 : Shape := ⟨2, ![124, 11008]⟩
abbrev S4096x11008 : Shape := ⟨2, ![4096, 11008]⟩
abbrev S32x86 : Shape := ⟨2, ![32, 86]⟩
abbrev S_ : Shape := ⟨0, ![]⟩

class Facts : Prop where
  bcast_S_S124 : S_.BroadcastsInDim S124 (![] : Fin 0 → Fin S124.rank)
  reducesTo_S124_S_d0 : S124.ReducesTo [0] S_
  h_S_ : 0 < S_.numel

variable [Facts]

def fn {F : FTy → Type} [FloatOps F] (main_arg0 : FVec F S8x2048x4096 .bf16) (main_arg1 : IVec S124 32) (main_arg2 : FVec F S124x11008 .bf16) (main_arg3 : FVec F S4096x11008 .fp8e4m3) (main_arg4 : FVec F S32x86 .f32) : IVec S_ 1 :=
  let main_c : IVec S_ 32 := constantI S_ 32 0#32
  let main_v0 : IVec S124 32 := broadcastInDim S124 ![] bcast_S_S124 main_c
  let main_v1 : IVec S124 1 := cmpi .sge main_arg1 main_v0
  let main_c_0 : IVec S_ 32 := constantI S_ 32 4096#32
  let main_v2 : IVec S124 32 := broadcastInDim S124 ![] bcast_S_S124 main_c_0
  let main_v3 : IVec S124 1 := cmpi .slt main_arg1 main_v2
  let main_v4 : IVec S124 1 := andi main_v1 main_v3
  let main_c_1 : IVec S_ 1 := constantI S_ 1 1#1
  let main_v5 : IVec S_ 1 := (fun x v => Host.reduce IntOp.andi x v reducesTo_S124_S_d0 h_S_) main_v4 main_c_1
  main_v5
-- ==== Pre_well_formed.lean ====
abbrev S8x2048x4096 : Shape := ⟨3, ![8, 2048, 4096]⟩
abbrev S124 : Shape := ⟨1, ![124]⟩
abbrev S124x11008 : Shape := ⟨2, ![124, 11008]⟩
abbrev S4096x11008 : Shape := ⟨2, ![4096, 11008]⟩
abbrev S32x86 : Shape := ⟨2, ![32, 86]⟩
abbrev S124x1 : Shape := ⟨2, ![124, 1]⟩
abbrev S1x124 : Shape := ⟨2, ![1, 124]⟩
abbrev S124x124 : Shape := ⟨2, ![124, 124]⟩
abbrev S_ : Shape := ⟨0, ![]⟩

class Facts : Prop where
  bcast_S124_S124x1_0 : S124.BroadcastsInDim S124x1 (![0] : Fin 1 → Fin S124x1.rank)
  bcast_S124_S1x124_1 : S124.BroadcastsInDim S1x124 (![1] : Fin 1 → Fin S1x124.rank)
  bcast_S124x1_S124x124_0_1 : S124x1.BroadcastsInDim S124x124 (![0, 1] : Fin 2 → Fin S124x124.rank)
  bcast_S1x124_S124x124_0_1 : S1x124.BroadcastsInDim S124x124 (![0, 1] : Fin 2 → Fin S124x124.rank)
  bcast_S_S124 : S_.BroadcastsInDim S124 (![] : Fin 0 → Fin S124.rank)
  reducesTo_S124_S_d0 : S124.ReducesTo [0] S_
  h_S_ : 0 < S_.numel
  reducesTo_S124x124_S_d0_1 : S124x124.ReducesTo [0, 1] S_
  bcast_S_S8x2048x4096 : S_.BroadcastsInDim S8x2048x4096 (![] : Fin 0 → Fin S8x2048x4096.rank)
  reducesTo_S8x2048x4096_S_d0_1_2 : S8x2048x4096.ReducesTo [0, 1, 2] S_

variable [Facts]

def fn_part1 {F : FTy → Type} [FloatOps F] (main_v6 : FVec F S8x2048x4096 .bf16) (main_v12 : IVec S_ 1) (main_v19 : IVec S124x124 1) (main_c_2 : IVec S_ 1) : IVec S_ 1 :=
  let main_v20 : IVec S_ 1 := (fun x v => Host.reduce IntOp.andi x v reducesTo_S124x124_S_d0_1 h_S_) main_v19 main_c_2
  let main_v21 : IVec S_ 1 := andi main_v12 main_v20
  let main_cst : FVec F S_ .bf16 := constant S_ .bf16 0x0000#16
  let main_v22 : FVec F S8x2048x4096 .bf16 := broadcastInDim S8x2048x4096 ![] bcast_S_S8x2048x4096 main_cst
  let main_v23 : IVec S8x2048x4096 1 := cmpf .oeq main_v6 main_v22
  let main_cst_3 : FVec F S_ .bf16 := constant S_ .bf16 0x0500#16
  let main_v24 : FVec F S8x2048x4096 .bf16 := broadcastInDim S8x2048x4096 ![] bcast_S_S8x2048x4096 main_cst_3
  let main_v25 : IVec S8x2048x4096 1 := cmpf .oge main_v6 main_v24
  let main_cst_4 : FVec F S_ .bf16 := constant S_ .bf16 0x7F7F#16
  let main_v26 : FVec F S8x2048x4096 .bf16 := broadcastInDim S8x2048x4096 ![] bcast_S_S8x2048x4096 main_cst_4
  let main_v27 : IVec S8x2048x4096 1 := cmpf .ole main_v6 main_v26
  let main_v28 : IVec S8x2048x4096 1 := andi main_v25 main_v27
  let main_v29 : IVec S8x2048x4096 1 := ori main_v23 main_v28
  let main_c_5 : IVec S_ 1 := constantI S_ 1 1#1
  let main_v30 : IVec S_ 1 := (fun x v => Host.reduce IntOp.andi x v reducesTo_S8x2048x4096_S_d0_1_2 h_S_) main_v29 main_c_5
  let main_v31 : IVec S_ 1 := andi main_v21 main_v30
  main_v31

def fn {F : FTy → Type} [FloatOps F] (main_arg0 : FVec F S8x2048x4096 .bf16) (main_arg1 : IVec S124 32) (main_arg2 : FVec F S124x11008 .bf16) (main_arg3 : FVec F S4096x11008 .fp8e4m3) (main_arg4 : FVec F S32x86 .f32) : IVec S_ 1 :=
  let main_v0 : IVec S124 32 := iotaInDim S124 32 0
  let main_v1 : IVec S124x1 32 := broadcastInDim S124x1 ![0] bcast_S124_S124x1_0 main_arg1
  let main_v2 : IVec S1x124 32 := broadcastInDim S1x124 ![1] bcast_S124_S1x124_1 main_arg1
  let main_v3 : IVec S124x124 32 := broadcastInDim S124x124 ![0, 1] bcast_S124x1_S124x124_0_1 main_v1
  let main_v4 : IVec S124x124 32 := broadcastInDim S124x124 ![0, 1] bcast_S1x124_S124x124_0_1 main_v2
  let main_v5 : IVec S124x124 1 := cmpi .eq main_v3 main_v4
  let main_v6 : FVec F S8x2048x4096 .bf16 := Host.absf main_arg0
  let main_c : IVec S_ 32 := constantI S_ 32 0#32
  let main_v7 : IVec S124 32 := broadcastInDim S124 ![] bcast_S_S124 main_c
  let main_v8 : IVec S124 1 := cmpi .sge main_arg1 main_v7
  let main_c_0 : IVec S_ 32 := constantI S_ 32 4096#32
  let main_v9 : IVec S124 32 := broadcastInDim S124 ![] bcast_S_S124 main_c_0
  let main_v10 : IVec S124 1 := cmpi .slt main_arg1 main_v9
  let main_v11 : IVec S124 1 := andi main_v8 main_v10
  let main_c_1 : IVec S_ 1 := constantI S_ 1 1#1
  let main_v12 : IVec S_ 1 := (fun x v => Host.reduce IntOp.andi x v reducesTo_S124_S_d0 h_S_) main_v11 main_c_1
  let main_v13 : IVec S124x1 32 := broadcastInDim S124x1 ![0] bcast_S124_S124x1_0 main_v0
  let main_v14 : IVec S1x124 32 := broadcastInDim S1x124 ![1] bcast_S124_S1x124_1 main_v0
  let main_v15 : IVec S124x124 32 := broadcastInDim S124x124 ![0, 1] bcast_S124x1_S124x124_0_1 main_v13
  let main_v16 : IVec S124x124 32 := broadcastInDim S124x124 ![0, 1] bcast_S1x124_S124x124_0_1 main_v14
  let main_v17 : IVec S124x124 1 := cmpi .eq main_v15 main_v16
  let main_v18 : IVec S124x124 1 := noti main_v5
  let main_v19 : IVec S124x124 1 := ori main_v17 main_v18
  let main_c_2 : IVec S_ 1 := constantI S_ 1 1#1
  fn_part1 (F := F) main_v6 main_v12 main_v19 main_c_2
-- ==== Kernel.lean ====
abbrev S8x2048x4096 : Shape := ⟨3, ![8, 2048, 4096]⟩
abbrev S124 : Shape := ⟨1, ![124]⟩
abbrev S124x11008 : Shape := ⟨2, ![124, 11008]⟩
abbrev S4096x11008 : Shape := ⟨2, ![4096, 11008]⟩
abbrev S32x86 : Shape := ⟨2, ![32, 86]⟩
abbrev S16384x4096 : Shape := ⟨2, ![16384, 4096]⟩
abbrev S16384x32 : Shape := ⟨2, ![16384, 32]⟩
abbrev S256x4096 : Shape := ⟨2, ![256, 4096]⟩
abbrev S256x32 : Shape := ⟨2, ![256, 32]⟩
abbrev S32x128 : Shape := ⟨2, ![32, 128]⟩
abbrev S1x128 : Shape := ⟨2, ![1, 128]⟩
abbrev S1 : Shape := ⟨1, ![1]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S124x256 : Shape := ⟨2, ![124, 256]⟩
abbrev S4096x256 : Shape := ⟨2, ![4096, 256]⟩
abbrev S1x1 : Shape := ⟨2, ![1, 1]⟩
abbrev S128x128 : Shape := ⟨2, ![128, 128]⟩
abbrev S1x256 : Shape := ⟨2, ![1, 256]⟩
abbrev S16384x11008 : Shape := ⟨2, ![16384, 11008]⟩
abbrev S2048x4096 : Shape := ⟨2, ![2048, 4096]⟩
abbrev S2048x256 : Shape := ⟨2, ![2048, 256]⟩
abbrev S8x2048x11008 : Shape := ⟨3, ![8, 2048, 11008]⟩
abbrev S8x2048x32 : Shape := ⟨3, ![8, 2048, 32]⟩

abbrev nBuf : Space → Nat
  | .hbm => 14
  | .vmem => 22
  | .smem => 2
  | _ => 0

abbrev bufTy : (tb : Table) → Fin (tcTables nBuf tb) → BufTy
  | .hbm, ⟨0, _⟩ => ⟨S8x2048x4096, .bf16⟩
  | .hbm, ⟨1, _⟩ => ⟨S124x11008, .bf16⟩
  | .hbm, ⟨2, _⟩ => ⟨S4096x11008, .fp8e4m3⟩
  | .hbm, ⟨3, _⟩ => ⟨S32x86, .f32⟩
  | .hbm, ⟨4, _⟩ => ⟨S16384x4096, .bf16⟩
  | .hbm, ⟨5, _⟩ => ⟨S16384x4096, .bf16⟩
  | .hbm, ⟨6, _⟩ => ⟨S16384x4096, .fp8e4m3⟩
  | .hbm, ⟨7, _⟩ => ⟨S16384x32, .f32⟩
  | .hbm, ⟨8, _⟩ => ⟨S124x11008, .f32⟩
  | .hbm, ⟨9, _⟩ => ⟨S4096x11008, .bf16⟩
  | .hbm, ⟨10, _⟩ => ⟨S16384x11008, .bf16⟩
  | .hbm, ⟨11, _⟩ => ⟨S8x2048x11008, .bf16⟩
  | .hbm, ⟨12, _⟩ => ⟨S8x2048x4096, .fp8e4m3⟩
  | .hbm, ⟨13, _⟩ => ⟨S8x2048x32, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .fp8e4m3⟩
  | .local _ .vmem, ⟨5, _⟩ => ⟨S256x4096, .fp8e4m3⟩
  | .local _ .vmem, ⟨6, _⟩ => ⟨S256x32, .f32⟩
  | .local _ .vmem, ⟨7, _⟩ => ⟨S256x32, .f32⟩
  | .local _ .vmem, ⟨8, _⟩ => ⟨S32x128, .f32⟩
  | .local _ .vmem, ⟨9, _⟩ => ⟨S124x256, .f32⟩
  | .local _ .vmem, ⟨10, _⟩ => ⟨S124x256, .f32⟩
  | .local _ .vmem, ⟨11, _⟩ => ⟨S4096x256, .fp8e4m3⟩
  | .local _ .vmem, ⟨12, _⟩ => ⟨S4096x256, .fp8e4m3⟩
  | .local _ .vmem, ⟨13, _⟩ => ⟨S4096x256, .bf16⟩
  | .local _ .vmem, ⟨14, _⟩ => ⟨S4096x256, .bf16⟩
  | .local _ .vmem, ⟨15, _⟩ => ⟨S4096x256, .f32⟩
  | .local _ .vmem, ⟨16, _⟩ => ⟨S2048x4096, .bf16⟩
  | .local _ .vmem, ⟨17, _⟩ => ⟨S2048x4096, .bf16⟩
  | .local _ .vmem, ⟨18, _⟩ => ⟨S4096x256, .bf16⟩
  | .local _ .vmem, ⟨19, _⟩ => ⟨S4096x256, .bf16⟩
  | .local _ .vmem, ⟨20, _⟩ => ⟨S2048x256, .bf16⟩
  | .local _ .vmem, ⟨21, _⟩ => ⟨S2048x256, .bf16⟩
  | .local _ .smem, ⟨0, _⟩ => ⟨S124, .i32⟩
  | .local _ .smem, ⟨1, _⟩ => ⟨S32x86, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc1_stg0_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_709 : BitVec 32 := 0#32
  let c124_i32 : BitVec 32 := 124#32
  let v1963 : BitVec 32 := Scalar.addi c0_i32_709 c124_i32
  let c1_i32_710 : BitVec 32 := 1#32
  ⟨c0_i32_709, v1963, c1_i32_710⟩
def k0_off1 (k0_t1 : Fin k0_t1_loop.trips) : Fin 1 → Nat :=
  let c0_i32_709 : BitVec 32 := 0#32
  let c1_i32_710 : BitVec 32 := 1#32
  let arg7 : BitVec 32 := Scf.iv c0_i32_709 c1_i32_710 k0_t1
  let v1964 : Index := Scalar.indexCast arg7
  ![v1964.toNat]
def k0_off2 (v1965 : BitVec 32) : Fin 2 → Nat :=
  let c0_i32_712 : BitVec 32 := 0#32
  let v1967 : BitVec 1 := Scalar.cmpi .sgt v1965 c0_i32_712
  let v1968 : BitVec 32 := Scalar.extui v1967
  let c0_i32_713 : BitVec 32 := 0#32
  let v1969 : BitVec 1 := Scalar.cmpi .slt v1965 c0_i32_713
  let v1970 : BitVec 32 := Scalar.extui v1969
  let v1971 : BitVec 32 := Scalar.subi v1968 v1970
  let c128_i32 : BitVec 32 := 128#32
  let c0_i32_714 : BitVec 32 := 0#32
  let v1972 : BitVec 1 := Scalar.cmpi .sgt c128_i32 c0_i32_714
  let v1973 : BitVec 32 := Scalar.extui v1972
  let c0_i32_715 : BitVec 32 := 0#32
  let v1974 : BitVec 1 := Scalar.cmpi .slt c128_i32 c0_i32_715
  let v1975 : BitVec 32 := Scalar.extui v1974
  let v1976 : BitVec 32 := Scalar.subi v1973 v1975
  let v1977 : BitVec 1 := Scalar.cmpi .ne v1971 v1976
  let v1978 : BitVec 32 := Scalar.remsi v1965 c128_i32
  let c0_i32_716 : BitVec 32 := 0#32
  let v1979 : BitVec 1 := Scalar.cmpi .ne v1978 c0_i32_716
  let v1980 : BitVec 1 := Scalar.andi v1977 v1979
  let v1966 : BitVec 32 := Scalar.divsi v1965 c128_i32
  let c1_i32_717 : BitVec 32 := 1#32
  let v1981 : BitVec 32 := Scalar.subi v1966 c1_i32_717
  let v1982 : BitVec 32 := Scalar.select v1980 v1981 v1966
  let v1983 : Index := Scalar.indexCast v1982
  let c0_718 : Index := 0#32
  ![v1983.toNat, 0]

def k0_chk1 (i : grid0.Coords) (v1965 : BitVec 32) : Prop :=
  (∀ (k0_h1 : k0_cond1 i = 1#1), ∀ a, (k0_off2 v1965) a + S1x128.size a ≤ S32x128.size a)
theorem k0_off2_inb : ∀ (i : grid0.Coords) (v1965 : BitVec 32) (k0_hw1 : k0_chk1 i v1965), ∀ (k0_h1 : k0_cond1 i = 1#1), ∀ a, (k0_off2 v1965) a + S1x128.size a ≤ S32x128.size a := fun i v1965 k0_hw1 k0_h1 => k0_hw1 k0_h1

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![43], ![false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k1_off2 (i : grid1.Coords) (c0_i32_10 : BitVec 32) : Fin 2 → Nat :=
  let c1 : Index := 1#32
  let arg0 : BitVec 32 := BitVec.ofNat 32 (i 0).val
  let c2_i32_9 : BitVec 32 := 2#32
  let v28 : BitVec 32 := Scalar.muli arg0 c2_i32_9
  let v29 : BitVec 32 := Scalar.addi v28 c0_i32_10
  let v30 : Index := Scalar.indexCast v29
  ![1, v30.toNat]
def k1_off3 (i : grid1.Coords) (c0_i32_23 : BitVec 32) : Fin 2 → Nat :=
  let c2 : Index := 2#32
  let arg0 : BitVec 32 := BitVec.ofNat 32 (i 0).val
  let c2_i32_22 : BitVec 32 := 2#32
  let v56 : BitVec 32 := Scalar.muli arg0 c2_i32_22
  let v57 : BitVec 32 := Scalar.addi v56 c0_i32_23
  let v58 : Index := Scalar.indexCast v57
  ![2, v58.toNat]
def k1_off4 (i : grid1.Coords) (c0_i32_35 : BitVec 32) : Fin 2 → Nat :=
  let c3 : Index := 3#32
  let arg0 : BitVec 32 := BitVec.ofNat 32 (i 0).val
  let c2_i32_34 : BitVec 32 := 2#32
  let v84 : BitVec 32 := Scalar.muli arg0 c2_i32_34
  let v85 : BitVec 32 := Scalar.addi v84 c0_i32_35
  let v86 : Index := Scalar.indexCast v85
  ![3, v86.toNat]
def k1_off5 (i : grid1.Coords) (c0_i32_47 : BitVec 32) : Fin 2 → Nat :=
  let c4 : Index := 4#32
  let arg0 : BitVec 32 := BitVec.ofNat 32 (i 0).val
  let c2_i32_46 : BitVec 32 := 2#32
  let v112 : BitVec 32 := Scalar.muli arg0 c2_i32_46
  let v113 : BitVec 32 := Scalar.addi v112 c0_i32_47
  let v114 : Index := Scalar.indexCast v113
  ![4, v114.toNat]
def k1_off6 (i : grid1.Coords) (c0_i32_59 : BitVec 32) : Fin 2 → Nat :=
  let c5 : Index := 5#32
  let arg0 : BitVec 32 := BitVec.ofNat 32 (i 0).val
  let c2_i32_58 : BitVec 32 := 2#32
  let v140 : BitVec 32 := Scalar.muli arg0 c2_i32_58
  let v141 : BitVec 32 := Scalar.addi v140 c0_i32_59
  let v142 : Index := Scalar.indexCast v141
  ![5, v142.toNat]
def k1_off7 (i : grid1.Coords) (c0_i32_71 : BitVec 32) : Fin 2 → Nat :=
  let c6 : Index := 6#32
  let arg0 : BitVec 32 := BitVec.ofNat 32 (i 0).val
  let c2_i32_70 : BitVec 32 := 2#32
  let v168 : BitVec 32 := Scalar.muli arg0 c2_i32_70
  let v169 : BitVec 32 := Scalar.addi v168 c0_i32_71
  let v170 : Index := Scalar.indexCast v169
  ![6, v170.toNat]
def k1_off8 (i : grid1.Coords) (c0_i32_83 : BitVec 32) : Fin 2 → Nat :=
  let c7 : Index := 7#32
  let arg0 : BitVec 32 := BitVec.ofNat 32 (i 0).val
  let c2_i32_82 : BitVec 32 := 2#32
  let v196 : BitVec 32 := Scalar.muli arg0 c2_i32_82
  let v197 : BitVec 32 := Scalar.addi v196 c0_i32_83
  let v198 : Index := Scalar.indexCast v197
  ![7, v198.toNat]
def k1_off9 (i : grid1.Coords) (c0_i32_95 : BitVec 32) : Fin 2 → Nat :=
  let c8 : Index := 8#32
  let arg0 : BitVec 32 := BitVec.ofNat 32 (i 0).val
  let c2_i32_94 : BitVec 32 := 2#32
  let v224 : BitVec 32 := Scalar.muli arg0 c2_i32_94
  let v225 : BitVec 32 := Scalar.addi v224 c0_i32_95
  let v226 : Index := Scalar.indexCast v225
  ![8, v226.toNat]
def k1_off10 (i : grid1.Coords) (c0_i32_107 : BitVec 32) : Fin 2 → Nat :=
  let c9 : Index := 9#32
  let arg0 : BitVec 32 := BitVec.ofNat 32 (i 0).val
  let c2_i32_106 : BitVec 32 := 2#32
  let v252 : BitVec 32 := Scalar.muli arg0 c2_i32_106
  let v253 : BitVec 32 := Scalar.addi v252 c0_i32_107
  let v254 : Index := Scalar.indexCast v253
  ![9, v254.toNat]
def k1_off11 (i : grid1.Coords) (c0_i32_119 : BitVec 32) : Fin 2 → Nat :=
  let c10 : Index := 10#32
  let arg0 : BitVec 32 := BitVec.ofNat 32 (i 0).val
  let c2_i32_118 : BitVec 32 := 2#32
  let v280 : BitVec 32 := Scalar.muli arg0 c2_i32_118
  let v281 : BitVec 32 := Scalar.addi v280 c0_i32_119
  let v282 : Index := Scalar.indexCast v281
  ![10, v282.toNat]
def k1_off12 (i : grid1.Coords) (c0_i32_131 : BitVec 32) : Fin 2 → Nat :=
  let c11 : Index := 11#32
  let arg0 : BitVec 32 := BitVec.ofNat 32 (i 0).val
  let c2_i32_130 : BitVec 32 := 2#32
  let v308 : BitVec 32 := Scalar.muli arg0 c2_i32_130
  let v309 : BitVec 32 := Scalar.addi v308 c0_i32_131
  let v310 : Index := Scalar.indexCast v309
  ![11, v310.toNat]
def k1_off13 (i : grid1.Coords) (c0_i32_143 : BitVec 32) : Fin 2 → Nat :=
  let c12 : Index := 12#32
  let arg0 : BitVec 32 := BitVec.ofNat 32 (i 0).val
  let c2_i32_142 : BitVec 32 := 2#32
  let v336 : BitVec 32 := Scalar.muli arg0 c2_i32_142
  let v337 : BitVec 32 := Scalar.addi v336 c0_i32_143
  let v338 : Index := Scalar.indexCast v337
  ![12, v338.toNat]
def k1_off14 (i : grid1.Coords) (c0_i32_155 : BitVec 32) : Fin 2 → Nat :=
  let c13 : Index := 13#32
  let arg0 : BitVec 32 := BitVec.ofNat 32 (i 0).val
  let c2_i32_154 : BitVec 32 := 2#32
  let v364 : BitVec 32 := Scalar.muli arg0 c2_i32_154
  let v365 : BitVec 32 := Scalar.addi v364 c0_i32_155
  let v366 : Index := Scalar.indexCast v365
  ![13, v366.toNat]
def k1_off15 (i : grid1.Coords) (c0_i32_167 : BitVec 32) : Fin 2 → Nat :=
  let c14 : Index := 14#32
  let arg0 : BitVec 32 := BitVec.ofNat 32 (i 0).val
  let c2_i32_166 : BitVec 32 := 2#32
  let v392 : BitVec 32 := Scalar.muli arg0 c2_i32_166
  let v393 : BitVec 32 := Scalar.addi v392 c0_i32_167
  let v394 : Index := Scalar.indexCast v393
  ![14, v394.toNat]
def k1_off16 (i : grid1.Coords) (c0_i32_179 : BitVec 32) : Fin 2 → Nat :=
  let c15 : Index := 15#32
  let arg0 : BitVec 32 := BitVec.ofNat 32 (i 0).val
  let c2_i32_178 : BitVec 32 := 2#32
  let v420 : BitVec 32 := Scalar.muli arg0 c2_i32_178
  let v421 : BitVec 32 := Scalar.addi v420 c0_i32_179
  let v422 : Index := Scalar.indexCast v421
  ![15, v422.toNat]
def k1_off17 (i : grid1.Coords) (c0_i32_191 : BitVec 32) : Fin 2 → Nat :=
  let c16 : Index := 16#32
  let arg0 : BitVec 32 := BitVec.ofNat 32 (i 0).val
  let c2_i32_190 : BitVec 32 := 2#32
  let v448 : BitVec 32 := Scalar.muli arg0 c2_i32_190
  let v449 : BitVec 32 := Scalar.addi v448 c0_i32_191
  let v450 : Index := Scalar.indexCast v449
  ![16, v450.toNat]
def k1_off18 (i : grid1.Coords) (c0_i32_203 : BitVec 32) : Fin 2 → Nat :=
  let c17 : Index := 17#32
  let arg0 : BitVec 32 := BitVec.ofNat 32 (i 0).val
  let c2_i32_202 : BitVec 32 := 2#32
  let v476 : BitVec 32 := Scalar.muli arg0 c2_i32_202
  let v477 : BitVec 32 := Scalar.addi v476 c0_i32_203
  let v478 : Index := Scalar.indexCast v477
  ![17, v478.toNat]
def k1_off19 (i : grid1.Coords) (c0_i32_215 : BitVec 32) : Fin 2 → Nat :=
  let c18 : Index := 18#32
  let arg0 : BitVec 32 := BitVec.ofNat 32 (i 0).val
  let c2_i32_214 : BitVec 32 := 2#32
  let v504 : BitVec 32 := Scalar.muli arg0 c2_i32_214
  let v505 : BitVec 32 := Scalar.addi v504 c0_i32_215
  let v506 : Index := Scalar.indexCast v505
  ![18, v506.toNat]
def k1_off20 (i : grid1.Coords) (c0_i32_227 : BitVec 32) : Fin 2 → Nat :=
  let c19 : Index := 19#32
  let arg0 : BitVec 32 := BitVec.ofNat 32 (i 0).val
  let c2_i32_226 : BitVec 32 := 2#32
  let v532 : BitVec 32 := Scalar.muli arg0 c2_i32_226
  let v533 : BitVec 32 := Scalar.addi v532 c0_i32_227
  let v534 : Index := Scalar.indexCast v533
  ![19, v534.toNat]
def k1_off21 (i : grid1.Coords) (c0_i32_239 : BitVec 32) : Fin 2 → Nat :=
  let c20 : Index := 20#32
  let arg0 : BitVec 32 := BitVec.ofNat 32 (i 0).val
  let c2_i32_238 : BitVec 32 := 2#32
  let v560 : BitVec 32 := Scalar.muli arg0 c2_i32_238
  let v561 : BitVec 32 := Scalar.addi v560 c0_i32_239
  let v562 : Index := Scalar.indexCast v561
  ![20, v562.toNat]
def k1_off22 (i : grid1.Coords) (c0_i32_251 : BitVec 32) : Fin 2 → Nat :=
  let c21 : Index := 21#32
  let arg0 : BitVec 32 := BitVec.ofNat 32 (i 0).val
  let c2_i32_250 : BitVec 32 := 2#32
  let v588 : BitVec 32 := Scalar.muli arg0 c2_i32_250
  let v589 : BitVec 32 := Scalar.addi v588 c0_i32_251
  let v590 : Index := Scalar.indexCast v589
  ![21, v590.toNat]
def k1_off23 (i : grid1.Coords) (c0_i32_263 : BitVec 32) : Fin 2 → Nat :=
  let c22 : Index := 22#32
  let arg0 : BitVec 32 := BitVec.ofNat 32 (i 0).val
  let c2_i32_262 : BitVec 32 := 2#32
  let v616 : BitVec 32 := Scalar.muli arg0 c2_i32_262
  let v617 : BitVec 32 := Scalar.addi v616 c0_i32_263
  let v618 : Index := Scalar.indexCast v617
  ![22, v618.toNat]
def k1_off24 (i : grid1.Coords) (c0_i32_275 : BitVec 32) : Fin 2 → Nat :=
  let c23 : Index := 23#32
  let arg0 : BitVec 32 := BitVec.ofNat 32 (i 0).val
  let c2_i32_274 : BitVec 32 := 2#32
  let v644 : BitVec 32 := Scalar.muli arg0 c2_i32_274
  let v645 : BitVec 32 := Scalar.addi v644 c0_i32_275
  let v646 : Index := Scalar.indexCast v645
  ![23, v646.toNat]
def k1_off25 (i : grid1.Coords) (c0_i32_287 : BitVec 32) : Fin 2 → Nat :=
  let c24 : Index := 24#32
  let arg0 : BitVec 32 := BitVec.ofNat 32 (i 0).val
  let c2_i32_286 : BitVec 32 := 2#32
  let v672 : BitVec 32 := Scalar.muli arg0 c2_i32_286
  let v673 : BitVec 32 := Scalar.addi v672 c0_i32_287
  let v674 : Index := Scalar.indexCast v673
  ![24, v674.toNat]
def k1_off26 (i : grid1.Coords) (c0_i32_299 : BitVec 32) : Fin 2 → Nat :=
  let c25 : Index := 25#32
  let arg0 : BitVec 32 := BitVec.ofNat 32 (i 0).val
  let c2_i32_298 : BitVec 32 := 2#32
  let v700 : BitVec 32 := Scalar.muli arg0 c2_i32_298
  let v701 : BitVec 32 := Scalar.addi v700 c0_i32_299
  let v702 : Index := Scalar.indexCast v701
  ![25, v702.toNat]
def k1_off27 (i : grid1.Coords) (c0_i32_311 : BitVec 32) : Fin 2 → Nat :=
  let c26 : Index := 26#32
  let arg0 : BitVec 32 := BitVec.ofNat 32 (i 0).val
  let c2_i32_310 : BitVec 32 := 2#32
  let v728 : BitVec 32 := Scalar.muli arg0 c2_i32_310
  let v729 : BitVec 32 := Scalar.addi v728 c0_i32_311
  let v730 : Index := Scalar.indexCast v729
  ![26, v730.toNat]
def k1_off28 (i : grid1.Coords) (c0_i32_323 : BitVec 32) : Fin 2 → Nat :=
  let c27 : Index := 27#32
  let arg0 : BitVec 32 := BitVec.ofNat 32 (i 0).val
  let c2_i32_322 : BitVec 32 := 2#32
  let v756 : BitVec 32 := Scalar.muli arg0 c2_i32_322
  let v757 : BitVec 32 := Scalar.addi v756 c0_i32_323
  let v758 : Index := Scalar.indexCast v757
  ![27, v758.toNat]
def k1_off29 (i : grid1.Coords) (c0_i32_335 : BitVec 32) : Fin 2 → Nat :=
  let c28 : Index := 28#32
  let arg0 : BitVec 32 := BitVec.ofNat 32 (i 0).val
  let c2_i32_334 : BitVec 32 := 2#32
  let v784 : BitVec 32 := Scalar.muli arg0 c2_i32_334
  let v785 : BitVec 32 := Scalar.addi v784 c0_i32_335
  let v786 : Index := Scalar.indexCast v785
  ![28, v786.toNat]
def k1_off30 (i : grid1.Coords) (c0_i32_347 : BitVec 32) : Fin 2 → Nat :=
  let c29 : Index := 29#32
  let arg0 : BitVec 32 := BitVec.ofNat 32 (i 0).val
  let c2_i32_346 : BitVec 32 := 2#32
  let v812 : BitVec 32 := Scalar.muli arg0 c2_i32_346
  let v813 : BitVec 32 := Scalar.addi v812 c0_i32_347
  let v814 : Index := Scalar.indexCast v813
  ![29, v814.toNat]
def k1_off31 (i : grid1.Coords) (c0_i32_359 : BitVec 32) : Fin 2 → Nat :=
  let c30 : Index := 30#32
  let arg0 : BitVec 32 := BitVec.ofNat 32 (i 0).val
  let c2_i32_358 : BitVec 32 := 2#32
  let v840 : BitVec 32 := Scalar.muli arg0 c2_i32_358
  let v841 : BitVec 32 := Scalar.addi v840 c0_i32_359
  let v842 : Index := Scalar.indexCast v841
  ![30, v842.toNat]
def k1_off32 (i : grid1.Coords) (c0_i32_371 : BitVec 32) : Fin 2 → Nat :=
  let c31 : Index := 31#32
  let arg0 : BitVec 32 := BitVec.ofNat 32 (i 0).val
  let c2_i32_370 : BitVec 32 := 2#32
  let v868 : BitVec 32 := Scalar.muli arg0 c2_i32_370
  let v869 : BitVec 32 := Scalar.addi v868 c0_i32_371
  let v870 : Index := Scalar.indexCast v869
  ![31, v870.toNat]
@[reducible] def k1_t1_loop : Scf.Loop 32 :=
  let c0_i32_382 : BitVec 32 := 0#32
  let c124_i32 : BitVec 32 := 124#32
  let v896 : BitVec 32 := Scalar.addi c0_i32_382 c124_i32
  let c1_i32_383 : BitVec 32 := 1#32
  ⟨c0_i32_382, v896, c1_i32_383⟩
def k1_off33 (k1_t1 : Fin k1_t1_loop.trips) : Fin 2 → Nat :=
  let c0_i32_382 : BitVec 32 := 0#32
  let c1_i32_383 : BitVec 32 := 1#32
  let arg7 : BitVec 32 := Scf.iv c0_i32_382 c1_i32_383 k1_t1
  let v900 : Index := Scalar.indexCast arg7
  let c0_389 : Index := 0#32
  ![v900.toNat, 0]
def k1_off34 (k1_t1 : Fin k1_t1_loop.trips) : Fin 1 → Nat :=
  let c0_i32_382 : BitVec 32 := 0#32
  let c1_i32_383 : BitVec 32 := 1#32
  let arg7 : BitVec 32 := Scf.iv c0_i32_382 c1_i32_383 k1_t1
  let v903 : Index := Scalar.indexCast arg7
  ![v903.toNat]
def k1_off35 (v904 : BitVec 32) : Fin 2 → Nat :=
  let v905 : Index := Scalar.indexCast v904
  let c0_390 : Index := 0#32
  ![v905.toNat, 0]

def k1_chk1 (v904 : BitVec 32) : Prop :=
  (∀ a, (k1_off35 v904) a + S1x256.size a ≤ S4096x256.size a)
theorem k1_off35_inb : ∀ (v904 : BitVec 32) (k1_hw1 : k1_chk1 v904), ∀ a, (k1_off35 v904) a + S1x256.size a ≤ S4096x256.size a := fun v904 k1_hw1 => k1_hw1

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S32x86 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S124x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S8x2048x4096 : Shape := ⟨3, ![8, 2048, 4096]⟩
abbrev S124 : Shape := ⟨1, ![124]⟩
abbrev S124x11008 : Shape := ⟨2, ![124, 11008]⟩
abbrev S4096x11008 : Shape := ⟨2, ![4096, 11008]⟩
abbrev S32x86 : Shape := ⟨2, ![32, 86]⟩
abbrev S_ : Shape := ⟨0, ![]⟩
abbrev S124x1 : Shape := ⟨2, ![124, 1]⟩
abbrev S8x2048x124 : Shape := ⟨3, ![8, 2048, 124]⟩
abbrev S8x2048x32x128 : Shape := ⟨4, ![8, 2048, 32, 128]⟩
abbrev S8x2048x32 : Shape := ⟨3, ![8, 2048, 32]⟩
abbrev S254 : Shape := ⟨1, ![254]⟩
abbrev S8x2048x32x1 : Shape := ⟨4, ![8, 2048, 32, 1]⟩
abbrev S1x1x1x254 : Shape := ⟨4, ![1, 1, 1, 254]⟩
abbrev S8x2048x32x254 : Shape := ⟨4, ![8, 2048, 32, 254]⟩
abbrev S32x128x86x128 : Shape := ⟨4, ![32, 128, 86, 128]⟩
abbrev S32x1x86x1 : Shape := ⟨4, ![32, 1, 86, 1]⟩
abbrev S8x2048x11008 : Shape := ⟨3, ![8, 2048, 11008]⟩

abbrev nBuf : Space → Nat
  | .hbm => 91
  | .vmem => 5
  | .smem => 0
  | _ => 0

abbrev bufTy : (tb : Table) → Fin (tcTables nBuf tb) → BufTy
  | .hbm, ⟨0, _⟩ => ⟨S8x2048x4096, .bf16⟩
  | .hbm, ⟨1, _⟩ => ⟨S124, .i32⟩
  | .hbm, ⟨2, _⟩ => ⟨S124x11008, .bf16⟩
  | .hbm, ⟨3, _⟩ => ⟨S4096x11008, .fp8e4m3⟩
  | .hbm, ⟨4, _⟩ => ⟨S32x86, .f32⟩
  | .hbm, ⟨5, _⟩ => ⟨S_, .i32⟩
  | .hbm, ⟨6, _⟩ => ⟨S124, .i32⟩
  | .hbm, ⟨7, _⟩ => ⟨S124, .i1⟩
  | .hbm, ⟨8, _⟩ => ⟨S_, .i32⟩
  | .hbm, ⟨9, _⟩ => ⟨S124, .i32⟩
  | .hbm, ⟨10, _⟩ => ⟨S124, .i32⟩
  | .hbm, ⟨11, _⟩ => ⟨S124, .i32⟩
  | .hbm, ⟨12, _⟩ => ⟨S124x1, .i32⟩
  | .hbm, ⟨13, _⟩ => ⟨S_, .bf16⟩
  | .hbm, ⟨14, _⟩ => ⟨S8x2048x124, .bf16⟩
  | .hbm, ⟨15, _⟩ => ⟨S8x2048x4096, .bf16⟩
  | .hbm, ⟨16, _⟩ => ⟨S8x2048x4096, .f32⟩
  | .hbm, ⟨17, _⟩ => ⟨S8x2048x32x128, .f32⟩
  | .hbm, ⟨18, _⟩ => ⟨S8x2048x32x128, .f32⟩
  | .hbm, ⟨19, _⟩ => ⟨S_, .f32⟩
  | .hbm, ⟨20, _⟩ => ⟨S8x2048x32, .f32⟩
  | .hbm, ⟨21, _⟩ => ⟨S_, .f32⟩
  | .hbm, ⟨22, _⟩ => ⟨S8x2048x32, .f32⟩
  | .hbm, ⟨23, _⟩ => ⟨S8x2048x32, .f32⟩
  | .hbm, ⟨24, _⟩ => ⟨S254, .i32⟩
  | .hbm, ⟨25, _⟩ => ⟨S_, .i32⟩
  | .hbm, ⟨26, _⟩ => ⟨S254, .i32⟩
  | .hbm, ⟨27, _⟩ => ⟨S254, .i32⟩
  | .hbm, ⟨28, _⟩ => ⟨S254, .f32⟩
  | .hbm, ⟨29, _⟩ => ⟨S_, .f32⟩
  | .hbm, ⟨30, _⟩ => ⟨S254, .f32⟩
  | .hbm, ⟨31, _⟩ => ⟨S254, .f32⟩
  | .hbm, ⟨32, _⟩ => ⟨S8x2048x32x1, .f32⟩
  | .hbm, ⟨33, _⟩ => ⟨S1x1x1x254, .f32⟩
  | .hbm, ⟨34, _⟩ => ⟨S8x2048x32x254, .f32⟩
  | .hbm, ⟨35, _⟩ => ⟨S8x2048x32x254, .f32⟩
  | .hbm, ⟨36, _⟩ => ⟨S8x2048x32x254, .i1⟩
  | .hbm, ⟨37, _⟩ => ⟨S_, .f32⟩
  | .hbm, ⟨38, _⟩ => ⟨S_, .f32⟩
  | .hbm, ⟨39, _⟩ => ⟨S8x2048x32x254, .f32⟩
  | .hbm, ⟨40, _⟩ => ⟨S8x2048x32x254, .f32⟩
  | .hbm, ⟨41, _⟩ => ⟨S8x2048x32x254, .f32⟩
  | .hbm, ⟨42, _⟩ => ⟨S_, .f32⟩
  | .hbm, ⟨43, _⟩ => ⟨S8x2048x32, .f32⟩
  | .hbm, ⟨44, _⟩ => ⟨S_, .f32⟩
  | .hbm, ⟨45, _⟩ => ⟨S8x2048x32, .f32⟩
  | .hbm, ⟨46, _⟩ => ⟨S8x2048x32, .i1⟩
  | .hbm, ⟨47, _⟩ => ⟨S_, .f32⟩
  | .hbm, ⟨48, _⟩ => ⟨S_, .f32⟩
  | .hbm, ⟨49, _⟩ => ⟨S8x2048x32, .f32⟩
  | .hbm, ⟨50, _⟩ => ⟨S8x2048x32, .f32⟩
  | .hbm, ⟨51, _⟩ => ⟨S8x2048x32x1, .f32⟩
  | .hbm, ⟨52, _⟩ => ⟨S8x2048x32x128, .f32⟩
  | .hbm, ⟨53, _⟩ => ⟨S8x2048x32x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8x2048x32x128, .f32⟩
  | .hbm, ⟨58, _⟩ => ⟨S8x2048x32x128, .f32⟩
  | .hbm, ⟨59, _⟩ => ⟨S_, .f32⟩
  | .hbm, ⟨60, _⟩ => ⟨S8x2048x32x128, .f32⟩
  | .hbm, ⟨61, _⟩ => ⟨S8x2048x32x128, .f32⟩
  | .hbm, ⟨62, _⟩ => ⟨S8x2048x4096, .f32⟩
  | .hbm, ⟨63, _⟩ => ⟨S8x2048x4096, .fp8e4m3⟩
  | .hbm, ⟨64, _⟩ => ⟨S8x2048x4096, .bf16⟩
  | .hbm, ⟨65, _⟩ => ⟨S4096x11008, .bf16⟩
  | .hbm, ⟨66, _⟩ => ⟨S8x2048x32x128, .bf16⟩
  | .hbm, ⟨67, _⟩ => ⟨S8x2048x32, .bf16⟩
  | .hbm, ⟨68, _⟩ => ⟨S8x2048x32x1, .bf16⟩
  | .hbm, ⟨69, _⟩ => ⟨S8x2048x32x128, .bf16⟩
  | .hbm, ⟨70, _⟩ => ⟨S8x2048x32x128, .bf16⟩
  | .hbm, ⟨71, _⟩ => ⟨S8x2048x4096, .bf16⟩
  | .hbm, ⟨72, _⟩ => ⟨S32x128x86x128, .bf16⟩
  | .hbm, ⟨73, _⟩ => ⟨S32x86, .bf16⟩
  | .hbm, ⟨74, _⟩ => ⟨S32x1x86x1, .bf16⟩
  | .hbm, ⟨75, _⟩ => ⟨S32x128x86x128, .bf16⟩
  | .hbm, ⟨76, _⟩ => ⟨S32x128x86x128, .bf16⟩
  | .hbm, ⟨77, _⟩ => ⟨S4096x11008, .bf16⟩
  | .hbm, ⟨78, _⟩ => ⟨S8x2048x11008, .f32⟩
  | .hbm, ⟨79, _⟩ => ⟨S_, .i32⟩
  | .hbm, ⟨80, _⟩ => ⟨S124, .i32⟩
  | .hbm, ⟨81, _⟩ => ⟨S124, .i1⟩
  | .hbm, ⟨82, _⟩ => ⟨S_, .i32⟩
  | .hbm, ⟨83, _⟩ => ⟨S124, .i32⟩
  | .hbm, ⟨84, _⟩ => ⟨S124, .i32⟩
  | .hbm, ⟨85, _⟩ => ⟨S124, .i32⟩
  | .hbm, ⟨86, _⟩ => ⟨S124x1, .i32⟩
  | .hbm, ⟨87, _⟩ => ⟨S8x2048x124, .bf16⟩
  | .hbm, ⟨88, _⟩ => ⟨S8x2048x11008, .f32⟩
  | .hbm, ⟨89, _⟩ => ⟨S8x2048x11008, .f32⟩
  | .hbm, ⟨90, _⟩ => ⟨S8x2048x11008, .bf16⟩
  | .local _ .vmem, ⟨0, _⟩ => ⟨S8x2048x4096, .f32⟩
  | .local _ .vmem, ⟨1, _⟩ => ⟨S4096x11008, .fp8e4m3⟩
  | .local _ .vmem, ⟨2, _⟩ => ⟨S8x2048x4096, .fp8e4m3⟩
  | .local _ .vmem, ⟨3, _⟩ => ⟨S8x2048x4096, .bf16⟩
  | .local _ .vmem, ⟨4, _⟩ => ⟨S4096x11008, .bf16⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_cst_10 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v33 : Ref sig .tc := ⟨.hbm, 61, rfl⟩
abbrev main_v34 : Ref sig .tc := ⟨.hbm, 62, rfl⟩
abbrev main_v35_0 : Ref sig .tc := ⟨.hbm, 63, rfl⟩
abbrev main_v35_1 : Ref sig .tc := ⟨.hbm, 64, rfl⟩
abbrev main_v35_2 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_11 : Ref sig .tc := ⟨.hbm, 79, rfl⟩
abbrev main_v49 : Ref sig .tc := ⟨.hbm, 80, rfl⟩
abbrev main_v50 : Ref sig .tc := ⟨.hbm, 81, rfl⟩
abbrev main_c_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x11008 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x11008 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Pre.lean ====
/-
  What the two preconditions say, element by element.
-/
module

public import proofs.«01_k».proof.Pre_in_range
public import proofs.«01_k».proof.Proof.Gen.Pre_in_range

public import Idealize.ShloMosaic.Lib.StableHlo.Predicate
public import Idealize.ShloMosaic.Lib.ReduceAll
public import Idealize.ShloMosaic.PureOps.Ideal

@[expose] public section

noncomputable section

namespace Cert.Proof.Pre

open Idealize.ShloMosaic

abbrev S124 : Shape := ⟨1, ![124]⟩

/-- A word at least 0 and below 4096 signed is below 4096. -/
theorem lt_of_word (w : BitVec 32) (h0 : IntOp.cmpi .sge w 0#32 = 1#1) (h1 : IntOp.cmpi .slt w 4096#32 = 1#1) : w.toNat < 4096 := by
  have ofBool_eq_one (p : Bool) : (BitVec.ofBool p = 1#1) ↔ p = true := by cases p <;> decide
  simp only [IntOp.cmpi, ofBool_eq_one, BitVec.sle, BitVec.slt, decide_eq_true_eq, BitVec.toInt, BitVec.toNat_ofNat] at h0 h1
  omega

theorem andi_one {a b : BitVec 1} : IntOp.andi a b = 1#1 ↔ a = 1#1 ∧ b = 1#1 := by revert a b; decide
theorem ori_one {a b : BitVec 1} : IntOp.ori a b = 1#1 ↔ a = 1#1 ∨ b = 1#1 := by revert a b; decide

instance : Subsingleton (⟨0, ![]⟩ : Shape).Idx := ⟨fun a b => funext fun k => k.elim0⟩

/-- Every listed index is a row. -/
theorem in_range {F : FTy → Type} [FloatOps F] (x : FVec F ⟨3, ![8, 2048, 4096]⟩ .bf16) (I : S124.Idx → BitVec 32) (wo) (wc) (ws)
    (h : Cert.Pre_in_range.fn (F := F) x I wo wc ws = fun _ => 1#1) (o : S124.Idx) : (I o).toNat < 4096 := by
  have e := congrFun h (fun k => k.elim0)
  unfold Cert.Pre_in_range.fn at e
  have e1 := Host.reduce_andi_all _ _ _ _ _ e o
  obtain ⟨h0, h1⟩ := andi_one.mp e1
  exact lt_of_word _ h0 h1

end Cert.Proof.Pre

end
-- ==== Proof.Val.Scale.lean ====
/-
  The scale of a block as a function of its greatest magnitude, as the kernel and as the reference compute it, over the
  extended reals. The kernel counts the powers of two above the scaled maximum and puts an exponent word together; the
  reference takes the least power of two above it. For a maximum that is zero or neither tiny nor infinite the two agree.
-/
module

public import Idealize.ShloMosaic.Lib.Pointwise
public import Idealize.ShloMosaic.Lib.IndicatorCount
public import Idealize.ShloMosaic.PureOps.Ideal.Laws
public import Idealize.ShloMosaic.Lib.IdealHost

@[expose] public section

noncomputable section

namespace Cert.Val

open Idealize.ShloMosaic

/-- The constant both sides multiply the maximum by: 1 / 448 rounded to a float. -/
def c448 : EReal := Ideal.ofBits .f32 0x3B124925#32

/-- The float whose exponent field is `k`: the power of two `2 ^ (k - 127)` for `0 < k < 255`, zero at 0, infinity at 255. -/
def pw (k : ℕ) : EReal := Ideal.ofBits .f32 (IntOp.shli .vector (BitVec.ofNat 32 k) 23#32)

/-- How many of the 256 powers are above `t`, as a word. -/
def cntW (t : EReal) : BitVec 32 :=
  Finset.fold IntOp.addi (0#32) (fun x : Fin 256 => BitVec.setWidth 32 (BitVec.ofBool (decide (t < pw x.val)))) Finset.univ

/-- The kernel's exponent word of the count. -/
def expW (n : BitVec 32) : BitVec 32 :=
  Scalar.select (IntOp.cmpi CmpIPredicate.eq (IntOp.subi 255#32 n) 0#32) 0#32 (IntOp.subi (IntOp.subi 255#32 n) 126#32)

/-- The kernel's scale and the factor it multiplies by instead of dividing, from a block's greatest magnitude. -/
def kScale (a : EReal) : EReal := Ideal.ofBits .f32 (IntOp.shli .vector (IntOp.addi (expW (cntW (a * c448))) 127#32) 23#32)
@[inherit_doc kScale] def kInv (a : EReal) : EReal := Ideal.ofBits .f32 (IntOp.shli .vector (IntOp.subi 127#32 (expW (cntW (a * c448)))) 23#32)

/-- The reference's power of two of index `k`. -/
def rpw (k : ℕ) : EReal := Ideal.pow (Ideal.ofBits .f32 0x40000000#32) (((BitVec.toInt (IntOp.addi 4294967171#32 (BitVec.ofNat 32 k)) : ℝ) : EReal))

/-- The reference's scale. -/
def rScale (a : EReal) : EReal :=
  if a = 0 then Ideal.ofBits .f32 0x3F800000#32 else
    Finset.fold min (Ideal.ofBits .f32 0x7F800000#32) (fun k : Fin 254 => if a * c448 < rpw k.val then rpw k.val else Ideal.ofBits .f32 0x7F800000#32) Finset.univ

/-- What the precondition makes of a block's greatest magnitude. -/
def Good (a : EReal) : Prop := a = 0 ∨ ∃ r : ℝ, a = (r : EReal) ∧ (2 : ℝ) ^ (-117 : ℤ) ≤ r ∧ r ≤ (2 : ℝ) ^ (128 : ℤ)

theorem shl23 : ∀ k : Fin 256, IntOp.shli .vector (BitVec.ofNat 32 k.val) 23#32 = BitVec.ofNat 32 (k.val * 2 ^ 23) := by decide +kernel
theorem ex_of : ∀ k : Fin 256, ((BitVec.ofNat 32 (k.val * 2 ^ 23)).extractLsb' 23 8).toNat = k.val
    ∧ ((BitVec.ofNat 32 (k.val * 2 ^ 23)).extractLsb' 0 23).toNat = 0 ∧ ((BitVec.ofNat 32 (k.val * 2 ^ 23)).extractLsb' 31 1 == 1#1) = false := by decide +kernel

theorem pw_eq (k : ℕ) (h0 : 0 < k) (h1 : k < 255) : pw k = (((2 : ℝ) ^ ((k : ℤ) - 127) : ℝ) : EReal) := by
  have h := ex_of ⟨k, by omega⟩
  unfold pw
  rw [shl23 ⟨k, by omega⟩]
  show Ideal.ieee 8 23 _ = _
  unfold Ideal.ieee
  simp only [h.1, h.2.1]
  rw [show (8 + 23 : ℕ) = 31 from rfl, h.2.2]
  rw [if_neg (by omega), if_neg (by omega)]
  congr 1
  have : ((2 : ℝ) ^ ((k : ℤ) - 127)) = (2 : ℝ) ^ (23 : ℤ) * (2 : ℝ) ^ ((k : ℤ) - 127 - 23) := by
    rw [← zpow_add₀ (by norm_num)]; congr 1; ring
  rw [this]
  norm_num

theorem pw_zero : pw 0 = 0 := by
  unfold pw
  rw [show IntOp.shli .vector (BitVec.ofNat 32 0) 23#32 = 0x00000000#32 by decide +kernel]
  exact Ideal.ofBits_zero_f32
theorem inf_eq : Ideal.ofBits .f32 0x7F800000#32 = ⊤ := by simp [Ideal.ofBits, Ideal.ieee]
theorem pw_top : pw 255 = ⊤ := by
  unfold pw
  rw [show IntOp.shli .vector (BitVec.ofNat 32 255) 23#32 = 0x7F800000#32 by decide +kernel]
  exact inf_eq

/-- The binade a positive real of moderate size lies in, as an exponent field. -/
theorem binade (t : ℝ) (h0 : (2 : ℝ) ^ (-126 : ℤ) ≤ t) (h1 : t < (2 : ℝ) ^ (126 : ℤ)) :
    ∃ f : ℕ, 1 ≤ f ∧ f ≤ 252 ∧ (2 : ℝ) ^ ((f : ℤ) - 127) ≤ t ∧ t < (2 : ℝ) ^ ((f : ℤ) - 126) := by
  have ht : 0 < t := lt_of_lt_of_le (by positivity) h0
  obtain ⟨n, hn, hn'⟩ := exists_mem_Ico_zpow ht (by norm_num : (1 : ℝ) < 2)
  have a1 : (-127 : ℤ) < n := by
    have := (zpow_lt_zpow_iff_right₀ (by norm_num : (1 : ℝ) < 2)).1 (lt_of_le_of_lt h0 hn')
    omega
  have a2 : n < 126 := (zpow_lt_zpow_iff_right₀ (by norm_num : (1 : ℝ) < 2)).1 (lt_of_le_of_lt hn h1)
  refine ⟨(n + 127).toNat, by omega, by omega, ?_, ?_⟩
  · rw [show (((n + 127).toNat : ℕ) : ℤ) - 127 = n by omega]; exact hn
  · rw [show (((n + 127).toNat : ℕ) : ℤ) - 126 = n + 1 by omega]; exact hn'

/-- The powers above a real of the binade of field `f` are those of a greater field. -/
theorem lt_pw_iff (t : ℝ) (f : ℕ) (hf : 1 ≤ f) (hf' : f ≤ 252) (h0 : (2 : ℝ) ^ ((f : ℤ) - 127) ≤ t) (h1 : t < (2 : ℝ) ^ ((f : ℤ) - 126))
    (k : ℕ) (hk : k < 256) : (t : EReal) < pw k ↔ f < k := by
  have ht : 0 < t := lt_of_lt_of_le (by positivity) h0
  rcases Nat.eq_zero_or_pos k with rfl | hk0
  · rw [pw_zero]
    constructor
    · intro h; exact absurd h (not_lt.2 (by exact_mod_cast ht.le))
    · intro h; omega
  rcases (show k = 255 ∨ k < 255 by omega) with rfl | hk1
  · rw [pw_top]; exact ⟨fun _ => by omega, fun _ => EReal.coe_lt_top t⟩
  rw [pw_eq k hk0 hk1, EReal.coe_lt_coe_iff]
  constructor
  · intro h
    have := (zpow_lt_zpow_iff_right₀ (by norm_num : (1 : ℝ) < 2)).1 (lt_of_le_of_lt h0 h)
    omega
  · intro h
    refine lt_of_lt_of_le h1 (zpow_le_zpow_right₀ (by norm_num) (by omega))

theorem card_lt : ∀ f : Fin 256, (Finset.univ.filter fun k : Fin 256 => f.val < k.val).card = 255 - f.val := by decide +kernel

theorem cntW_eq (t : EReal) (f : Fin 256) (h : ∀ k : Fin 256, t < pw k.val ↔ f.val < k.val) : cntW t = BitVec.ofNat 32 (255 - f.val) := by
  unfold cntW
  refine (IndicatorCount.fold_addi_setWidth_eq_card (fun x : Fin 256 => BitVec.ofBool (decide (t < pw x.val))) Finset.univ).trans ?_
  rw [← card_lt f]
  congr 2
  ext k
  simp only [Finset.mem_filter, Finset.mem_univ, true_and]
  rw [← h k]
  by_cases hk : t < pw k.val <;> simp [hk]

theorem words : ∀ f : Fin 256, 1 ≤ f.val → f.val ≤ 252 → IntOp.addi (expW (BitVec.ofNat 32 (255 - f.val))) 127#32 = BitVec.ofNat 32 (f.val + 1)
    ∧ IntOp.subi 127#32 (expW (BitVec.ofNat 32 (255 - f.val))) = BitVec.ofNat 32 (253 - f.val) := by decide +kernel
theorem words0 : IntOp.addi (expW (BitVec.ofNat 32 255)) 127#32 = BitVec.ofNat 32 127
    ∧ IntOp.subi 127#32 (expW (BitVec.ofNat 32 255)) = BitVec.ofNat 32 127 := by decide +kernel

theorem rword : ∀ k : Fin 254, BitVec.toInt (IntOp.addi 4294967171#32 (BitVec.ofNat 32 k.val)) = (k.val : ℤ) - 125 := by decide +kernel

theorem rpw_eq (k : Fin 254) : rpw k.val = (((2 : ℝ) ^ ((k.val : ℤ) - 125) : ℝ) : EReal) := by
  unfold rpw
  rw [rword k]
  have h2 : Ideal.ofBits .f32 0x40000000#32 = ((2 : ℝ) : EReal) := by
    simp [Ideal.ofBits, Ideal.ieee, -EReal.coe_mul]; norm_num
  rw [h2]
  show ((Real.rpow 2 (((((k.val : ℤ) - 125 : ℤ) : ℝ))) : ℝ) : EReal) = _
  rw [Real.rpow_eq_pow, Real.rpow_intCast]

theorem c448_eq : ∃ c : ℝ, c448 = (c : EReal) ∧ (2 : ℝ) ^ (-9 : ℤ) ≤ c ∧ c ≤ (2 : ℝ) ^ (-8 : ℤ) := by
  refine ⟨9586981 * (2 : ℝ) ^ (-32 : ℤ), ?_, ?_, ?_⟩
  · simp [c448, Ideal.ofBits, Ideal.ieee, -EReal.coe_mul]
  · norm_num
  · norm_num

/-- The least power of two above a real of the binade of field `f`. -/
theorem fold_min (t : ℝ) (f : ℕ) (hf : 1 ≤ f) (hf' : f ≤ 252) (h0 : (2 : ℝ) ^ ((f : ℤ) - 127) ≤ t) (h1 : t < (2 : ℝ) ^ ((f : ℤ) - 126)) :
    Finset.fold min (Ideal.ofBits .f32 0x7F800000#32) (fun k : Fin 254 => if (t : EReal) < rpw k.val then rpw k.val else Ideal.ofBits .f32 0x7F800000#32) Finset.univ
      = (((2 : ℝ) ^ ((f : ℤ) - 126) : ℝ) : EReal) := by
  rw [inf_eq]
  refine le_antisymm ?_ ?_
  · refine Finset.fold_min_le _ |>.2 (Or.inr ⟨⟨f - 1, by omega⟩, Finset.mem_univ _, ?_⟩)
    have e : rpw (f - 1) = (((2 : ℝ) ^ ((f : ℤ) - 126) : ℝ) : EReal) := by
      rw [show f - 1 = ((⟨f - 1, by omega⟩ : Fin 254) : ℕ) from rfl, rpw_eq,
        show ((((⟨f - 1, by omega⟩ : Fin 254) : ℕ) : ℤ)) - 125 = (f : ℤ) - 126 from by show ((f - 1 : ℕ) : ℤ) - 125 = _; omega]
    show (if (t : EReal) < rpw (f - 1) then rpw (f - 1) else ⊤) ≤ _
    rw [e, if_pos (EReal.coe_lt_coe_iff.2 h1)]
  · refine Finset.le_fold_min _ |>.2 ⟨le_top, fun k _ => ?_⟩
    split
    · next h =>
      rw [rpw_eq] at h ⊢
      have hk := EReal.coe_lt_coe_iff.1 h
      have := (zpow_lt_zpow_iff_right₀ (by norm_num : (1 : ℝ) < 2)).1 (lt_of_le_of_lt h0 hk)
      exact EReal.coe_le_coe_iff.2 (zpow_le_zpow_right₀ (by norm_num) (by omega))
    · exact le_top

/-- The two scales are one positive real, and the kernel's factor is its inverse. -/
theorem scale_eq (a : EReal) (h : Good a) : ∃ s : ℝ, 0 < s ∧ rScale a = (s : EReal) ∧ kScale a = (s : EReal) ∧ kInv a = ((s⁻¹ : ℝ) : EReal) := by
  rcases h with rfl | ⟨r, rfl, hr0, hr1⟩
  · refine ⟨1, one_pos, ?_, ?_, ?_⟩
    · unfold rScale; rw [if_pos rfl]; exact Ideal.ofBits_one_f32
    all_goals
      have hc : cntW (0 * c448) = BitVec.ofNat 32 255 := by
        rw [zero_mul]
        refine cntW_eq 0 0 fun k => ?_
        rcases Nat.eq_zero_or_pos k.val with h | h
        · rw [h, pw_zero]; simp
        · refine ⟨fun _ => h, fun _ => ?_⟩
          rcases (show k.val = 255 ∨ k.val < 255 by have := k.isLt; omega) with h' | h'
          · rw [h', pw_top]; exact EReal.zero_lt_top
          · rw [pw_eq _ h h']; exact_mod_cast (by positivity : (0 : ℝ) < (2 : ℝ) ^ ((k.val : ℤ) - 127))
    · unfold kScale; rw [hc, words0.1]
      exact (pw_eq 127 (by norm_num) (by norm_num)).trans (by norm_num)
    · unfold kInv; rw [hc, words0.2]
      exact (pw_eq 127 (by norm_num) (by norm_num)).trans (by norm_num)
  · obtain ⟨c, hc, hc0, hc1⟩ := c448_eq
    have hr : 0 < r := lt_of_lt_of_le (by positivity) hr0
    have hcp : 0 < c := lt_of_lt_of_le (by positivity) hc0
    have ht : (r : EReal) * c448 = ((r * c : ℝ) : EReal) := by rw [hc, EReal.coe_mul]
    have b0 : (2 : ℝ) ^ (-126 : ℤ) ≤ r * c := by
      rw [show (-126 : ℤ) = -117 + -9 by norm_num, zpow_add₀ (by norm_num)]
      exact mul_le_mul hr0 hc0 (by positivity) hr.le
    have b1 : r * c < (2 : ℝ) ^ (126 : ℤ) := by
      refine lt_of_le_of_lt (mul_le_mul hr1 hc1 hcp.le (by positivity)) ?_
      rw [← zpow_add₀ (by norm_num)]
      exact zpow_lt_zpow_right₀ (by norm_num) (by norm_num)
    obtain ⟨f, f1, f2, g0, g1⟩ := binade (r * c) b0 b1
    have hcnt : cntW ((r * c : ℝ) : EReal) = BitVec.ofNat 32 (255 - f) :=
      cntW_eq _ ⟨f, by omega⟩ fun k => lt_pw_iff _ f f1 f2 g0 g1 k.val k.isLt
    refine ⟨(2 : ℝ) ^ ((f : ℤ) - 126), by positivity, ?_, ?_, ?_⟩
    · unfold rScale
      rw [if_neg (by exact_mod_cast hr.ne'), ht]
      exact fold_min _ f f1 f2 g0 g1
    · unfold kScale
      rw [ht, hcnt, (words ⟨f, by omega⟩ f1 f2).1]
      refine (pw_eq (f + 1) (by omega) (by omega)).trans ?_
      congr 2; push_cast; ring
    · unfold kInv
      rw [ht, hcnt, (words ⟨f, by omega⟩ f1 f2).2]
      refine (pw_eq (253 - f) (by omega) (by omega)).trans ?_
      rw [← zpow_neg]
      congr 2; push_cast [show f ≤ 253 by omega]; ring

end Cert.Val
-- ==== Proof.Val.Spec.lean ====
/-
  The quantiser's results as functions of a row of `x` and the outlier indices, over the extended reals, in the two
  spellings that the kernel and the reference have, and their agreement on rows the precondition admits.
-/
module

public import proofs.«01_k».proof.Proof.Val.Scale

@[expose] public section

noncomputable section

namespace Cert.Val

open Idealize.ShloMosaic Classical

variable (I : Fin 124 → BitVec 32) (x : Fin 4096 → EReal)

/-- Column `k` is an outlier column. -/
def IsOut (k : ℕ) : Prop := ∃ o, (I o).toNat = k

/-- A row with its outlier columns zeroed. -/
def kept (k : Fin 4096) : EReal := if IsOut I k.val then 0 else x k

/-- Column `l` of block `j`. -/
def colOf (j : Fin 32) (l : Fin 128) : Fin 4096 := ⟨128 * j.val + l.val, by omega⟩
/-- The block of a column. -/
def blkOf (k : Fin 4096) : Fin 32 := ⟨k.val / 128, by omega⟩
theorem blkOf_colOf (j : Fin 32) (l : Fin 128) : blkOf (colOf j l) = j := Fin.ext (by show (128 * j.val + l.val) / 128 = j.val; omega)

/-- The greatest magnitude left in a block. -/
def amax (j : Fin 32) : EReal :=
  Finset.fold max (Ideal.ofBits FTy.f32 0xFF800000#32) (fun l : Fin 128 => max (kept I x (colOf j l)) (-(kept I x (colOf j l)))) Finset.univ

/-- Clipping to the largest finite code. -/
def clip (v : EReal) : EReal := min (Ideal.ofBits FTy.f32 0x43E00000#32) (max (Ideal.ofBits FTy.f32 0xC3E00000#32) v)

/-- A code as the kernel computes it, and as the reference does. -/
def kCode (k : Fin 4096) : EReal := clip (kept I x k * kInv (amax I x (blkOf k)))
@[inherit_doc kCode] def rCode (k : Fin 4096) : EReal := clip (Ideal.div (kept I x k) (rScale (amax I x (blkOf k))))

/-- The mixed weights: row `k` is the outlier row of a position that names `k`, if there is one, and otherwise the weight
codes times their block's scale. -/
def wmOf (WO : Fin 124 → Fin 11008 → EReal) (WC : Fin 4096 → Fin 11008 → EReal) (WS : Fin 32 → Fin 86 → EReal) (k : Fin 4096) (n : Fin 11008) : EReal :=
  if h : IsOut I k.val then WO (Classical.choose h) n else WC k n * WS ⟨k.val / 128, by omega⟩ ⟨n.val / 128, by omega⟩

/-- What the precondition says of an element. -/
def GoodElt (v : EReal) : Prop := v = 0 ∨ ∃ r : ℝ, max v (-v) = (r : EReal) ∧ (2 : ℝ) ^ (-117 : ℤ) ≤ r ∧ r ≤ (2 : ℝ) ^ (128 : ℤ)

theorem good_abs (v : EReal) (h : GoodElt v) : Good (max v (-v)) := by
  rcases h with rfl | h
  · left; simp
  · right; exact h

theorem good_max (a b : EReal) (ha : Good a) (hb : Good b) : Good (max a b) := by
  rcases max_choice a b with h | h <;> rw [h] <;> assumption

theorem good_amax (hx : ∀ k, GoodElt (x k)) (j : Fin 32) : Good (amax I x j) := by
  have hk : ∀ k, GoodElt (kept I x k) := fun k => by
    unfold kept; split
    · exact Or.inl rfl
    · exact hx k
  have hb : Ideal.ofBits FTy.f32 0xFF800000#32 = ⊥ := by simp [Ideal.ofBits, Ideal.ieee]
  have key : ∀ S : Finset (Fin 128), S.Nonempty →
      Good (Finset.fold max ⊥ (fun l : Fin 128 => max (kept I x (colOf j l)) (-(kept I x (colOf j l)))) S) := by
    intro S hS
    induction hS using Finset.Nonempty.cons_induction with
    | singleton a => rw [Finset.fold_singleton, max_bot_right]; exact good_abs _ (hk _)
    | cons a s ha hs ih => rw [Finset.fold_cons]; exact good_max _ _ (good_abs _ (hk _)) ih
  unfold amax; rw [hb]; exact key _ Finset.univ_nonempty

theorem scale_agree (hx : ∀ k, GoodElt (x k)) (j : Fin 32) : kScale (amax I x j) = rScale (amax I x j) := by
  obtain ⟨s, _, h1, h2, _⟩ := scale_eq _ (good_amax I x hx j)
  rw [h1, h2]

theorem code_agree (hx : ∀ k, GoodElt (x k)) (k : Fin 4096) : kCode I x k = rCode I x k := by
  obtain ⟨s, hs, h1, _, h3⟩ := scale_eq _ (good_amax I x hx (blkOf k))
  unfold kCode rCode
  rw [h1, h3]
  unfold Ideal.div
  rw [if_neg (by exact_mod_cast hs.ne'), EReal.coe_inv]

end Cert.Val
-- ==== Proof.PreWf.lean ====
/-
  What the precondition of the equation of values says, element by element.
-/
module

public import proofs.«01_k».proof.Pre_well_formed
public import proofs.«01_k».proof.Proof.Gen.Pre_well_formed
public import proofs.«01_k».proof.Proof.Pre
public import proofs.«01_k».proof.Proof.Val.Spec
public import Idealize.ShloMosaic.Lib.Pointwise
public import Idealize.ShloMosaic.Lib.Routing.OpsSet

@[expose] public section

set_option maxRecDepth 16384

noncomputable section

namespace Cert.Proof.Pre

open Idealize.ShloMosaic Cert.Val

variable {x : (⟨3, ![8, 2048, 4096]⟩ : Shape).Idx → Ideal .bf16} {I : S124.Idx → BitVec 32} {wo : FVec Ideal ⟨2, ![124, 11008]⟩ .bf16}
  {wc : FVec Ideal ⟨2, ![4096, 11008]⟩ .fp8e4m3} {ws : FVec Ideal ⟨2, ![32, 86]⟩ .f32}

theorem of_decide {p : Prop} [Decidable p] (h : BitVec.ofBool (decide p) = 1#1) : p := by
  by_contra c
  rw [decide_eq_false c] at h
  exact absurd h (by decide)

theorem w0 : (Ideal.ofBits FTy.bf16 0x0000#16 : EReal) = 0 := by simp [Ideal.ofBits, Ideal.ieee]
theorem w1 : (Ideal.ofBits FTy.bf16 0x0500#16 : EReal) = (((2 : ℝ) ^ (-117 : ℤ) : ℝ) : EReal) := by
  simp [Ideal.ofBits, Ideal.ieee]
  rw [← EReal.coe_mul]
  norm_num
theorem w2 : (Ideal.ofBits FTy.bf16 0x7F7F#16 : EReal) = ((255 * (2 : ℝ) ^ (120 : ℤ) : ℝ) : EReal) := by
  simp [Ideal.ofBits, Ideal.ieee]

theorem abs_zero {v : EReal} (h : max v (-v) = 0) : v = 0 := by
  have h1 : v ≤ 0 := h ▸ le_max_left _ _
  have h2 : -v ≤ 0 := h ▸ le_max_right _ _
  exact le_antisymm h1 (EReal.neg_le_neg_iff.mp (by rwa [neg_zero]))

theorem abs_real {v : EReal} (h0 : (((2 : ℝ) ^ (-117 : ℤ) : ℝ) : EReal) ≤ max v (-v)) (h1 : max v (-v) ≤ ((255 * (2 : ℝ) ^ (120 : ℤ) : ℝ) : EReal)) :
    ∃ r : ℝ, max v (-v) = (r : EReal) ∧ (2 : ℝ) ^ (-117 : ℤ) ≤ r ∧ r ≤ (2 : ℝ) ^ (128 : ℤ) := by
  generalize max v (-v) = w at h0 h1
  induction w using EReal.rec with
  | bot => exact absurd h0 (by simp)
  | top => exact absurd h1 (not_le.mpr (EReal.coe_lt_top _))
  | coe r =>
    rw [EReal.coe_le_coe_iff] at h0 h1
    exact ⟨r, rfl, h0, h1.trans (by norm_num)⟩

/-- The three parts of the precondition. -/
theorem wf_parts (h : Cert.Pre_well_formed.fn (F := Ideal) x I wo wc ws = fun _ => 1#1) :
    (∀ o : S124.Idx, (I o).toNat < 4096)
      ∧ (∀ i : (⟨2, ![124, 124]⟩ : Shape).Idx, IntOp.ori (IntOp.cmpi .eq (BitVec.ofNat 32 (i 0).val) (BitVec.ofNat 32 (i 1).val)) (~~~(IntOp.cmpi .eq (I (ix1 (i 0))) (I (ix1 (i 1))))) = 1#1)
      ∧ (∀ i, GoodElt (x i)) := by
  have e := congrFun h (fun k => k.elim0)
  unfold Cert.Pre_well_formed.fn Cert.Pre_well_formed.fn_part1 at e
  obtain ⟨e1, e2⟩ := andi_one.mp e
  obtain ⟨e3, e4⟩ := andi_one.mp e1
  refine ⟨fun o => ?_, fun i => ?_, fun i => ?_⟩
  · have a := Host.reduce_andi_all _ _ _ _ _ e3 o
    obtain ⟨h0, h1⟩ := andi_one.mp a
    exact lt_of_word _ h0 h1
  · have a := Host.reduce_andi_all _ _ _ _ _ e4 i
    obtain ⟨p, q, rfl⟩ : ∃ p q, i = ix2 p q := ⟨i 0, i 1, eq_ix2 i⟩
    refine Eq.trans ?_ a
    pointwise
  · have a := Host.reduce_andi_all _ _ _ _ _ e2 i
    rcases ori_one.mp a with b | b
    · left
      have c : max (x i) (-(x i)) = (Ideal.ofBits FTy.bf16 0x0000#16 : EReal) := of_decide b
      rw [w0] at c
      exact abs_zero c
    · obtain ⟨b0, b1⟩ := andi_one.mp b
      right
      have c0 : (Ideal.ofBits FTy.bf16 0x0500#16 : EReal) ≤ max (x i) (-(x i)) := of_decide b0
      have c1 : max (x i) (-(x i)) ≤ (Ideal.ofBits FTy.bf16 0x7F7F#16 : EReal) := of_decide b1
      rw [w1] at c0
      rw [w2] at c1
      exact abs_real c0 c1

/-- The indices are distinct. -/
theorem wf_distinct (h : Cert.Pre_well_formed.fn (F := Ideal) x I wo wc ws = fun _ => 1#1) (o o' : Fin 124)
    (e : (I (ix1 o)).toNat = (I (ix1 o')).toNat) : o = o' := by
  have a := (wf_parts h).2.1 (ix2 o o')
  have e' : I (ix1 o) = I (ix1 o') := BitVec.eq_of_toNat_eq e
  rcases ori_one.mp a with b | b
  · have c : BitVec.ofNat 32 o.val = BitVec.ofNat 32 o'.val := by
      have f : ∀ u v : BitVec 32, BitVec.ofBool (u == v) = 1#1 → u = v := fun u v e => by
        by_contra c
        rw [beq_false_of_ne c] at e
        exact absurd e (by decide)
      exact f _ _ b
    have d := congrArg BitVec.toNat c
    simp only [BitVec.toNat_ofNat] at d
    omega
  · exfalso
    have c : ~~~(IntOp.cmpi .eq (I (ix1 o)) (I (ix1 o'))) = 1#1 := b
    rw [e'] at c
    simp [IntOp.cmpi] at c

end Cert.Proof.Pre

end
-- ==== Proof.K.Base.lean ====
/-
  What the proofs about the three kernel bodies share: a memref's buffer held at given contents.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of a memref's buffer. -/
abbrev Bf (F : FTy → Type) {sp : Space} {S : Shape} {e : EltTy} (M : Memref sig .tc sp S e) : Type := BufTy.Contents (Elt F) M.view.ty

/-- A memref's buffer held at contents `f`. -/
abbrev pt (c : Dev nD) {sp : Space} {S : Shape} {e : EltTy} (M : Memref sig .tc sp S e) (f : Bf F M) : sProp 𝕄 :=
  M.view.loc (c : Thread nD τ) ↦[M.view.set]{fullShare} f

end Cert.Kernel.Hand

end
-- ==== Proof.K.QuantLoop.lean ====
/-
  The first kernel's loop over the outlier indices: trip `k` reads index `k` and writes a one into the mask at that
  column. The rows written by the trips so far are listed as pieces, newest first.
-/
module

public import proofs.«01_k».proof.Proof.K.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The index word that trip `k` reads. -/
abbrev word0 (i : grid0.Coords) (h1 : k0_cond1 i = 1#1) (arg1 : Memref sig .tc .smem S124 .i32) (X1 : Bf F arg1) (k : Fin k0_t1_loop.trips) : BitVec 32 :=
  arg1.view.readAt (Elt F) (Rect.unit (s := S124) (k0_off1 k) S1.size (k0_off1_inb i k h1)).toLoadRect X1 (Shape.Idx.first (numel1_S1.symm ▸ Nat.one_pos))

/-- Every index word names a row of the mask. -/
abbrev Words0 (i : grid0.Coords) (h1 : k0_cond1 i = 1#1) (arg1 : Memref sig .tc .smem S124 .i32) (X1 : Bf F arg1) : Prop :=
  ∀ k, k0_chk1 i (word0 i h1 arg1 X1 k)

/-- The mask row that a trip loads and stores. -/
abbrev maskRow (i : grid0.Coords) (h1 : k0_cond1 i = 1#1) (w : BitVec 32) (hw : k0_chk1 i w) : Rect S32x128 :=
  Rect.unit (s := S32x128) (k0_off2 w) S1x128.size (k0_off2_inb i w hw h1)

/-- The rows written by the trips before `k`, newest first, over mask contents `G`. -/
def rows0 (i : grid0.Coords) (h1 : k0_cond1 i = 1#1) (arg1 : Memref sig .tc .smem S124 .i32) (arg6 : Memref sig .tc .vmem S32x128 .f32)
    (X1 : Bf F arg1) (hX : Words0 i h1 arg1 X1) (G : Bf F arg6) : ℕ → List (View.Piece (Elt F) S32x128 .f32)
  | 0 => []
  | k + 1 =>
    if h : k < k0_t1_loop.trips then
      ⟨maskRow i h1 (word0 i h1 arg1 X1 ⟨k, h⟩) (hX ⟨k, h⟩),
        k0_pay3 (word0 i h1 arg1 X1 ⟨k, h⟩)
          (arg6.view.readAt (Elt F) (maskRow i h1 (word0 i h1 arg1 X1 ⟨k, h⟩) (hX ⟨k, h⟩)).toLoadRect
            (arg6.view.writes (Elt F) G (rows0 i h1 arg1 arg6 X1 hX G k)))⟩ :: rows0 i h1 arg1 arg6 X1 hX G k
    else rows0 i h1 arg1 arg6 X1 hX G k

theorem rows0_succ (i : grid0.Coords) (h1 : k0_cond1 i = 1#1) (arg1 : Memref sig .tc .smem S124 .i32) (arg6 : Memref sig .tc .vmem S32x128 .f32)
    (X1 : Bf F arg1) (hX : Words0 i h1 arg1 X1) (G : Bf F arg6) (k : Fin k0_t1_loop.trips) :
    rows0 i h1 arg1 arg6 X1 hX G (k.val + 1) =
      ⟨maskRow i h1 (word0 i h1 arg1 X1 k) (hX k),
        k0_pay3 (word0 i h1 arg1 X1 k)
          (arg6.view.readAt (Elt F) (maskRow i h1 (word0 i h1 arg1 X1 k) (hX k)).toLoadRect
            (arg6.view.writes (Elt F) G (rows0 i h1 arg1 arg6 X1 hX G k.val)))⟩ :: rows0 i h1 arg1 arg6 X1 hX G k.val := by
  rw [rows0.eq_2]; exact dif_pos k.isLt

set_option warn.classDefReducibility false in
/-- The loop by its invariant: before trip `k` the mask holds the rows written so far. -/
@[sl_loop] def loopInv_k0_t1 (c : Dev nD) (i : grid0.Coords) (arg1 : Memref sig .tc .smem S124 .i32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S256x4096 .fp8e4m3) (harg4 : arg4.IsWhole) (arg5 : Memref sig .tc .vmem S256x32 .f32) (harg5 : arg5.IsWhole) (arg6 : Memref sig .tc .vmem S32x128 .f32) (harg6 : arg6.IsWhole) (k0_h1 : k0_cond1 i = 1#1)
    (X1 : Bf F arg1) (hX : Words0 i k0_h1 arg1 X1) (G : Bf F arg6) :
    LoopInvTy_k0_t1 (F := F) Unit ℕ (UR sig nD τ) ℕ Variants.none c none Set.univ i arg1 harg1 arg2 harg2 arg3 harg3 arg4 harg4 arg5 harg5 arg6 harg6 k0_h1 where
  inv := fun k _ => iprop(pt c arg1 X1 ∗ ∃ f, pt c arg6 f ∗ ⌜f = arg6.view.writes (Elt F) G (rows0 i k0_h1 arg1 arg6 X1 hX G k)⌝)
  step := fun k acc => by
    have hk := hX k
    unfold k0_t1_body
    iintro ⟨H1, ⟨%f, H6, %hf⟩⟩
    subst hf
    sl_exec
    sl_step
    isplitl [H1]; · iexact H1
    rw [rows0_succ]
    iexists _; isplitl [H6]; · iexact H6
    ipureintro; rfl

end Cert.Kernel.Hand

end
-- ==== Proof.K.QuantBody.lean ====
/-
  The body of the first kernel, run once for the points past the first (the mask is already there) and once for the first
  point (the mask is cleared and built, then used in the same way).
-/
module

public import proofs.«01_k».proof.Proof.K.QuantLoop
public import Idealize.ShloMosaic.Lib.Pipeline.FrameBody
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The lists of pieces that the first kernel leaves in its three results. -/
abbrev Pieces3 (F : FTy → Type) : Type :=
  List (View.Piece (Elt F) S256x4096 .bf16) × List (View.Piece (Elt F) S256x4096 .fp8e4m3) × List (View.Piece (Elt F) S256x32 .f32)

/-- A later point: the mask is only read. -/
def quantRun (c : Dev nD) (i : grid0.Coords) (hi : ¬ k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X2 : Bf F arg2) (X6 : Bf F arg6) :
    { L : Pieces3 F //
      ∀ (f3 : Bf F arg3) (f4 : Bf F arg4) (f5 : Bf F arg5),
      iprop(pt c arg2 X2 ∗ pt c arg6 X6 ∗ pt c arg3 f3 ∗ pt c arg4 f4 ∗ pt c arg5 f5)
        ⊢ wp frame (wpE (defs₀ (F := F)) Variants.none (c : Thread nD τ) none) Set.univ (cc0_quant i arg1 h1 arg2 h2 arg3 h3 arg4 h4 arg5 h5 arg6 h6)
          (fun _ => iprop(pt c arg2 X2 ∗ pt c arg6 X6 ∗ pt c arg3 (arg3.view.writes (Elt F) f3 L.1) ∗ pt c arg4 (arg4.view.writes (Elt F) f4 L.2.1)
            ∗ pt c arg5 (arg5.view.writes (Elt F) f5 L.2.2))) } := by
  refine ⟨⟨?_, ?_, ?_⟩, fun f3 f4 f5 => ?run⟩
  case run =>
    iintro ⟨H2, H6, H3, H4, H5⟩
    sl_exec
    sl_step
    sl_close

/-- The clearing store. -/
abbrev clearing : List (View.Piece (Elt F) S32x128 .f32) :=
  [⟨Rect.unit (s := S32x128) ![0, 0] S32x128.size inb_S32x128_S32x128_0_0, k0_pay2 (F := F)⟩]

/-- The mask after it is cleared and the loop has run. -/
abbrev built (i : grid0.Coords) (hi : k0_cond1 i = 1#1) (arg1 : Memref sig .tc .smem S124 .i32) (arg6 : Memref sig .tc .vmem S32x128 .f32)
    (X1 : Bf F arg1) (hX : Words0 i hi arg1 X1) : Bf F arg6 :=
  arg6.view.writes (Elt F) arg6.view.junk
    (rows0 i hi arg1 arg6 X1 hX (arg6.view.writes (Elt F) arg6.view.junk clearing) (Scf.trips k0_t1_loop.lb k0_t1_loop.ub k0_t1_loop.st) ++ clearing)

/-- The first point: the mask is cleared and built from the indices. -/
def quantRunFirst (c : Dev nD) (i : grid0.Coords) (hi : k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X1 : Bf F arg1) (hX : Words0 i hi arg1 X1) (X2 : Bf F arg2) :
    { L : Pieces3 F //
      ∀ (f6 : Bf F arg6) (f3 : Bf F arg3) (f4 : Bf F arg4) (f5 : Bf F arg5),
      iprop(pt c arg1 X1 ∗ pt c arg2 X2 ∗ pt c arg6 f6 ∗ pt c arg3 f3 ∗ pt c arg4 f4 ∗ pt c arg5 f5)
        ⊢ wp frame (wpE (defs₀ (F := F)) Variants.none (c : Thread nD τ) none) Set.univ (cc0_quant i arg1 h1 arg2 h2 arg3 h3 arg4 h4 arg5 h5 arg6 h6)
          (fun _ => iprop(pt c arg1 X1 ∗ pt c arg2 X2 ∗ pt c arg6 (built i hi arg1 arg6 X1 hX)
            ∗ pt c arg3 (arg3.view.writes (Elt F) f3 L.1) ∗ pt c arg4 (arg4.view.writes (Elt F) f4 L.2.1)
            ∗ pt c arg5 (arg5.view.writes (Elt F) f5 L.2.2))) } := by
  refine ⟨⟨?_, ?_, ?_⟩, fun f6 f3 f4 f5 => ?run⟩
  case run =>
    iintro ⟨H1, H2, H6, H3, H4, H5⟩
    sl_exec
    sl_step
    sl_close

/-! ## One block of 128 columns -/

/-- The scale of each row of a block: the mask row and the block of `x` it is computed from. -/
def blkScale (m : Vec F S1x128 .f32) (x : Vec F S256x128 .bf16) : FVec F S256x1 .f32 := k0_pay10 (k0_pay9 m x) 23#32
/-- The codes of a block. -/
def blkCodes (m : Vec F S1x128 .f32) (x : Vec F S256x128 .bf16) : FVec F S256x128 .fp8e4m3 := k0_pay11 (k0_pay7 m x) (k0_pay8 m x)
/-- The matrix operand of a block: the outlier columns as they are, the others quantised and scaled back. -/
def blkXm (m : Vec F S1x128 .f32) (x : Vec F S256x128 .bf16) : FVec F S256x128 .bf16 :=
  k0_pay12 (k0_pay5 m) (k0_pay6 x) (k0_pay7 m x) (k0_pay8 m x) (k0_pay9 m x) 23#32

/-- Block `j`'s mask row and columns. -/
theorem mrow_inb (j : Fin 32) : ∀ a, (![j.val, 0] : Fin 2 → ℕ) a + S1x128.size a ≤ S32x128.size a := by
  intro a; fin_cases a
  · show j.val + 1 ≤ 32; omega
  · show 0 + 128 ≤ 128; omega
theorem xcol_inb (j : Fin 32) : ∀ a, (![0, 128 * j.val] : Fin 2 → ℕ) a + S256x128.size a ≤ S256x4096.size a := by
  intro a; fin_cases a
  · show 0 + 256 ≤ 256; omega
  · show 128 * j.val + 128 ≤ 4096; omega
def mrow (M : S32x128.Idx → F .f32) (j : Fin 32) : Vec F S1x128 .f32 := View.ld (Val := Elt F) (e' := .f32) M (Rect.unit (s := S32x128) ![j.val, 0] S1x128.size (mrow_inb j))
def xcol (X : S256x4096.Idx → F .bf16) (j : Fin 32) : Vec F S256x128 .bf16 := View.ld (Val := Elt F) (e' := .bf16) X (Rect.unit (s := S256x4096) ![0, 128 * j.val] S256x128.size (xcol_inb j))

/-- The blocks, last first. -/
def blocks : List (Fin 32) := [31, 30, 29, 28, 27, 26, 25, 24, 23, 22, 21, 20, 19, 18, 17, 16, 15, 14, 13, 12, 11, 10, 9, 8, 7, 6, 5, 4, 3, 2, 1, 0]

theorem mem_blocks (j : Fin 32) : j ∈ blocks := by revert j; decide

/-- One step of the scales: column `j` takes the block's scale, the others stay. -/
def selCol (j : Fin 32) (acc : FVec F S256x32 .f32) (s : FVec F S256x1 .f32) : FVec F S256x32 .f32 :=
  select (cmpi .eq (iota .tc S256x32 32 [1] iota_S256x32_d1_w32) (broadcast S256x32 (BitVec.ofNat 32 j.val)))
    (broadcastTo S256x32 (shapeCast S256x1 s shapeCasts_S256x1_S256x1) broadcasts_S256x1_S256x32) acc

/-- The columns of the scales after the blocks of a list, newest first. -/
def scalesUpto (M : S32x128.Idx → F .f32) (X : S256x4096.Idx → F .bf16) : List (Fin 32) → FVec F S256x32 .f32
  | [] => k0_pay4
  | j :: l => selCol j (scalesUpto M X l) (blkScale (mrow M j) (xcol X j))

/-- The pieces of the three results, from the mask and the block of `x`. -/
def pieces3 (M : S32x128.Idx → F .f32) (X : S256x4096.Idx → F .bf16) : Pieces3 F :=
  (blocks.map fun j => ⟨Rect.unit (s := S256x4096) ![0, 128 * j.val] S256x128.size (xcol_inb j), blkXm (mrow M j) (xcol X j)⟩,
   blocks.map fun j => ⟨Rect.unit (s := S256x4096) ![0, 128 * j.val] S256x128.size (xcol_inb j), blkCodes (mrow M j) (xcol X j)⟩,
   [⟨Rect.unit (s := S256x32) ![0, 0] S256x32.size inb_S256x32_S256x32_0_0, scalesUpto M X blocks⟩])

set_option maxRecDepth 20000 in
theorem quantRun_pieces (c : Dev nD) (i : grid0.Coords) (hi : ¬ k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X2 : Bf F arg2) (X6 : Bf F arg6) :
    (quantRun c i hi arg1 h1 arg2 h2 arg3 h3 arg4 h4 arg5 h5 arg6 h6 X2 X6).1 = pieces3 (arg6.view.read (Elt F) X6) (arg2.view.read (Elt F) X2) := by
  rfl

set_option maxRecDepth 20000 in
theorem quantRunFirst_pieces (c : Dev nD) (i : grid0.Coords) (hi : k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X1 : Bf F arg1) (hX : Words0 i hi arg1 X1) (X2 : Bf F arg2) :
    (quantRunFirst c i hi arg1 h1 arg2 h2 arg3 h3 arg4 h4 arg5 h5 arg6 h6 X1 hX X2).1
      = pieces3 (arg6.view.read (Elt F) (built i hi arg1 arg6 X1 hX)) (arg2.view.read (Elt F) X2) := by
  rfl

end Cert.Kernel.Hand

end
-- ==== Proof.K.QuantWords.lean ====
/-
  An outlier index's row and lane in the mask, as the first kernel's loop computes them.
-/
module

public import Idealize.ShloMosaic.Lib.WordCmp
public import proofs.«01_k».proof.Proof.K.QuantBody
public import Idealize.ShloMosaic.Lib.PointwiseCore
public import Idealize.ShloMosaic.Lib.WritesUnit
public import Idealize.ShloMosaic.Lib.Routing.Words

@[expose] public section

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]

theorem trips0 : k0_t1_loop.trips = 124 := by decide

set_option maxRecDepth 100000 in
/-- The mask row of an index below 4096. -/
theorem off2_eq : ∀ n : Fin 4096, k0_off2 (BitVec.ofNat 32 n.val) = ![n.val / 128, 0] := by decide +kernel

/-- The lane of an index word, as the kernel computes it. -/
def lane0 (w : BitVec 32) : BitVec 32 :=
  let m : BitVec 32 := Scalar.select (Scalar.cmpi .eq 128#32 0#32) 1#32 128#32
  let r : BitVec 32 := Scalar.remsi w m
  Scalar.select (Scalar.andi (Scalar.xori (Scalar.cmpi .slt r 0#32) (Scalar.cmpi .slt m 0#32)) (Scalar.cmpi .ne r 0#32)) (Scalar.addi r m) r

set_option maxRecDepth 100000 in
theorem lane0_eq : ∀ n : Fin 4096, lane0 (BitVec.ofNat 32 n.val) = BitVec.ofNat 32 (n.val % 128) := by decide +kernel

/-- The row that a trip stores: a one at the index's lane, the other lanes as they were. -/
theorem pay3_apply (w : BitVec 32) (hw : w.toNat < 4096) (row : Vec F S1x128 .f32) (l : Fin 128) :
    k0_pay3 w row (ix2 0 l) = if l.val = w.toNat % 128 then Scalar.ofBits .f32 0x3F800000#32 else row (ix2 0 l) := by
  have hl : lane0 w = BitVec.ofNat 32 (w.toNat % 128) := by
    have := lane0_eq ⟨w.toNat, hw⟩
    rwa [show BitVec.ofNat 32 (⟨w.toNat, hw⟩ : Fin 4096).val = w from BitVec.eq_of_toNat_eq (by simp)] at this
  have h0 : k0_pay3 w row = shapeCast S1x128 (select (cmpi .eq (iota .tc S1x128 32 [1] iota_S1x128_d1_w32) (broadcast S1x128 (lane0 w)))
    (broadcast S1x128 (Scalar.ofBits .f32 0x3F800000#32)) row) shapeCasts_S1x128_S1x128 := rfl
  rw [h0, hl]
  pointwise
  have hc : IntOp.cmpi .eq (BitVec.ofNat 32 l.val) (BitVec.ofNat 32 (w.toNat % 128)) = if l.val = w.toNat % 128 then 1#1 else 0#1 := by
    rw [Idealize.ShloMosaic.WordCmp.cmpi_eq_eq_toNat, BitVec.toNat_ofNat, BitVec.toNat_ofNat,
        Nat.mod_eq_of_lt (by omega : l.val < 2 ^ 32), Nat.mod_eq_of_lt (by omega : w.toNat % 128 < 2 ^ 32)]
    by_cases h : l.val = w.toNat % 128
    · rw [if_pos h, decide_eq_true h]; rfl
    · rw [if_neg h, decide_eq_false h]; rfl
  rw [hc]
  by_cases h : l.val = w.toNat % 128
  · rw [if_pos h, if_pos h]; exact if_pos (by decide)
  · rw [if_neg h, if_neg h]; exact if_neg (by decide)

end Cert.Kernel.Hand

end
-- ==== Proof.K.QuantMask.lean ====
/-
  What the loop leaves in the mask: a one exactly at the outlier columns (column `128 r + l` at row `r`, lane `l`).
-/
module

public import proofs.«01_k».proof.Proof.K.QuantWords
public import Idealize.ShloMosaic.Lib.PointwiseCore
public import Idealize.ShloMosaic.Lib.WritesUnit
public import Idealize.ShloMosaic.Lib.Routing.Words

@[expose] public section

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]

/-- Position `o` of the index list. -/
abbrev at1 (o : Fin 124) : S124.Idx := Idealize.ShloMosaic.ix1 o

/-- Every index names a column. -/
abbrev InRange (I : S124.Idx → BitVec 32) : Prop := ∀ o : Fin 124, (I (at1 o)).toNat < 4096

/-- The mask of a list of indices. -/
def maskOf (F : FTy → Type) [FloatOps F] (I : S124.Idx → BitVec 32) (k : ℕ) : S32x128.Idx → F .f32 := fun y =>
  if ∃ o : Fin 124, o.val < k ∧ (I (at1 o)).toNat = 128 * (y 0).val + (y 1).val then Scalar.ofBits .f32 0x3F800000#32 else Scalar.ofBits .f32 0x00000000#32

theorem word0_eq (i : grid0.Coords) (h1 : k0_cond1 i = 1#1) (arg1 : Memref sig .tc .smem S124 .i32) (X1 : Bf F arg1) (k : Fin k0_t1_loop.trips) :
    word0 i h1 arg1 X1 k = arg1.view.read (Elt F) X1 (at1 ⟨k.val, trips0 ▸ k.isLt⟩) := by
  show arg1.view.read (Elt F) X1 _ = _
  congr 1
  funext a
  apply Fin.ext
  have hc : k0_off1 k = ![k.val] := k0_off1_eq k
  match a with
  | ⟨0, _⟩ =>
    show k0_off1 k 0 + 1 * 0 = k.val
    rw [hc]; rfl

theorem off2_of_lt (w : BitVec 32) (hw : w.toNat < 4096) : k0_off2 w = ![w.toNat / 128, 0] := by
  have := off2_eq ⟨w.toNat, hw⟩
  rwa [show BitVec.ofNat 32 (⟨w.toNat, hw⟩ : Fin 4096).val = w from BitVec.eq_of_toNat_eq (by simp)] at this

theorem words0_of_inRange (i : grid0.Coords) (h1 : k0_cond1 i = 1#1) (arg1 : Memref sig .tc .smem S124 .i32) (X1 : Bf F arg1)
    (hI : InRange (arg1.view.read (Elt F) X1)) : Words0 i h1 arg1 X1 := fun k => by
  intro _ a
  have hw := hI ⟨k.val, trips0 ▸ k.isLt⟩
  rw [word0_eq, off2_of_lt _ hw]
  fin_cases a
  · show _ / 128 + 1 ≤ 32; omega
  · show 0 + 128 ≤ 128; omega

/-- After `k` trips the mask holds a one at the columns that the first `k` indices name. -/
theorem read_rows0 (i : grid0.Coords) (h1 : k0_cond1 i = 1#1) (arg1 : Memref sig .tc .smem S124 .i32) (arg6 : Memref sig .tc .vmem S32x128 .f32)
    (X1 : Bf F arg1) (hX : Words0 i h1 arg1 X1) (hI : InRange (arg1.view.read (Elt F) X1)) :
    ∀ k, k ≤ k0_t1_loop.trips → arg6.view.read (Elt F) (arg6.view.writes (Elt F) (arg6.view.writes (Elt F) arg6.view.junk clearing)
        (rows0 i h1 arg1 arg6 X1 hX (arg6.view.writes (Elt F) arg6.view.junk clearing) k)) = maskOf F (arg1.view.read (Elt F) X1) k
  | 0, _ => by
    funext y
    rw [show rows0 i h1 arg1 arg6 X1 hX (arg6.view.writes (Elt F) arg6.view.junk clearing) 0 = [] from rfl, View.writes_nil,
      View.read_writes_junk_apply_eq_canon]
    unfold maskOf
    rw [if_neg (by rintro ⟨o, h, -⟩; omega), View.canon_unit_zero (by funext a; fin_cases a <;> rfl)]
    idx_vars y
    pointwise [k0_pay2]
  | k + 1, hk => by
    have ih := read_rows0 i h1 arg1 arg6 X1 hX hI k (Nat.le_of_succ_le hk)
    have hk' : k < 124 := trips0 ▸ hk
    funext y
    rw [rows0_succ i h1 arg1 arg6 X1 hX _ ⟨k, hk⟩]
    have hw : (word0 i h1 arg1 X1 ⟨k, hk⟩).toNat < 4096 := by rw [word0_eq]; exact hI _
    have hwo : (word0 i h1 arg1 X1 ⟨k, hk⟩) = arg1.view.read (Elt F) X1 (at1 ⟨k, hk'⟩) := word0_eq i h1 arg1 X1 ⟨k, hk⟩
    obtain ⟨r, l, rfl⟩ := show ∃ r l, y = ix2 r l from ⟨y 0, y 1, eq_ix2 y⟩
    have hm : maskOf F (arg1.view.read (Elt F) X1) (k + 1) (ix2 r l)
        = if (arg1.view.read (Elt F) X1 (at1 ⟨k, hk'⟩)).toNat = 128 * r.val + l.val then Scalar.ofBits .f32 0x3F800000#32
          else maskOf F (arg1.view.read (Elt F) X1) k (ix2 r l) := by
      unfold maskOf
      show (if ∃ o : Fin 124, o.val < k + 1 ∧ (arg1.view.read (Elt F) X1 (at1 o)).toNat = 128 * r.val + l.val then _ else _)
        = if _ then _ else if ∃ o : Fin 124, o.val < k ∧ (arg1.view.read (Elt F) X1 (at1 o)).toNat = 128 * r.val + l.val then _ else _
      by_cases h : (arg1.view.read (Elt F) X1 (at1 ⟨k, hk'⟩)).toNat = 128 * r.val + l.val
      · rw [if_pos h, if_pos ⟨⟨k, hk'⟩, Nat.lt_succ_self k, h⟩]
      · rw [if_neg h]
        refine if_congr ⟨?_, ?_⟩ rfl rfl
        · rintro ⟨o, ho, e⟩
          rcases Nat.lt_succ_iff_lt_or_eq.mp ho with ho | ho
          · exact ⟨o, ho, e⟩
          · exact absurd (by rwa [show o = ⟨k, hk'⟩ from Fin.ext ho] at e) h
        · rintro ⟨o, ho, e⟩; exact ⟨o, Nat.lt_succ_of_lt ho, e⟩
    rw [hm, ← hwo]
    by_cases hr : r.val = (word0 i h1 arg1 X1 ⟨k, hk⟩).toNat / 128
    · refine (View.read_writes_cons_rows_of_mem arg6.view _ _ _ _ (ix2 r l) (ix2 (0 : Fin 1) l) (off2_of_lt _ hw) (by simpa using hr) rfl).trans ?_
      refine (pay3_apply _ hw _ l).trans ?_
      have he : (l.val = (word0 i h1 arg1 X1 ⟨k, hk⟩).toNat % 128) ↔ (word0 i h1 arg1 X1 ⟨k, hk⟩).toNat = 128 * r.val + l.val := by
        have := l.isLt; omega
      refine if_congr he rfl ?_
      refine Eq.trans ?_ (congrFun ih (ix2 r l))
      rw [View.readAt_apply]
      show arg6.view.read (Elt F) _ _ = arg6.view.read (Elt F) _ _
      congr 1
      funext a
      apply Fin.ext
      have ho := off2_of_lt _ hw
      fin_cases a
      · show k0_off2 (word0 i h1 arg1 X1 ⟨k, hk⟩) 0 + 1 * 0 = r.val
        rw [ho, hr]; rfl
      · show k0_off2 (word0 i h1 arg1 X1 ⟨k, hk⟩) 1 + 1 * l.val = l.val
        rw [ho]; show 0 + 1 * l.val = l.val; omega
    · refine (View.read_writes_cons_rows_of_not_mem arg6.view _ _ _ _ (ix2 r l) (off2_of_lt _ hw) (W := 1) rfl
        (by show r.val < _ ∨ _ ≤ r.val; omega)).trans ?_
      rw [if_neg (by have := l.isLt; omega)]
      exact congrFun ih _

/-- **The mask.** After all 124 trips it holds a one exactly at the columns that some index names. -/
theorem read_built (i : grid0.Coords) (h1 : k0_cond1 i = 1#1) (arg1 : Memref sig .tc .smem S124 .i32) (arg6 : Memref sig .tc .vmem S32x128 .f32)
    (X1 : Bf F arg1) (hX : Words0 i h1 arg1 X1) (hI : InRange (arg1.view.read (Elt F) X1)) :
    arg6.view.read (Elt F) (built i h1 arg1 arg6 X1 hX) = maskOf F (arg1.view.read (Elt F) X1) 124 := by
  have h := read_rows0 i h1 arg1 arg6 X1 hX hI 124 (Nat.le_of_eq trips0.symm)
  rw [← h]
  unfold built
  rw [View.writes_append]
  rfl

end Cert.Kernel.Hand

end
-- ==== Proof.K.WprepBody.lean ====
/-
  The body of the second kernel: 64 blocks of scaled weight codes into the scratch, the outlier rows over them, then the
  scratch rounded into the result.
-/
module

public import proofs.«01_k».proof.Proof.K.Base
public import Idealize.ShloMosaic.Lib.Pipeline.FrameBody
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The index word that trip `k` reads. -/
abbrev word1 (I : S124.Idx → BitVec 32) (k : Fin k1_t1_loop.trips) : BitVec 32 :=
  View.ld (Val := Elt F) (e' := .i32) I (Rect.unit (s := S124) (k1_off34 k) S1.size (k1_off34_inb k)) (Shape.Idx.first (numel1_S1.symm ▸ Nat.one_pos))

/-- Every index word names a row of the scratch. -/
abbrev Words1 (F : FTy → Type) [FloatOps F] (I : S124.Idx → BitVec 32) : Prop :=
  ∀ (kq : ℕ) (hkq : kq < k1_t1_loop.trips), k1_chk1 (word1 (F := F) I ⟨kq, hkq⟩)

/-- The outlier rows written by the trips before `k`, newest first. -/
def outRows (I : S124.Idx → BitVec 32) (hI : Words1 F I) (WO : S124x256.Idx → F .f32) : ℕ → List (View.Piece (Elt F) S4096x256 .f32)
  | 0 => []
  | k + 1 =>
    if h : k < k1_t1_loop.trips then
      ⟨Rect.unit (s := S4096x256) (k1_off35 (word1 (F := F) I ⟨k, h⟩)) S1x256.size (k1_off35_inb _ (hI k h)),
        k1_pay81 (View.ld (Val := Elt F) (e' := .f32) WO (Rect.unit (s := S124x256) (k1_off33 ⟨k, h⟩) S1x256.size (k1_off33_inb ⟨k, h⟩)))⟩ :: outRows I hI WO k
    else outRows I hI WO k

/-- The blocks of 128 rows, last first. -/
def wblocks : List (Fin 32 × Fin 2) :=
  [(31, 1), (31, 0), (30, 1), (30, 0), (29, 1), (29, 0), (28, 1), (28, 0), (27, 1), (27, 0), (26, 1), (26, 0), (25, 1), (25, 0),
   (24, 1), (24, 0), (23, 1), (23, 0), (22, 1), (22, 0), (21, 1), (21, 0), (20, 1), (20, 0), (19, 1), (19, 0), (18, 1), (18, 0),
   (17, 1), (17, 0), (16, 1), (16, 0), (15, 1), (15, 0), (14, 1), (14, 0), (13, 1), (13, 0), (12, 1), (12, 0), (11, 1), (11, 0),
   (10, 1), (10, 0), (9, 1), (9, 0), (8, 1), (8, 0), (7, 1), (7, 0), (6, 1), (6, 0), (5, 1), (5, 0), (4, 1), (4, 0),
   (3, 1), (3, 0), (2, 1), (2, 0), (1, 1), (1, 0), (0, 1), (0, 0)]

theorem mem_wblocks (j : Fin 32) (h : Fin 2) : (j, h) ∈ wblocks := by revert j h; decide

/-- Where block `(j, h)`'s scale word is read. -/
def wsOff (i : grid1.Coords) (b : Fin 32 × Fin 2) : Fin 2 → ℕ :=
  ![b.1.val, (Scalar.indexCast (Scalar.addi (Scalar.muli (BitVec.ofNat 32 (i 0).val) 2#32) (BitVec.ofNat 32 b.2.val))).toNat]

theorem wsOff_inb (i : grid1.Coords) (b : Fin 32 × Fin 2) : ∀ a, wsOff i b a + S1x1.size a ≤ S32x86.size a := by
  intro a
  fin_cases a
  · show b.1.val + 1 ≤ 32; omega
  · exact k1_off1_inb i b.2 1

theorem wblk_inb (b : Fin 32 × Fin 2) : ∀ a, (![128 * b.1.val, 128 * b.2.val] : Fin 2 → ℕ) a + S128x128.size a ≤ S4096x256.size a := by
  intro a
  fin_cases a
  · show 128 * b.1.val + 128 ≤ 4096; omega
  · show 128 * b.2.val + 128 ≤ 256; omega

/-- The blocks of scaled codes. -/
def scaledBlocks (i : grid1.Coords) (WS : S32x86.Idx → F .f32) (WC : S4096x256.Idx → F .fp8e4m3) : List (View.Piece (Elt F) S4096x256 .f32) :=
  wblocks.map fun b => ⟨Rect.unit (s := S4096x256) ![128 * b.1.val, 128 * b.2.val] S128x128.size (wblk_inb b),
    k1_pay2 (View.ld (Val := Elt F) (e' := .f32) WS (Rect.unit (s := S32x86) (wsOff i b) S1x1.size (wsOff_inb i b)) (Shape.Idx.first (numel1_S1x1.symm ▸ Nat.one_pos)))
      (View.ld (Val := Elt F) (e' := .fp8e4m3) WC (Rect.unit (s := S4096x256) ![128 * b.1.val, 128 * b.2.val] S128x128.size (wblk_inb b)))⟩

/-- The scratch after the loop. -/
def wAcc (i : grid1.Coords) (I : S124.Idx → BitVec 32) (hI : Words1 F I) (WS : S32x86.Idx → F .f32) (WO : S124x256.Idx → F .f32)
    (WC : S4096x256.Idx → F .fp8e4m3) : List (View.Piece (Elt F) S4096x256 .f32) :=
  outRows I hI WO k1_t1_loop.trips ++ scaledBlocks i WS WC

/-- The body: what it leaves in the result and the scratch. -/
def wprepRun (c : Dev nD) (i : grid1.Coords) (arg1 : Memref sig .tc .smem S124 .i32) (h1 : arg1.IsWhole)
    (arg2 : Memref sig .tc .smem S32x86 .f32) (h2 : arg2.IsWhole)
    (arg3 : Memref sig .tc .vmem S124x256 .f32) (h3 : arg3.IsWhole) (arg4 : Memref sig .tc .vmem S4096x256 .fp8e4m3) (h4 : arg4.IsWhole)
    (arg5 : Memref sig .tc .vmem S4096x256 .bf16) (h5 : arg5.IsWhole) (arg6 : Memref sig .tc .vmem S4096x256 .f32) (h6 : arg6.IsWhole)
    (X1 : Bf F arg1) (hX : Words1 F (arg1.view.read (Elt F) X1)) (X2 : Bf F arg2) (X3 : Bf F arg3) (X4 : Bf F arg4) :
    { L : List (View.Piece (Elt F) S4096x256 .bf16) × Bf F arg6 //
      ∀ (f5 : Bf F arg5) (f6 : Bf F arg6),
      iprop(pt c arg1 X1 ∗ pt c arg2 X2 ∗ pt c arg3 X3 ∗ pt c arg4 X4 ∗ pt c arg5 f5 ∗ pt c arg6 f6)
        ⊢ wp frame (wpE (defs₀ (F := F)) Variants.none (c : Thread nD τ) none) Set.univ (cc1_wprep i arg1 h1 arg2 h2 arg3 h3 arg4 h4 arg5 h5 arg6 h6)
          (fun _ => iprop(pt c arg1 X1 ∗ pt c arg2 X2 ∗ pt c arg3 X3 ∗ pt c arg4 X4 ∗ pt c arg5 (arg5.view.writes (Elt F) f5 L.1) ∗ pt c arg6 L.2)) } := by
  have hX' : ∀ (kq : ℕ) (hkq : kq < k1_t1_loop.trips), k1_chk1 (arg1.view.readAt (Elt F) (Rect.unit (s := S124) (k1_off34 ⟨kq, hkq⟩) S1.size
    (k1_off34_inb ⟨kq, hkq⟩)).toLoadRect X1 (Shape.Idx.first (numel1_S1.symm ▸ Nat.one_pos))) := hX
  refine ⟨⟨?_, ?_⟩, fun f5 f6 => ?run⟩
  case run =>
    iintro ⟨H1, H2, H3, H4, H5, H6⟩
    sl_exec
    sl_step
    sl_close

/-- The rows that the loop's trips write are the listed ones. -/
theorem pb_eq (c : Dev nD) (i : grid1.Coords) (arg1 : Memref sig .tc .smem S124 .i32) (h1 : arg1.IsWhole)
    (arg2 : Memref sig .tc .smem S32x86 .f32) (h2 : arg2.IsWhole)
    (arg3 : Memref sig .tc .vmem S124x256 .f32) (h3 : arg3.IsWhole) (arg4 : Memref sig .tc .vmem S4096x256 .fp8e4m3) (h4 : arg4.IsWhole)
    (arg5 : Memref sig .tc .vmem S4096x256 .bf16) (h5 : arg5.IsWhole) (arg6 : Memref sig .tc .vmem S4096x256 .f32) (h6 : arg6.IsWhole)
    (X1 : Bf F arg1) (X3 : Bf F arg3) (hX : Words1 F (arg1.view.read (Elt F) X1)) :
    ∀ k, k ≤ k1_t1_loop.trips → pb_k1_t1 (F := F) Variants.none c none i arg1 h1 arg2 h2 arg3 h3 arg4 h4 arg5 h5 arg6 h6 X1 X3 hX k
      = outRows (arg1.view.read (Elt F) X1) hX (arg3.view.read (Elt F) X3) k
  | 0, _ => rfl
  | k + 1, hk => by
    rw [pb_k1_t1_succ Variants.none c none i arg1 h1 arg2 h2 arg3 h3 arg4 h4 arg5 h5 arg6 h6 X1 X3 hX ⟨k, hk⟩, outRows, dif_pos (show k < k1_t1_loop.trips from hk),
      pb_eq c i arg1 h1 arg2 h2 arg3 h3 arg4 h4 arg5 h5 arg6 h6 X1 X3 hX k (Nat.le_of_succ_le hk)]
    unfold tripL_k1_t1 trip_k1_t1
    rfl

/-- The result is the scratch, rounded. -/
theorem wprepRun_pieces (c : Dev nD) (i : grid1.Coords) (arg1 : Memref sig .tc .smem S124 .i32) (h1 : arg1.IsWhole)
    (arg2 : Memref sig .tc .smem S32x86 .f32) (h2 : arg2.IsWhole)
    (arg3 : Memref sig .tc .vmem S124x256 .f32) (h3 : arg3.IsWhole) (arg4 : Memref sig .tc .vmem S4096x256 .fp8e4m3) (h4 : arg4.IsWhole)
    (arg5 : Memref sig .tc .vmem S4096x256 .bf16) (h5 : arg5.IsWhole) (arg6 : Memref sig .tc .vmem S4096x256 .f32) (h6 : arg6.IsWhole)
    (X1 : Bf F arg1) (hX : Words1 F (arg1.view.read (Elt F) X1)) (X2 : Bf F arg2) (X3 : Bf F arg3) (X4 : Bf F arg4) :
    (wprepRun c i arg1 h1 arg2 h2 arg3 h3 arg4 h4 arg5 h5 arg6 h6 X1 hX X2 X3 X4).1.1 =
      [⟨Rect.unit (s := S4096x256) ![0, 0] S4096x256.size inb_S4096x256_S4096x256_0_0,
        k1_pay1 (View.ld (Val := Elt F) (e' := .f32) (View.canon (wAcc i (arg1.view.read (Elt F) X1) hX (arg2.view.read (Elt F) X2) (arg3.view.read (Elt F) X3) (arg4.view.read (Elt F) X4)))
          (Rect.unit (s := S4096x256) ![0, 0] S4096x256.size inb_S4096x256_S4096x256_0_0))⟩] := by
  have h : (wprepRun c i arg1 h1 arg2 h2 arg3 h3 arg4 h4 arg5 h5 arg6 h6 X1 hX X2 X3 X4).1.1 =
      [⟨Rect.unit (s := S4096x256) ![0, 0] S4096x256.size inb_S4096x256_S4096x256_0_0,
        k1_pay1 (arg6.view.readAt (Elt F) (Rect.unit (s := S4096x256) ![0, 0] S4096x256.size inb_S4096x256_S4096x256_0_0).toLoadRect
          (arg6.view.writes (Elt F) arg6.view.junk
            (pb_k1_t1 Variants.none c none i arg1 h1 arg2 h2 arg3 h3 arg4 h4 arg5 h5 arg6 h6 X1 X3 hX k1_t1_loop.trips
              ++ scaledBlocks i (arg2.view.read (Elt F) X2) (arg4.view.read (Elt F) X4))))⟩] := rfl
  rw [h, View.readAt_writes_junk_eq_canon, pb_eq c i arg1 h1 arg2 h2 arg3 h3 arg4 h4 arg5 h5 arg6 h6 X1 X3 hX _ le_rfl]
  rfl

end Cert.Kernel.Hand

end
-- ==== Proof.K.MmBody.lean ====
/-
  The body of the third kernel: one matrix product per point, rounded to the result's type.
-/
module

public import proofs.«01_k».proof.Proof.K.Base
public import Idealize.ShloMosaic.Lib.Pipeline.FrameBody
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body: what it leaves in the result. -/
def mmRun (c : Dev nD) (i : grid2.Coords) (arg2 : Memref sig .tc .vmem S2048x4096 .bf16) (h2 : arg2.IsWhole)
    (arg3 : Memref sig .tc .vmem S4096x256 .bf16) (h3 : arg3.IsWhole) (arg4 : Memref sig .tc .vmem S2048x256 .bf16) (h4 : arg4.IsWhole)
    (X2 : Bf F arg2) (X3 : Bf F arg3) :
    { L : List (View.Piece (Elt F) S2048x256 .bf16) // ∀ (f4 : Bf F arg4),
      iprop(pt c arg2 X2 ∗ pt c arg3 X3 ∗ pt c arg4 f4)
        ⊢ wp frame (wpE (defs₀ (F := F)) Variants.none (c : Thread nD τ) none) Set.univ (cc2_mm i arg2 h2 arg3 h3 arg4 h4)
          (fun _ => iprop(pt c arg2 X2 ∗ pt c arg3 X3 ∗ pt c arg4 (arg4.view.writes (Elt F) f4 L))) } := by
  refine ⟨?_, fun f4 => ?run⟩
  case run =>
    iintro ⟨H2, H3, H4⟩
    sl_exec
    sl_step
    sl_close

/-- The one piece is the rounded product of the two blocks. -/
theorem mmRun_pieces (c : Dev nD) (i : grid2.Coords) (arg2 : Memref sig .tc .vmem S2048x4096 .bf16) (h2 : arg2.IsWhole)
    (arg3 : Memref sig .tc .vmem S4096x256 .bf16) (h3 : arg3.IsWhole) (arg4 : Memref sig .tc .vmem S2048x256 .bf16) (h4 : arg4.IsWhole)
    (X2 : Bf F arg2) (X3 : Bf F arg3) :
    (mmRun c i arg2 h2 arg3 h3 arg4 h4 X2 X3).1 =
      [⟨Rect.unit (s := S2048x256) ![0, 0] S2048x256.size inb_S2048x256_S2048x256_0_0,
        k2_pay1 (View.ld (Val := Elt F) (arg2.view.read (Elt F) X2) (Rect.unit (s := S2048x4096) ![0, 0] S2048x4096.size inb_S2048x4096_S2048x4096_0_0))
          (View.ld (Val := Elt F) (arg3.view.read (Elt F) X3) (Rect.unit (s := S4096x256) ![0, 0] S4096x256.size inb_S4096x256_S4096x256_0_0))⟩] := rfl

end Cert.Kernel.Hand

end
-- ==== Proof.K.Sound.lean ====
/-
  The three bodies as triples over what the buffers read: each result block as a function of the input blocks.
-/
module

public import proofs.«01_k».proof.Proof.K.QuantMask
public import proofs.«01_k».proof.Proof.K.WprepBody
public import proofs.«01_k».proof.Proof.K.MmBody
public import Idealize.ShloMosaic.Lib.Pipeline.FrameBody
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a memref reads, held whole. -/
abbrev ow (c : Dev nD) {sp : Space} {S : Shape} {e : EltTy} (M : Memref sig .tc sp S e) (X : S.Idx → Elt F e) : sProp 𝕄 :=
  owns (c : Thread nD τ) M fullShare X

/-- A run used under what follows it. -/
theorem use_run {c : Dev nD} {p : Prog (TpuEff nD τ sig (Elt F) Λ₀ .tc) PUnit} {P A : sProp 𝕄} {Q : PUnit → sProp 𝕄}
    (h : P ⊢ wp frame (wpE (defs₀ (F := F)) Variants.none (c : Thread nD τ) none) Set.univ p (fun _ => A)) :
    iprop(P ∗ (A -∗ Q ⟨⟩)) ⊢ wp frame (wpE (defs₀ (F := F)) Variants.none (c : Thread nD τ) none) Set.univ p Q :=
  (BIClass.sep_mono h (sProp.forall_intro fun _ => BIBase.Entails.rfl)).trans (wp_wand_r _ _ _)

/-- One store of the whole leaves its payload. -/
theorem read_one {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f [(⟨Rect.unit off S.size inb, w⟩ : View.Piece (Elt F) S e)]
    (fun y => ⟨_, List.mem_singleton.mpr rfl, View.mem_set_unit_zero h inb y⟩)).trans (View.canon_unit_zero h inb w)

theorem z2 : (![0, 0] : Fin 2 → ℕ) = fun _ => 0 := by funext a; fin_cases a <;> rfl

/-- The column blocks cover the whole. -/
theorem cover_cols {e : EltTy} (G : Fin 32 → S256x128.Idx → Elt F e) (y : S256x4096.Idx) :
    ∃ p ∈ (blocks.map fun j => (⟨Rect.unit (s := S256x4096) ![0, 128 * j.val] S256x128.size (xcol_inb j), G j⟩ : View.Piece (Elt F) S256x4096 e)), y ∈ p.1.set := by
  have h1 : (y 1).val < 4096 := (y 1).isLt
  have h0 : (y 0).val < 256 := (y 0).isLt
  refine ⟨_, List.mem_map.mpr ⟨⟨(y 1).val / 128, by omega⟩, mem_blocks _, rfl⟩, ?_⟩
  refine (Rect.mem_set_unit (inb := xcol_inb ⟨(y 1).val / 128, by omega⟩)).mpr fun a => ?_
  fin_cases a
  · show 0 ≤ (y 0).val ∧ (y 0).val < 0 + 256; omega
  · show 128 * ((y 1).val / 128) ≤ (y 1).val ∧ (y 1).val < 128 * ((y 1).val / 128) + 128; omega

/-- The first kernel's result blocks, from the mask and the block of `x`. -/
def xmBlock (M : S32x128.Idx → F .f32) (X : S256x4096.Idx → F .bf16) : S256x4096.Idx → Elt F .bf16 := View.canon (pieces3 M X).1
@[inherit_doc xmBlock] def codesBlock (M : S32x128.Idx → F .f32) (X : S256x4096.Idx → F .bf16) : S256x4096.Idx → Elt F .fp8e4m3 := View.canon (pieces3 M X).2.1
@[inherit_doc xmBlock] def scaleBlock (M : S32x128.Idx → F .f32) (X : S256x4096.Idx → F .bf16) : S256x32.Idx → Elt F .f32 := scalesUpto M X blocks

theorem read_pieces3 (M : S32x128.Idx → F .f32) (X : S256x4096.Idx → F .bf16)
    (arg3 : Memref sig .tc .vmem S256x4096 .bf16) (arg4 : Memref sig .tc .vmem S256x4096 .fp8e4m3) (arg5 : Memref sig .tc .vmem S256x32 .f32)
    (f3 : Bf F arg3) (f4 : Bf F arg4) (f5 : Bf F arg5) :
    arg3.view.read (Elt F) (arg3.view.writes (Elt F) f3 (pieces3 M X).1) = xmBlock M X
    ∧ arg4.view.read (Elt F) (arg4.view.writes (Elt F) f4 (pieces3 M X).2.1) = codesBlock M X
    ∧ arg5.view.read (Elt F) (arg5.view.writes (Elt F) f5 (pieces3 M X).2.2) = scaleBlock M X := by
  refine ⟨View.read_writes_eq_canon _ _ _ (cover_cols (e := .bf16) fun j => blkXm (mrow M j) (xcol X j)),
    View.read_writes_eq_canon _ _ _ (cover_cols (e := .fp8e4m3) fun j => blkCodes (mrow M j) (xcol X j)), ?_⟩
  exact read_one _ _ z2 _ _

/-- The first kernel at a later point: the mask stays. -/
theorem sound_quant (c : Dev nD) (i : grid0.Coords) (hi : ¬ k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X : S256x4096.Idx → F .bf16) (M : S32x128.Idx → F .f32) (Q : PUnit → sProp 𝕄) :
    iprop(ow c arg2 X ∗ ow c arg6 M ∗ (∃ Y, ow c arg3 Y) ∗ (∃ Y, ow c arg4 Y) ∗ (∃ Y, ow c arg5 Y)
        ∗ ((ow c arg2 X ∗ ow c arg6 M ∗ ow c arg3 (xmBlock M X) ∗ ow c arg4 (codesBlock M X) ∗ ow c arg5 (scaleBlock M X)) -∗ Q ⟨⟩))
      ⊢ wp frame (wpE (defs₀ (F := F)) Variants.none (c : Thread nD τ) none) Set.univ (cc0_quant i arg1 h1 arg2 h2 arg3 h3 arg4 h4 arg5 h5 arg6 h6) Q := by
  unfold ow owns
  iintro ⟨⟨%f2, %e2, H2⟩, ⟨%f6, %e6, H6⟩, ⟨%Y3, %f3, -, H3⟩, ⟨%Y4, %f4, -, H4⟩, ⟨%Y5, %f5, -, H5⟩, Hk⟩
  subst e2; subst e6
  have hr := (quantRun c i hi arg1 h1 arg2 h2 arg3 h3 arg4 h4 arg5 h5 arg6 h6 f2 f6).2 f3 f4 f5
  rw [quantRun_pieces] at hr
  obtain ⟨r3, r4, r5⟩ := read_pieces3 (arg6.view.read (Elt F) f6) (arg2.view.read (Elt F) f2) arg3 arg4 arg5 f3 f4 f5
  iapply (use_run hr)
  isplitl [H2 H6 H3 H4 H5]
  · isplitl [H2]; · iexact H2
    isplitl [H6]; · iexact H6
    isplitl [H3]; · iexact H3
    isplitl [H4]; · iexact H4
    iexact H5
  iintro ⟨H2, H6, H3, H4, H5⟩
  iapply Hk
  isplitl [H2]; · iexists _; isplitr; swap; (· iexact H2); ipureintro; rfl
  isplitl [H6]; · iexists _; isplitr; swap; (· iexact H6); ipureintro; rfl
  isplitl [H3]; · iexists _; isplitr; swap; (· iexact H3); ipureintro; exact r3
  isplitl [H4]; · iexists _; isplitr; swap; (· iexact H4); ipureintro; exact r4
  iexists _; isplitr; swap; (· iexact H5); ipureintro; exact r5

/-- The first kernel at the first point: the mask is built from the indices. -/
theorem sound_quantFirst (c : Dev nD) (i : grid0.Coords) (hi : k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (I : S124.Idx → BitVec 32) (hI : InRange I) (X : S256x4096.Idx → F .bf16) (Q : PUnit → sProp 𝕄) :
    iprop(ow c arg1 I ∗ ow c arg2 X ∗ (∃ Y, ow c arg6 Y) ∗ (∃ Y, ow c arg3 Y) ∗ (∃ Y, ow c arg4 Y) ∗ (∃ Y, ow c arg5 Y)
        ∗ ((ow c arg1 I ∗ ow c arg2 X ∗ ow c arg6 (maskOf F I 124) ∗ ow c arg3 (xmBlock (maskOf F I 124) X) ∗ ow c arg4 (codesBlock (maskOf F I 124) X)
            ∗ ow c arg5 (scaleBlock (maskOf F I 124) X)) -∗ Q ⟨⟩))
      ⊢ wp frame (wpE (defs₀ (F := F)) Variants.none (c : Thread nD τ) none) Set.univ (cc0_quant i arg1 h1 arg2 h2 arg3 h3 arg4 h4 arg5 h5 arg6 h6) Q := by
  unfold ow owns
  iintro ⟨⟨%f1, %e1, H1⟩, ⟨%f2, %e2, H2⟩, ⟨%Y6, %f6, -, H6⟩, ⟨%Y3, %f3, -, H3⟩, ⟨%Y4, %f4, -, H4⟩, ⟨%Y5, %f5, -, H5⟩, Hk⟩
  subst e2; subst e1
  have hX := words0_of_inRange i hi arg1 f1 hI
  have hr := (quantRunFirst c i hi arg1 h1 arg2 h2 arg3 h3 arg4 h4 arg5 h5 arg6 h6 f1 hX f2).2 f6 f3 f4 f5
  rw [quantRunFirst_pieces] at hr
  have hm := read_built i hi arg1 arg6 f1 hX hI
  obtain ⟨r3, r4, r5⟩ := read_pieces3 (arg6.view.read (Elt F) (built i hi arg1 arg6 f1 hX)) (arg2.view.read (Elt F) f2) arg3 arg4 arg5 f3 f4 f5
  iapply (use_run hr)
  isplitl [H1 H2 H6 H3 H4 H5]
  · isplitl [H1]; · iexact H1
    isplitl [H2]; · iexact H2
    isplitl [H6]; · iexact H6
    isplitl [H3]; · iexact H3
    isplitl [H4]; · iexact H4
    iexact H5
  iintro ⟨H1, H2, H6, H3, H4, H5⟩
  iapply Hk
  isplitl [H1]; · iexists _; isplitr; swap; (· iexact H1); ipureintro; rfl
  isplitl [H2]; · iexists _; isplitr; swap; (· iexact H2); ipureintro; rfl
  isplitl [H6]; · iexists _; isplitr; swap; (· iexact H6); ipureintro; exact hm
  rw [hm] at r3 r4 r5
  isplitl [H3]; · iexists _; isplitr; swap; (· iexact H3); ipureintro; rw [hm]; exact r3
  isplitl [H4]; · iexists _; isplitr; swap; (· iexact H4); ipureintro; rw [hm]; exact r4
  iexists _; isplitr; swap; (· iexact H5); ipureintro; rw [hm]; exact r5

/-! ## The second kernel -/

theorem trips1 : k1_t1_loop.trips = 124 := by decide

/-- The word of a trip is the index of that position. -/
theorem word1_eq (I : S124.Idx → BitVec 32) (k : Fin k1_t1_loop.trips) : word1 (F := F) I k = I (at1 ⟨k.val, trips1 ▸ k.isLt⟩) := by
  show I _ = I _
  congr 1
  funext a
  apply Fin.ext
  have hc : k1_off34 k = ![k.val] := k1_off34_eq k
  match a with
  | ⟨0, _⟩ =>
    show k1_off34 k 0 + 1 * 0 = k.val
    rw [hc]; rfl

theorem off35_eq (w : BitVec 32) : k1_off35 w = ![w.toNat, 0] := rfl

theorem words1_of_inRange (I : S124.Idx → BitVec 32) (hI : InRange I) : Words1 F I := fun k hk => by
  intro a
  have hw := hI ⟨k, trips1 ▸ hk⟩
  rw [word1_eq, off35_eq]
  fin_cases a
  · show _ + 1 ≤ 4096; exact hw
  · show 0 + 256 ≤ 256; omega

/-- The second kernel's result block. -/
def wmBlock (i : grid1.Coords) (I : S124.Idx → BitVec 32) (hI : InRange I) (WS : S32x86.Idx → F .f32) (WO : S124x256.Idx → F .f32)
    (WC : S4096x256.Idx → F .fp8e4m3) : S4096x256.Idx → F .bf16 :=
  k1_pay1 (View.canon (Val := Elt F) (e := .f32) (wAcc i I (words1_of_inRange I hI) WS WO WC))

theorem sound_wprep (c : Dev nD) (i : grid1.Coords) (arg1 : Memref sig .tc .smem S124 .i32) (h1 : arg1.IsWhole)
    (arg2 : Memref sig .tc .smem S32x86 .f32) (h2 : arg2.IsWhole)
    (arg3 : Memref sig .tc .vmem S124x256 .f32) (h3 : arg3.IsWhole) (arg4 : Memref sig .tc .vmem S4096x256 .fp8e4m3) (h4 : arg4.IsWhole)
    (arg5 : Memref sig .tc .vmem S4096x256 .bf16) (h5 : arg5.IsWhole) (arg6 : Memref sig .tc .vmem S4096x256 .f32) (h6 : arg6.IsWhole)
    (I : S124.Idx → BitVec 32) (hI : InRange I) (WS : S32x86.Idx → F .f32) (WO : S124x256.Idx → F .f32) (WC : S4096x256.Idx → F .fp8e4m3) (Q : PUnit → sProp 𝕄) :
    iprop(ow c arg1 I ∗ ow c arg2 WS ∗ ow c arg3 WO ∗ ow c arg4 WC ∗ (∃ Y, ow c arg5 Y) ∗ (∃ Y, ow c arg6 Y)
        ∗ ((ow c arg1 I ∗ ow c arg2 WS ∗ ow c arg3 WO ∗ ow c arg4 WC ∗ ow c arg5 (wmBlock i I hI WS WO WC) ∗ (∃ Y, ow c arg6 Y)) -∗ Q ⟨⟩))
      ⊢ wp frame (wpE (defs₀ (F := F)) Variants.none (c : Thread nD τ) none) Set.univ (cc1_wprep i arg1 h1 arg2 h2 arg3 h3 arg4 h4 arg5 h5 arg6 h6) Q := by
  unfold ow owns
  iintro ⟨⟨%f1, %e1, H1⟩, ⟨%f2, %e2, H2⟩, ⟨%f3, %e3, H3⟩, ⟨%f4, %e4, H4⟩, ⟨%Y5, %f5, -, H5⟩, ⟨%Y6, %f6, -, H6⟩, Hk⟩
  subst e2; subst e1; subst e3; subst e4
  have hX := words1_of_inRange (F := F) _ hI
  have hr := (wprepRun c i arg1 h1 arg2 h2 arg3 h3 arg4 h4 arg5 h5 arg6 h6 f1 hX f2 f3 f4).2 f5 f6
  rw [wprepRun_pieces] at hr
  iapply (use_run hr)
  isplitl [H1 H2 H3 H4 H5 H6]
  · isplitl [H1]; · iexact H1
    isplitl [H2]; · iexact H2
    isplitl [H3]; · iexact H3
    isplitl [H4]; · iexact H4
    isplitl [H5]; · iexact H5
    iexact H6
  iintro ⟨H1, H2, H3, H4, H5, H6⟩
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]
  · iexists _; isplitr; swap; (· iexact H5); ipureintro
    refine (read_one _ _ z2 _ _).trans ?_
    rw [View.ld_unit_zero z2]
    rfl
  iexists _; iexists _; isplitr; swap; (· iexact H6); ipureintro; rfl

/-- The third kernel's result block. -/
def mmBlock (X : S2048x4096.Idx → F .bf16) (W : S4096x256.Idx → F .bf16) : S2048x256.Idx → F .bf16 := k2_pay1 X W

theorem sound_mm (c : Dev nD) (i : grid2.Coords) (arg2 : Memref sig .tc .vmem S2048x4096 .bf16) (h2 : arg2.IsWhole)
    (arg3 : Memref sig .tc .vmem S4096x256 .bf16) (h3 : arg3.IsWhole) (arg4 : Memref sig .tc .vmem S2048x256 .bf16) (h4 : arg4.IsWhole)
    (X : S2048x4096.Idx → F .bf16) (W : S4096x256.Idx → F .bf16) (Q : PUnit → sProp 𝕄) :
    iprop(ow c arg2 X ∗ ow c arg3 W ∗ (∃ Y, ow c arg4 Y) ∗ ((ow c arg2 X ∗ ow c arg3 W ∗ ow c arg4 (mmBlock X W)) -∗ Q ⟨⟩))
      ⊢ wp frame (wpE (defs₀ (F := F)) Variants.none (c : Thread nD τ) none) Set.univ (cc2_mm i arg2 h2 arg3 h3 arg4 h4) Q := by
  unfold ow owns
  iintro ⟨⟨%f2, %e2, H2⟩, ⟨%f3, %e3, H3⟩, ⟨%Y4, %f4, -, H4⟩, Hk⟩
  subst e2; subst e3
  have hr := (mmRun c i arg2 h2 arg3 h3 arg4 h4 f2 f3).2 f4
  rw [mmRun_pieces] at hr
  iapply (use_run hr)
  isplitl [H2 H3 H4]
  · isplitl [H2]; · iexact H2
    isplitl [H3]; · iexact H3
    iexact H4
  iintro ⟨H2, H3, H4⟩
  iapply Hk
  isplitl [H2]; · iexists _; isplitr; swap; (· iexact H2); ipureintro; rfl
  isplitl [H3]; · iexists _; isplitr; swap; (· iexact H3); ipureintro; rfl
  iexists _; isplitr; swap; (· iexact H4); ipureintro
  refine (read_one _ _ z2 _ _).trans ?_
  rw [View.ld_unit_zero z2, View.ld_unit_zero z2]
  rfl

end Cert.Kernel.Hand

end
-- ==== Proof.K.Dat0.lean ====
/-
  The first kernel's proof data: what its buffers hold at each grid point, and its body at any point.
-/
module

public import proofs.«01_k».proof.Proof.K.Sound
public import proofs.«01_k».proof.Proof.Gen.Kernel.Launch
public import Idealize.ShloMosaic.Lib.Pipeline.Frame
public import Idealize.ShloMosaic.Lib.Pipeline.RegionArraysTS

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

/-- The admissible tables: the index list, for the two kernels that take it. -/
def tabs (I : S124.Idx → BitVec 32) : (p : Fin 3) → (pcfgs (F := F) p).Adm
  | ⟨0, _⟩ => ⟨fun | ⟨0, _⟩ => I, trivial⟩
  | ⟨1, _⟩ => ⟨fun | ⟨0, _⟩ => I, trivial⟩
  | ⟨2, _⟩ => cfg2.toPCfg_adm

variable (I : S124.Idx → BitVec 32)

/-- A window's block at a point, read off the array as the region finds it. -/
abbrev blk0 (W : Valuation τ sig (Elt F)) (w : Fin 4) (t : Fin (cfg0 (tabs (F := F) I 0)).N) :=
  (((cfg0 (tabs (F := F) I 0)).win w).blk t).view.read (Elt F) (W (Pipeline.arrRef spec0 w))

/-- The buffers the first kernel does not touch. -/
def rest0 (c : Dev nD) : sProp 𝕄 := iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc1_stg0_0), ((c : Thread nD τ).loc cc1_stg0_0) ↦{fullShare} f))

/-- Between points: the mask is built from the first point on; the index list is held. -/
def Φ0 (c : Dev nD) (t : ℕ) : sProp 𝕄 :=
  iprop((∃ Y, ⌜t ≠ 0 → Y = maskOf F I 124⌝ ∗ ow c (Memref.whole cc0_scratch0) Y) ∗ rest0 c ∗ ow c (Memref.whole main_arg1) I)

/-- The proof data of the first kernel's pipeline, entered at a valuation. -/
def dat0 (W : Dev nD → Valuation τ sig (Elt F)) (c : Dev nD) : Dat τ (Elt F) Unit ℕ (UR sig nD τ) ℕ (cfg0 (tabs (F := F) I 0)) c where
  A w := W c (Pipeline.arrRef spec0 w)
  after w t := match w with
    | ⟨0, _⟩ => blk0 I (W c) 0 t
    | ⟨1, _⟩ => xmBlock (maskOf F I 124) (blk0 I (W c) 0 t)
    | ⟨2, _⟩ => codesBlock (maskOf F I 124) (blk0 I (W c) 0 t)
    | ⟨3, _⟩ => scaleBlock (maskOf F I 124) (blk0 I (W c) 0 t)
  Φ t := Φ0 I c t.val
  q _ := fullShare
  owed _ := 0

variable (W : Dev nD → Valuation τ sig (Elt F))

theorem A0_eq (c : Dev nD) (w : Fin 4) : (dat0 I W c).A w = W c (Pipeline.arrRef spec0 w) := by dsimp only [dat0]
theorem after0_0 (c : Dev nD) (t) : (dat0 I W c).after 0 t = blk0 I (W c) 0 t := rfl
theorem after0_1 (c : Dev nD) (t) : (dat0 I W c).after 1 t = xmBlock (maskOf F I 124) (blk0 I (W c) 0 t) := rfl
theorem after0_2 (c : Dev nD) (t) : (dat0 I W c).after 2 t = codesBlock (maskOf F I 124) (blk0 I (W c) 0 t) := rfl
theorem after0_3 (c : Dev nD) (t) : (dat0 I W c).after 3 t = scaleBlock (maskOf F I 124) (blk0 I (W c) 0 t) := rfl

theorem before0_0 (c : Dev nD) (t) (d) : (dat0 I W c).before 0 t d = blk0 I (W c) 0 t :=
  ((dat0 I W c).before_in_eq_fetched 0 rfl (fun _ => rfl) (fun _ _ _ => rfl) (fun t => by rw [after0_0]; unfold Dat.blockOf; rw [A0_eq]; try rfl) t d).trans
    (by unfold Dat.fetched Dat.blockOf; rw [A0_eq]; try rfl)

/-- The mask is built at point 0 alone. -/
theorem cond0_iff : ∀ t : Fin grid0.N, k0_cond1 (grid0.coords t) = 1#1 ↔ t.val = 0 := by decide +kernel

variable (hI : InRange I)
include hI

/-- The first kernel's body at any point. -/
theorem body0 (c : Dev nD) : BodyObligation (dat0 I W c) (defs₀ (F := F)) Variants.none () Set.univ := fun t => by
  rw [bigSep_W0, bigSep_W0]
  unfold defs₀; rw [Defs.onTc_tc]
  rw [show (dat0 I W c).Φ t.castSucc = Φ0 I c t.val from rfl, show (dat0 I W c).Φ t.succ = Φ0 I c (t.val + 1) from rfl,
    show (dat0 I W c).owesAt () t.succ = (dat0 I W c).owesAt () t.castSucc from rfl]
  unfold Φ0
  iintro ⟨⟨⟨%Y, %hY, Hm⟩, Hr, Ht⟩, Ho, ⟨%d0, H0⟩, ⟨%d1, H1⟩, ⟨%d2, H2⟩, ⟨%d3, H3⟩⟩
  have e0 := before0_0 I W c t d0
  by_cases h : t.val = 0
  · have hc := (cond0_iff t).mpr h
    iapply (sound_quantFirst (F := F) c (grid0.coords t) hc (Memref.whole main_arg1) (Memref.isWhole_whole _) _ _ _ _ _ _ _ _ (Memref.whole cc0_scratch0) (Memref.isWhole_whole _) I hI (blk0 I (W c) 0 t) _)
    isplitl [Ht]; · iexact Ht
    isplitl [H0]; · rw [← e0]; iexact H0
    isplitl [Hm]; · iexists _; iexact Hm
    isplitl [H1]; · iexists _; iexact H1
    isplitl [H2]; · iexists _; iexact H2
    isplitl [H3]; · iexists _; iexact H3
    iintro ⟨Ht, H0, Hm, H1, H2, H3⟩
    isplitl [Hm Hr Ht]
    · isplitl [Hm]
      · iexists _; isplitr; swap; (· iexact Hm); ipureintro; exact fun _ => rfl
      isplitl [Hr]; · iexact Hr
      iexact Ht
    isplitl [Ho]; · iexact Ho
    isplitl [H0]; · rw [after0_0]; iexact H0
    isplitl [H1]; · rw [after0_1]; iexact H1
    isplitl [H2]; · rw [after0_2]; iexact H2
    rw [after0_3]; iexact H3
  · have hc : ¬ k0_cond1 (grid0.coords t) = 1#1 := fun e => h ((cond0_iff t).mp e)
    obtain rfl := hY h
    iapply (sound_quant (F := F) c (grid0.coords t) hc (Memref.whole main_arg1) (Memref.isWhole_whole _) _ _ _ _ _ _ _ _ (Memref.whole cc0_scratch0) (Memref.isWhole_whole _) (blk0 I (W c) 0 t) (maskOf F I 124) _)
    isplitl [H0]; · rw [← e0]; iexact H0
    isplitl [Hm]; · iexact Hm
    isplitl [H1]; · iexists _; iexact H1
    isplitl [H2]; · iexists _; iexact H2
    isplitl [H3]; · iexists _; iexact H3
    iintro ⟨H0, Hm, H1, H2, H3⟩
    isplitl [Hm Hr Ht]
    · isplitl [Hm]
      · iexists _; isplitr; swap; (· iexact Hm); ipureintro; exact fun _ => rfl
      isplitl [Hr]; · iexact Hr
      iexact Ht
    isplitl [Ho]; · iexact Ho
    isplitl [H0]; · rw [after0_0]; iexact H0
    isplitl [H1]; · rw [after0_1]; iexact H1
    isplitl [H2]; · rw [after0_2]; iexact H2
    rw [after0_3]; iexact H3

omit hI in
/-- The prefetched table is the index list, held. -/
theorem table_eq (c : Dev nD) : (ow c (Memref.whole main_arg1) I : sProp 𝕄) = iprop(((c : Thread nD τ).loc main_arg1) ↦{fullShare} I) := by
  unfold ow
  rw [owns_whole_eq]
  refine equiv_iff.mp ⟨?_, ?_⟩
  · show (iprop(∃ f, ⌜f = I⌝ ∗ (((c : Thread nD τ).loc main_arg1) ↦{fullShare} f)) : sProp 𝕄) ⊢ iprop(((c : Thread nD τ).loc main_arg1) ↦{fullShare} I)
    iintro ⟨%f, %e, H⟩
    subst e; iexact H
  · show (iprop(((c : Thread nD τ).loc main_arg1) ↦{fullShare} I) : sProp 𝕄) ⊢ iprop(∃ f, ⌜f = I⌝ ∗ (((c : Thread nD τ).loc main_arg1) ↦{fullShare} f))
    iintro H
    iexists I; isplitr; · ipureintro; rfl
    iexact H

omit hI in
theorem tables0 (c : Dev nD) : (Pipeline.tablesAt (pcfgs (F := F)) (tabs (F := F) I) 0 c : sProp 𝕄) = ow c (Memref.whole main_arg1) I := by
  rw [table_eq]
  exact bigSep_singleton (I := Fin 1) (i := 0)

omit hI in
theorem in0 (c : Dev nD) : iprop(iprop(Pipeline.scopedRest (Ix := Unit) (Name := ℕ) (U := UR sig nD τ) (Lvl := ℕ) (Val := Elt F) spec0 c ∗ BI.emp)
    ∗ ow c (Memref.whole main_arg1) I) ⊢ (Φ0 I c 0 : sProp 𝕄) := by
  unfold Φ0
  rw [scopedRest0_eq, ← rest0.eq_1]
  unfold ow
  rw [owns_whole_eq]
  iintro ⟨⟨⟨⟨%f, Hm⟩, Hr⟩, -⟩, Ht⟩
  isplitl [Hm]
  · iexists f; isplitr; · ipureintro; exact fun h => absurd rfl h
    rw [owns_whole_eq]; iexists f; isplitr; · ipureintro; rfl
    iexact Hm
  isplitl [Hr]; · iexact Hr
  iexact Ht

omit hI in
theorem out0 (c : Dev nD) (t : ℕ) : (Φ0 I c t : sProp 𝕄) ⊢ iprop(iprop(Pipeline.scopedRest (Ix := Unit) (Name := ℕ) (U := UR sig nD τ) (Lvl := ℕ) (Val := Elt F) spec0 c ∗ BI.emp)
    ∗ ow c (Memref.whole main_arg1) I) := by
  unfold Φ0
  rw [scopedRest0_eq, ← rest0.eq_1]
  unfold ow
  simp only [owns_whole_eq]
  iintro ⟨⟨%Y, -, Hm⟩, Hr, Ht⟩
  icases Hm with ⟨%f, -, Hm⟩
  isplitr [Ht]
  · isplitl [Hm Hr]
    · isplitl [Hm]; · iexists f; iexact Hm
      iexact Hr
    iempintro
  iexact Ht

end Cert.Kernel.Hand

end
-- ==== Proof.K.Dat12.lean ====
/-
  The second and third kernels' proof data, and their bodies at any point.
-/
module

public import proofs.«01_k».proof.Proof.K.Dat0

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

variable (I : S124.Idx → BitVec 32)

/-- A window's block of the second kernel at a point. -/
abbrev blk1 (W : Valuation τ sig (Elt F)) (w : Fin 4) (t : Fin (cfg1 (tabs (F := F) I 1)).N) :=
  (((cfg1 (tabs (F := F) I 1)).win w).blk t).view.read (Elt F) (W (Pipeline.arrRef spec1 w))

/-- The buffers the second kernel does not touch. -/
def rest1 (c : Dev nD) : sProp 𝕄 := iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- Between points: scratch at any contents, and the index list. -/
def Φ1 (c : Dev nD) : sProp 𝕄 :=
  iprop(Pipeline.scopedRest (Ix := Unit) (Name := ℕ) (U := UR sig nD τ) (Lvl := ℕ) (Val := Elt F) spec1 c ∗ ow c (Memref.whole main_arg1) I)

variable (hI : InRange I)

/-- The proof data of the second kernel's pipeline, entered at a valuation. -/
def dat1 (W : Dev nD → Valuation τ sig (Elt F)) (c : Dev nD) : Dat τ (Elt F) Unit ℕ (UR sig nD τ) ℕ (cfg1 (tabs (F := F) I 1)) c where
  A w := W c (Pipeline.arrRef spec1 w)
  after w t := match w with
    | ⟨0, _⟩ => blk1 I (W c) 0 t
    | ⟨1, _⟩ => blk1 I (W c) 1 t
    | ⟨2, _⟩ => blk1 I (W c) 2 t
    | ⟨3, _⟩ => wmBlock (F := F) (grid1.coords t) I hI (blk1 I (W c) 0 t) (blk1 I (W c) 1 t) (blk1 I (W c) 2 t)
  Φ _ := Φ1 I c
  q _ := fullShare
  owed _ := 0

variable (W : Dev nD → Valuation τ sig (Elt F))

theorem A1_eq (c : Dev nD) (w : Fin 4) : (dat1 I hI W c).A w = W c (Pipeline.arrRef spec1 w) := by dsimp only [dat1]
theorem after1_0 (c : Dev nD) (t) : (dat1 I hI W c).after 0 t = blk1 I (W c) 0 t := rfl
theorem after1_1 (c : Dev nD) (t) : (dat1 I hI W c).after 1 t = blk1 I (W c) 1 t := rfl
theorem after1_2 (c : Dev nD) (t) : (dat1 I hI W c).after 2 t = blk1 I (W c) 2 t := rfl
theorem after1_3 (c : Dev nD) (t) : (dat1 I hI W c).after 3 t
    = wmBlock (F := F) (grid1.coords t) I hI (blk1 I (W c) 0 t) (blk1 I (W c) 1 t) (blk1 I (W c) 2 t) := rfl

theorem before1_0 (c : Dev nD) (t) (d) : (dat1 I hI W c).before 0 t d = blk1 I (W c) 0 t :=
  ((dat1 I hI W c).before_in_eq_fetched 0 rfl (fun _ => rfl) (fun _ _ _ => rfl) (fun t => by rw [after1_0]; unfold Dat.blockOf; rw [A1_eq]; try rfl) t d).trans
    (by unfold Dat.fetched Dat.blockOf; rw [A1_eq]; try rfl)
theorem before1_1 (c : Dev nD) (t) (d) : (dat1 I hI W c).before 1 t d = blk1 I (W c) 1 t :=
  ((dat1 I hI W c).before_in_eq_fetched 1 rfl (fun _ => rfl) (fun _ _ _ => rfl) (fun t => by rw [after1_1]; unfold Dat.blockOf; rw [A1_eq]; try rfl) t d).trans
    (by unfold Dat.fetched Dat.blockOf; rw [A1_eq]; try rfl)
theorem before1_2 (c : Dev nD) (t) (d) : (dat1 I hI W c).before 2 t d = blk1 I (W c) 2 t :=
  ((dat1 I hI W c).before_in_eq_fetched 2 rfl (fun _ => rfl) (fun _ _ _ => rfl) (fun t => by rw [after1_2]; unfold Dat.blockOf; rw [A1_eq]; try rfl) t d).trans
    (by unfold Dat.fetched Dat.blockOf; rw [A1_eq]; try rfl)

/-- The second kernel's scratch, taken out of what it holds between points. -/
theorem scratch1 (c : Dev nD) : (Φ1 I c : sProp 𝕄) ⊢ iprop((∃ Y, ow c (Memref.whole cc1_scratch0) Y)
    ∗ ((∃ Y, ow c (Memref.whole cc1_scratch0) Y) -∗ ow c (Memref.whole main_arg1) I -∗ Φ1 I c) ∗ ow c (Memref.whole main_arg1) I) := by
  unfold Φ1
  rw [scopedRest1_eq, ← rest1.eq_1]
  unfold ow
  simp only [owns_whole_eq]
  iintro ⟨⟨A0, A1, A2, A3, A4, A5, A6, A7, A8, ⟨%f, Hs⟩, Hr⟩, Ht⟩
  isplitl [Hs]
  · iexists f; iexists f; isplitr; · ipureintro; rfl
    iexact Hs
  isplitr [Ht]
  · iintro ⟨%Y, %g, -, Hs⟩ Ht
    isplitr [Ht]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [Hs]; · iexists g; iexact Hs
      iexact Hr
    iexact Ht
  iexact Ht

/-- The second kernel's body at any point. -/
theorem body1 (c : Dev nD) : BodyObligation (dat1 I hI W c) (defs₀ (F := F)) Variants.none () Set.univ := fun t => by
  rw [bigSep_W1, bigSep_W1]
  unfold defs₀; rw [Defs.onTc_tc]
  rw [show (dat1 I hI W c).Φ t.castSucc = Φ1 I c from rfl, show (dat1 I hI W c).Φ t.succ = Φ1 I c from rfl,
    show (dat1 I hI W c).owesAt () t.succ = (dat1 I hI W c).owesAt () t.castSucc from rfl]
  iintro ⟨HΦ, Ho, ⟨%d0, H0⟩, ⟨%d1, H1⟩, ⟨%d2, H2⟩, ⟨%d3, H3⟩⟩
  have e0 := before1_0 I hI W c t d0
  have e1 := before1_1 I hI W c t d1
  have e2 := before1_2 I hI W c t d2
  ihave HS := (scratch1 (F := F) I c) $$ HΦ
  icases HS with ⟨Hs, Hk, Ht⟩
  iapply (sound_wprep (F := F) c (grid1.coords t) (Memref.whole main_arg1) (Memref.isWhole_whole _) _ _ _ _ _ _ _ _ (Memref.whole cc1_scratch0) (Memref.isWhole_whole _) I hI (blk1 I (W c) 0 t) (blk1 I (W c) 1 t) (blk1 I (W c) 2 t) _)
  isplitl [Ht]; · iexact Ht
  isplitl [H0]; · rw [← e0]; iexact H0
  isplitl [H1]; · rw [← e1]; iexact H1
  isplitl [H2]; · rw [← e2]; iexact H2
  isplitl [H3]; · iexists _; iexact H3
  isplitl [Hs]; · iexact Hs
  iintro ⟨Ht, H0, H1, H2, H3, Hs⟩
  isplitl [Hk Ht Hs]
  · iapply Hk $$ Hs Ht
  isplitl [Ho]; · iexact Ho
  isplitl [H0]; · rw [after1_0]; iexact H0
  isplitl [H1]; · rw [after1_1]; iexact H1
  isplitl [H2]; · rw [after1_2]; iexact H2
  rw [after1_3]; iexact H3

theorem tables1 (c : Dev nD) : (Pipeline.tablesAt (pcfgs (F := F)) (tabs (F := F) I) 1 c : sProp 𝕄) = ow c (Memref.whole main_arg1) I := by
  rw [table_eq]
  exact bigSep_singleton (I := Fin 1) (i := 0)

/-- A window's block of the third kernel at a point. -/
abbrev blk2 (W : Valuation τ sig (Elt F)) (w : Fin 3) (t : Fin cfg2.N) :=
  ((cfg2.win w).blk t).view.read (Elt F) (W (Pipeline.arrRef spec2 w))

/-- The proof data of the third kernel's pipeline, entered at a valuation. -/
def dat2 (W : Dev nD → Valuation τ sig (Elt F)) (c : Dev nD) : Dat τ (Elt F) Unit ℕ (UR sig nD τ) ℕ cfg2 c where
  A w := W c (Pipeline.arrRef spec2 w)
  after w t := match w with
    | ⟨0, _⟩ => blk2 (W c) 0 t
    | ⟨1, _⟩ => blk2 (W c) 1 t
    | ⟨2, _⟩ => mmBlock (blk2 (W c) 0 t) (blk2 (W c) 1 t)
  Φ _ := Pipeline.scopedRest (Ix := Unit) (Name := ℕ) (U := UR sig nD τ) (Lvl := ℕ) (Val := Elt F) spec2 c
  q _ := fullShare
  owed _ := 0

theorem A2_eq (c : Dev nD) (w : Fin 3) : (dat2 W c).A w = W c (Pipeline.arrRef spec2 w) := by dsimp only [dat2]
theorem after2_0 (c : Dev nD) (t) : (dat2 W c).after 0 t = blk2 (W c) 0 t := rfl
theorem after2_1 (c : Dev nD) (t) : (dat2 W c).after 1 t = blk2 (W c) 1 t := rfl
theorem after2_2 (c : Dev nD) (t) : (dat2 W c).after 2 t = mmBlock (blk2 (W c) 0 t) (blk2 (W c) 1 t) := rfl

theorem before2_0 (c : Dev nD) (t) (d) : (dat2 W c).before 0 t d = blk2 (W c) 0 t :=
  ((dat2 W c).before_in_eq_fetched 0 rfl (fun _ => rfl) (fun _ _ _ => rfl) (fun t => by rw [after2_0]; unfold Dat.blockOf; rw [A2_eq]; try rfl) t d).trans
    (by unfold Dat.fetched Dat.blockOf; rw [A2_eq]; try rfl)
theorem before2_1 (c : Dev nD) (t) (d) : (dat2 W c).before 1 t d = blk2 (W c) 1 t :=
  ((dat2 W c).before_in_eq_fetched 1 rfl (fun _ => rfl) (fun _ _ _ => rfl) (fun t => by rw [after2_1]; unfold Dat.blockOf; rw [A2_eq]; try rfl) t d).trans
    (by unfold Dat.fetched Dat.blockOf; rw [A2_eq]; try rfl)

/-- The third kernel's body at any point. -/
theorem body2 (c : Dev nD) : BodyObligation (dat2 W c) (defs₀ (F := F)) Variants.none () Set.univ := fun t => by
  rw [bigSep_W2, bigSep_W2]
  unfold defs₀; rw [Defs.onTc_tc]
  rw [show (dat2 W c).Φ t.succ = (dat2 W c).Φ t.castSucc from rfl,
    show (dat2 W c).owesAt () t.succ = (dat2 W c).owesAt () t.castSucc from rfl]
  iintro ⟨HΦ, Ho, ⟨%d0, H0⟩, ⟨%d1, H1⟩, ⟨%d2, H2⟩⟩
  have e0 := before2_0 W c t d0
  have e1 := before2_1 W c t d1
  iapply (sound_mm (F := F) c (grid2.coords t) _ _ _ _ _ _ (blk2 (W c) 0 t) (blk2 (W c) 1 t) _)
  isplitl [H0]; · rw [← e0]; iexact H0
  isplitl [H1]; · rw [← e1]; iexact H1
  isplitl [H2]; · iexists _; iexact H2
  iintro ⟨H0, H1, H2⟩
  isplitl [HΦ]; · iexact HΦ
  isplitl [Ho]; · iexact Ho
  isplitl [H0]; · rw [after2_0]; iexact H0
  isplitl [H1]; · rw [after2_1]; iexact H1
  rw [after2_2]; iexact H2

theorem in1 (c : Dev nD) : iprop(iprop(Pipeline.scopedRest (Ix := Unit) (Name := ℕ) (U := UR sig nD τ) (Lvl := ℕ) (Val := Elt F) spec1 c ∗ BI.emp)
    ∗ ow c (Memref.whole main_arg1) I) ⊢ (Φ1 I c : sProp 𝕄) := by
  unfold Φ1
  iintro ⟨⟨Hr, -⟩, Ht⟩
  isplitl [Hr] <;> iassumption

theorem out1 (c : Dev nD) : (Φ1 I c : sProp 𝕄) ⊢ iprop(iprop(Pipeline.scopedRest (Ix := Unit) (Name := ℕ) (U := UR sig nD τ) (Lvl := ℕ) (Val := Elt F) spec1 c ∗ BI.emp)
    ∗ ow c (Memref.whole main_arg1) I) := by
  unfold Φ1
  iintro ⟨Hr, Ht⟩
  isplitl [Hr]
  · isplitl [Hr]; · iexact Hr
    iempintro
  iexact Ht

theorem in2 (c : Dev nD) : iprop(Pipeline.scopedRest (Ix := Unit) (Name := ℕ) (U := UR sig nD τ) (Lvl := ℕ) (Val := Elt F) spec2 c ∗ BI.emp)
    ⊢ (Pipeline.scopedRest (Ix := Unit) (Name := ℕ) (U := UR sig nD τ) (Lvl := ℕ) (Val := Elt F) spec2 c : sProp 𝕄) := by
  iintro ⟨Hr, -⟩
  iexact Hr

theorem out2 (c : Dev nD) : (Pipeline.scopedRest (Ix := Unit) (Name := ℕ) (U := UR sig nD τ) (Lvl := ℕ) (Val := Elt F) spec2 c : sProp 𝕄)
    ⊢ iprop(Pipeline.scopedRest (Ix := Unit) (Name := ℕ) (U := UR sig nD τ) (Lvl := ℕ) (Val := Elt F) spec2 c ∗ BI.emp) := by
  iintro Hr
  isplitl [Hr]; · iexact Hr
  iempintro

end Cert.Kernel.Hand

end
-- ==== Proof.K.Run.lean ====
/-
  The three regions of the program one after another: what each leaves, and what the whole run leaves.
-/
module

public import proofs.«01_k».proof.Proof.K.Dat12
public import proofs.«01_k».proof.Proof.Gen.Kernel.Regions
public import Idealize.ShloMosaic.Lib.Pipeline.RegionArraysS
public import Idealize.ShloMosaic.Lib.StableHlo.RunHlo

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

open Idealize.ShloMosaic.Pipeline (Seg HostSeg)

set_option backward.isDefEq.respectTransparency.types false in
/-- The whole run, given each region's record: every buffer of the program ends at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ) (ρ : Dev nD → PrngReg) (outs : Outs (F := F)) (a : (p : Fin 3) → (pcfgs (F := F) p).Adm)
    (pdats : (p : Fin 3) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => (∀ c : Dev nD,
      ∀ b ∈ Pipeline.ucRefs τ sig, r.2.mem (c, b) = V6 m outs c b) ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1 R2)
    (fun c Q => by
      rewrite [main_chain c, Seg.run_eq_chain,
        show (segs m outs 𝒱₀ L lv E ι a pdats R0 R1 R2 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, (hpost1 c).trans (hpre2 c), hpost2 c, sep_mono .rfl (hE3 c)⟩)
    (hinit := ?_) (QY := fun c s => ∀ b ∈ Pipeline.ucRefs τ sig, s.mem (c, b) = V6 m outs c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

variable (m : (ℓ : Loc nD τ sig) → Buf (Elt F) ℓ)

/-- The index list the program is given. -/
def tbl : S124.Idx → BitVec 32 := m (((0 : Dev nD) : Thread nD τ).loc main_arg1)

/-- What the first region leaves. -/
def outs0 : Outs (F := F) := fun _ r c => Pipeline.afterRegion (dat0 (tbl m) (V1 m) c) (V1 m c) (Proc.devRef .tc r)

variable (hI : InRange (tbl m))

/-- What the first two regions leave. -/
def outs1 : Outs (F := F) := fun k r c => match k with
  | 2 => outs0 m 2 r c
  | _ => Pipeline.afterRegion (dat1 (tbl m) hI (V3 m (outs0 m)) c) (V3 m (outs0 m) c) (Proc.devRef .tc r)

/-- What the three regions leave. -/
def outs : Outs (F := F) := fun k r c => match k with
  | 2 => outs0 m 2 r c
  | 4 => outs1 m hI 4 r c
  | _ => Pipeline.afterRegion (dat2 (V4 m (outs1 m hI)) c) (V4 m (outs1 m hI) c) (Proc.devRef .tc r)

theorem V2_outs (c : Dev nD) : V2 m (outs m hI) c = V2 m (outs0 m) c := rfl
theorem V3_outs (c : Dev nD) : V3 m (outs m hI) c = V3 m (outs0 m) c := rfl
theorem V4_outs (c : Dev nD) : V4 m (outs m hI) c = V4 m (outs1 m hI) c := rfl

/-- The three regions' proof data. -/
def pdats : (p : Fin 3) → (c : Dev nD) → Dat τ (Elt F) Unit ℕ (UR sig nD τ) ℕ (Pipeline.pin (pcfgs (F := F)) (tabs (F := F) (tbl m)) p) c
  | ⟨0, _⟩ => dat0 (tbl m) (V1 m)
  | ⟨1, _⟩ => dat1 (tbl m) hI (V3 m (outs0 m))
  | ⟨2, _⟩ => dat2 (V4 m (outs1 m hI))

/-- Every core's one index at every semaphore of its own. -/
def Lv : GSem nD τ sig → Finset Unit := fun g => if g.1.2 = .tc then {()} else ∅
/-- All at one level. -/
def lv0 : GSem nD τ sig → Unit → ℕ := fun _ _ => 0

theorem cut (p : Fin 3) : Pipeline.LevelCut (pcfgs (F := F)) (tabs (F := F) (tbl m)) () Lv lv0 p (fun _ => (0 : CellTallies nD τ sig Unit)) (fun _ => 0) where
  hι c w s := by unfold Lv; rw [if_pos rfl]; exact Finset.mem_singleton_self _
  hιb c w s := le_refl 0
  hD c g i h := absurd h (lt_irrefl 0)

/-- The index list stays as launched. -/
theorem tbl_V1 (c : Dev nD) : tbl m = V1 m c (Proc.devRef .tc main_arg1) := by
  obtain rfl := Subsingleton.elim c 0
  exact (V1_of m 0 main_arg1 (by decide)).symm

/-- What a core owes between regions: nothing. -/
def Eo : Fin 4 → Dev nD → sProp 𝕄 := fun _ c => iprop(∃ Wd, owes (c : Thread nD τ) (0 : CellTallies nD τ sig Unit) Wd)

abbrev SegOf (p : Fin 3) := RegionSeg (pcfgs (F := F)) (tabs (F := F) (tbl m)) (pdats m hI) () (defs₀ (F := F)) Variants.none Lv lv0 p

def seg0 : SegOf m hI 0 :=
  RegionSeg.ofHeldInT _ _ _ _ _ _ _ _ 0 (fun _ => 0) (Pipeline.ucRefs τ sig) (fun _ => iprop(BI.emp)) (fun _ => iprop(BI.emp)) launch0
    (fun c => (body0 (tbl m) (V1 m) hI c).loose) (fun _ _ => rfl) (fun _ => rfl) (fun c => (pdats m hI 0 c).share_full fun _ => rfl)
    (fun c => by rw [tables0]; exact in0 (tbl m) c) (fun c => by rw [tables0]; exact out0 (tbl m) c _) (fun _ => 0) (cut m 0) (fun _ => iprop(BI.emp)) (V1 m)
    (fun c w => A0_eq (tbl m) (V1 m) c w) (fun c k => match k with | ⟨0, _⟩ => tbl_V1 m c)

theorem tbl_V3 (c : Dev nD) : tbl m = V3 m (outs0 m) c (Proc.devRef .tc main_arg1) :=
  (tbl_V1 m c).trans ((V2_of m (outs0 m) c main_arg1 (by decide)).symm.trans (V3_of m (outs0 m) c main_arg1 (by decide)).symm)

def seg1 : SegOf m hI 1 :=
  RegionSeg.ofHeldInT _ _ _ _ _ _ _ _ 1 (fun _ => 0) (Pipeline.ucRefs τ sig) (fun _ => iprop(BI.emp)) (fun _ => iprop(BI.emp)) launch1
    (fun c => (body1 (tbl m) hI (V3 m (outs0 m)) c).loose) (fun _ _ => rfl) (fun _ => rfl) (fun c => (pdats m hI 1 c).share_full fun _ => rfl)
    (fun c => by rw [tables1]; exact in1 (tbl m) c) (fun c => by rw [tables1]; exact out1 (tbl m) c) (fun _ => 0) (cut m 1) (fun _ => iprop(BI.emp)) (V3 m (outs0 m))
    (fun c w => A1_eq (tbl m) hI (V3 m (outs0 m)) c w) (fun c k => match k with | ⟨0, _⟩ => tbl_V3 m c)

def seg2 : SegOf m hI 2 :=
  RegionSeg.ofHeldIn _ _ _ _ _ _ _ _ 2 (fun _ => 0) (Pipeline.ucRefs τ sig) (fun _ => iprop(BI.emp)) (fun _ => iprop(BI.emp)) launch2 rfl
    (fun c => (body2 (V4 m (outs1 m hI)) c).loose) (fun _ _ => rfl) (fun _ => rfl) (fun c => (pdats m hI 2 c).share_full fun _ => rfl)
    (fun c => in2 c) (fun c => out2 c) (fun _ => 0) (cut m 2) (fun _ => iprop(BI.emp)) (V4 m (outs1 m hI))
    (fun c w => A2_eq (V4 m (outs1 m hI)) c w)

/-- What the first region leaves is the valuation after it. -/
theorem left0 (c : Dev nD) (r : Ref sig .tc) :
    Pipeline.afterRegion (dat0 (tbl m) (V1 m) c) (V1 m c) (Proc.devRef .tc r) = V2 m (outs m hI) c (Proc.devRef .tc r) := by
  by_cases h : r ∈ ([main_v1_0, main_v1_1, main_v1_2] : List (Ref sig .tc))
  · rw [V2_outs]
    simp only [List.mem_cons, List.not_mem_nil, or_false] at h
    rcases h with rfl | rfl | rfl
    · rw [V2, Function.update_of_ne (StableHlo.devRef_ne_of_ne (by decide)), Function.update_of_ne (StableHlo.devRef_ne_of_ne (by decide)), Function.update_self]; rfl
    · rw [V2, Function.update_of_ne (StableHlo.devRef_ne_of_ne (by decide)), Function.update_self]; rfl
    · rw [V2, Function.update_self]; rfl
  · rw [V2_of m _ c r h]
    refine Pipeline.afterRegion_keeps _ _ (launch0 (F := F)).win.arr_inj (A0_eq (tbl m) (V1 m) c) r fun w hw => ?_
    match w with
    | ⟨0, _⟩ => rfl
    | ⟨1, _⟩ => exact absurd (hw ▸ List.mem_cons_self) h
    | ⟨2, _⟩ => exact absurd (hw ▸ List.mem_cons_of_mem _ List.mem_cons_self) h
    | ⟨3, _⟩ => exact absurd (hw ▸ List.mem_cons_of_mem _ (List.mem_cons_of_mem _ List.mem_cons_self)) h

/-- What the second region leaves is the valuation after it. -/
theorem left1 (c : Dev nD) (r : Ref sig .tc) :
    Pipeline.afterRegion (dat1 (tbl m) hI (V3 m (outs0 m)) c) (V3 m (outs0 m) c) (Proc.devRef .tc r) = V4 m (outs m hI) c (Proc.devRef .tc r) := by
  by_cases h : r = main_v3
  · subst h
    rw [V4_outs, V4, Function.update_self]; rfl
  · rw [V4_of m _ c r (fun e => h (List.mem_singleton.mp e)), V3_outs]
    refine Pipeline.afterRegion_keeps _ _ (launch1 (F := F)).win.arr_inj (A1_eq (tbl m) hI (V3 m (outs0 m)) c) r fun w hw => ?_
    match w with
    | ⟨0, _⟩ => rfl
    | ⟨1, _⟩ => rfl
    | ⟨2, _⟩ => rfl
    | ⟨3, _⟩ => exact absurd hw.symm h

/-- What the third region leaves is the valuation after it. -/
theorem left2 (c : Dev nD) (r : Ref sig .tc) :
    Pipeline.afterRegion (dat2 (V4 m (outs1 m hI)) c) (V4 m (outs1 m hI) c) (Proc.devRef .tc r) = V5 m (outs m hI) c (Proc.devRef .tc r) := by
  by_cases h : r = main_v4
  · subst h
    rw [V5, Function.update_self]; rfl
  · rw [V5_of m _ c r (fun e => h (List.mem_singleton.mp e)), V4_outs]
    refine Pipeline.afterRegion_keeps _ _ (launch2 (F := F)).win.arr_inj (A2_eq (V4 m (outs1 m hI)) c) r fun w hw => ?_
    match w with
    | ⟨0, _⟩ => rfl
    | ⟨1, _⟩ => rfl
    | ⟨2, _⟩ => exact absurd hw.symm h

/-- Two valuations that agree on every reference hold the same. -/
theorem held_of_left (c : Dev nD) (W W' : Valuation τ sig (Elt F)) (h : ∀ r : Ref sig .tc, W (Proc.devRef .tc r) = W' (Proc.devRef .tc r)) :
    (StableHlo.held (c : Thread nD τ) (Pipeline.ucRefs τ sig) W : sProp 𝕄) = StableHlo.held (c : Thread nD τ) (Pipeline.ucRefs τ sig) W' :=
  StableHlo.held_congr _ fun b hb => by
    obtain ⟨r, -, rfl⟩ := Finset.mem_map.mp (Finset.mem_filter.mp hb).1
    exact h r

theorem arrs0 : Pipeline.arrRefs (τ := τ) (pcfgs (F := F) 0).spec ⊆ Pipeline.ucRefs τ sig :=
  Pipeline.arrRefs_sub_ucRefs _ (show ∀ w : Fin 4, (Pipeline.arrRef spec0 w).isScoped = false by decide)
theorem arrs1 : Pipeline.arrRefs (τ := τ) (pcfgs (F := F) 1).spec ⊆ Pipeline.ucRefs τ sig :=
  Pipeline.arrRefs_sub_ucRefs _ (show ∀ w : Fin 4, (Pipeline.arrRef spec1 w).isScoped = false by decide)
theorem arrs2 : Pipeline.arrRefs (τ := τ) (pcfgs (F := F) 2).spec ⊆ Pipeline.ucRefs τ sig :=
  Pipeline.arrRefs_sub_ucRefs _ (show ∀ w : Fin 3, (Pipeline.arrRef spec2 w).isScoped = false by decide)
theorem tbls0 : Pipeline.tblRefs (τ := τ) (pcfgs (F := F) 0).pre ⊆ Pipeline.ucRefs τ sig := fun b hb => by
  obtain ⟨r, hr, rfl⟩ := Finset.mem_map.mp hb
  obtain ⟨k, -, rfl⟩ := Finset.mem_image.mp hr
  match k with
  | ⟨0, _⟩ => exact Pipeline.devRef_mem_ucRefs rfl
theorem tbls1 : Pipeline.tblRefs (τ := τ) (pcfgs (F := F) 1).pre ⊆ Pipeline.ucRefs τ sig := fun b hb => by
  obtain ⟨r, hr, rfl⟩ := Finset.mem_map.mp hb
  obtain ⟨k, -, rfl⟩ := Finset.mem_image.mp hr
  match k with
  | ⟨0, _⟩ => exact Pipeline.devRef_mem_ucRefs rfl

/-- What is owed, with and without the two empty assertions beside it. -/
theorem owe_in (i : Fin 4) (c : Dev nD) : (Eo i c : sProp 𝕄) ⊢ iprop((∃ Wd, owes (c : Thread nD τ) (0 : CellTallies nD τ sig Unit) Wd) ∗ BI.emp ∗ BI.emp) := by
  unfold Eo
  iintro H
  isplitl [H]; · iexact H
  isplitr <;> iempintro
theorem owe_out (i : Fin 4) (c : Dev nD) : iprop((∃ Wd, owes (c : Thread nD τ) (0 : CellTallies nD τ sig Unit) Wd) ∗ BI.emp ∗ BI.emp) ⊢ (Eo i c : sProp 𝕄) := by
  unfold Eo
  iintro ⟨H, -⟩
  iexact H

theorem pre0 (c : Dev nD) : iprop(StableHlo.held (c : Thread nD τ) (Pipeline.ucRefs τ sig) (V1 m c) ∗ Eo 0 c) ⊢ (seg0 m hI).pre c := by
  unfold seg0
  refine BIBase.Entails.trans ?_ (RegionSeg.ofHeldInT_pre arrs0 tbls0 c)
  exact BIClass.sep_mono BIBase.Entails.rfl (owe_in 0 c)
theorem post0 (c : Dev nD) : (seg0 m hI).post c ⊢ iprop(StableHlo.held (c : Thread nD τ) (Pipeline.ucRefs τ sig) (V2 m (outs m hI) c) ∗ Eo 1 c) := by
  unfold seg0
  refine BIBase.Entails.trans (RegionSeg.ofHeldInT_post arrs0 tbls0 c) ?_
  exact (BIClass.sep_mono (BIBase.Entails.of_eq (held_of_left c _ _ (left0 m hI  c))) (owe_out 1 c))
theorem pre1 (c : Dev nD) : iprop(StableHlo.held (c : Thread nD τ) (Pipeline.ucRefs τ sig) (V3 m (outs m hI) c) ∗ Eo 1 c) ⊢ (seg1 m hI).pre c := by
  unfold seg1
  refine BIBase.Entails.trans ?_ (RegionSeg.ofHeldInT_pre arrs1 tbls1 c)
  exact BIClass.sep_mono BIBase.Entails.rfl (owe_in 1 c)
theorem post1 (c : Dev nD) : (seg1 m hI).post c ⊢ iprop(StableHlo.held (c : Thread nD τ) (Pipeline.ucRefs τ sig) (V4 m (outs m hI) c) ∗ Eo 2 c) := by
  unfold seg1
  refine BIBase.Entails.trans (RegionSeg.ofHeldInT_post arrs1 tbls1 c) ?_
  exact (BIClass.sep_mono (BIBase.Entails.of_eq (held_of_left c _ _ (left1 m hI  c))) (owe_out 2 c))
theorem pre2 (c : Dev nD) : iprop(StableHlo.held (c : Thread nD τ) (Pipeline.ucRefs τ sig) (V4 m (outs m hI) c) ∗ Eo 2 c) ⊢ (seg2 m hI).pre c := by
  unfold seg2
  refine BIBase.Entails.trans ?_ (RegionSeg.ofHeldIn_pre arrs2 c)
  exact BIClass.sep_mono BIBase.Entails.rfl (owe_in 2 c)
theorem post2 (c : Dev nD) : (seg2 m hI).post c ⊢ iprop(StableHlo.held (c : Thread nD τ) (Pipeline.ucRefs τ sig) (V5 m (outs m hI) c) ∗ Eo 3 c) := by
  unfold seg2
  refine BIBase.Entails.trans (RegionSeg.ofHeldIn_post arrs2 c) ?_
  exact (BIClass.sep_mono (BIBase.Entails.of_eq (held_of_left c _ _ (left2 m hI  c))) (owe_out 3 c))

/-- The program's run: every buffer of it ends at the last valuation. -/
theorem run_main (ρ : Dev nD → PrngReg) : θ_run defs (onTc (τ := τ) (main (F := F))) ⟨m, fun _ => 0, ρ⟩ (fun r => (∀ c : Dev nD,
      ∀ b ∈ Pipeline.ucRefs τ sig, r.2.mem (c, b) = V6 m (outs m hI) c b) ∧ r.2.sem = fun _ => 0) :=
  run_cond (Ix := Unit) (U := UR sig nD τ) (Lvl := ℕ) (uEmb (nD := nD) (τ := τ) (sig := sig) (Ix := Unit) (Val := Elt F) (Name := ℕ) (U := UR sig nD τ) (Lvl := ℕ)).toEmb
    () Variants.none Lv lv0 (fun g h => by unfold Lv; rw [if_neg h]) m ρ (outs m hI) (tabs (F := F) (tbl m)) (pdats m hI)
    (fun _ => 0) (fun _ => iprop(BI.emp)) (initOf (Pipeline.cells (Pipeline.pin (pcfgs (F := F)) (tabs (F := F) (tbl m))) (cellOf_inj _)) (Pipeline.launchToks (Pipeline.pin (pcfgs (F := F)) (tabs (F := F) (tbl m))) (cellOf_inj _)))
    (by
      have h0 : ∀ u, (ownU u : sProp 𝕄) ⊢ BI.own ((uEmb (nD := nD) (τ := τ) (sig := sig) (Ix := Unit) (Val := Elt F) (Name := ℕ) (U := UR sig nD τ) (Lvl := ℕ)).toEmb u) := fun u => .rfl
      iintro Hu
      imodintro
      isplitl [Hu]; · iapply (h0 _); iexact Hu
      iapply (show (BI.emp : sProp 𝕄) ⊢ bigSep Finset.univ (fun _ : Dev nD => (BI.emp : sProp 𝕄)) from by rw [BI.bigSep_emp_const])
      iempintro)
    Eo
    (by
      refine Pipeline.initEach Lv lv0 fun c => ?_
      iintro ⟨⟨-, HO, -⟩, -⟩
      imodintro
      unfold Eo
      iexists ∅; iexact HO)
    (fun c => .rfl)
    (seg0 m hI) (pre0 m hI) (post0 m hI)
    (seg1 m hI) (pre1 m hI) (post1 m hI)
    (seg2 m hI) (pre2 m hI) (post2 m hI)

include hI in
/-- The frame: it ends, its arguments as launched and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_mono (run_main m hI ρ) fun r h => ⟨fun c => ⟨(h.1 c _ (Pipeline.devRef_mem_ucRefs (b := main_arg0) rfl)).trans (V6_main_arg0 m (outs m hI) c),
    (h.1 c _ (Pipeline.devRef_mem_ucRefs (b := main_arg1) rfl)).trans (V6_main_arg1 m (outs m hI) c),
    (h.1 c _ (Pipeline.devRef_mem_ucRefs (b := main_arg2) rfl)).trans (V6_main_arg2 m (outs m hI) c),
    (h.1 c _ (Pipeline.devRef_mem_ucRefs (b := main_arg3) rfl)).trans (V6_main_arg3 m (outs m hI) c),
    (h.1 c _ (Pipeline.devRef_mem_ucRefs (b := main_arg4) rfl)).trans (V6_main_arg4 m (outs m hI) c)⟩, h.2⟩

end Cert.Kernel.Hand

end
-- ==== Proof.KI.Base.lean ====
/-
  What the proofs about the three kernel bodies share: a memref's buffer held at given contents.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of a memref's buffer. -/
abbrev Bf (F : FTy → Type) {sp : Space} {S : Shape} {e : EltTy} (M : Memref sig .tc sp S e) : Type := BufTy.Contents (Elt F) M.view.ty

/-- A memref's buffer held at contents `f`. -/
abbrev pt (c : Dev nD) {sp : Space} {S : Shape} {e : EltTy} (M : Memref sig .tc sp S e) (f : Bf F M) : sProp 𝕄 :=
  M.view.loc (c : Thread nD τ) ↦[M.view.set]{fullShare} f

end Cert.KernelIdeal.Hand

end
-- ==== Proof.KI.QuantLoop.lean ====
/-
  The first kernel's loop over the outlier indices: trip `k` reads index `k` and writes a one into the mask at that
  column. The rows written by the trips so far are listed as pieces, newest first.
-/
module

public import proofs.«01_k».proof.Proof.KI.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The index word that trip `k` reads. -/
abbrev word0 (i : grid0.Coords) (h1 : k0_cond1 i = 1#1) (arg1 : Memref sig .tc .smem S124 .i32) (X1 : Bf F arg1) (k : Fin k0_t1_loop.trips) : BitVec 32 :=
  arg1.view.readAt (Elt F) (Rect.unit (s := S124) (k0_off1 k) S1.size (k0_off1_inb i k h1)).toLoadRect X1 (Shape.Idx.first (numel1_S1.symm ▸ Nat.one_pos))

/-- Every index word names a row of the mask. -/
abbrev Words0 (i : grid0.Coords) (h1 : k0_cond1 i = 1#1) (arg1 : Memref sig .tc .smem S124 .i32) (X1 : Bf F arg1) : Prop :=
  ∀ k, k0_chk1 i (word0 i h1 arg1 X1 k)

/-- The mask row that a trip loads and stores. -/
abbrev maskRow (i : grid0.Coords) (h1 : k0_cond1 i = 1#1) (w : BitVec 32) (hw : k0_chk1 i w) : Rect S32x128 :=
  Rect.unit (s := S32x128) (k0_off2 w) S1x128.size (k0_off2_inb i w hw h1)

/-- The rows written by the trips before `k`, newest first, over mask contents `G`. -/
def rows0 (i : grid0.Coords) (h1 : k0_cond1 i = 1#1) (arg1 : Memref sig .tc .smem S124 .i32) (arg6 : Memref sig .tc .vmem S32x128 .f32)
    (X1 : Bf F arg1) (hX : Words0 i h1 arg1 X1) (G : Bf F arg6) : ℕ → List (View.Piece (Elt F) S32x128 .f32)
  | 0 => []
  | k + 1 =>
    if h : k < k0_t1_loop.trips then
      ⟨maskRow i h1 (word0 i h1 arg1 X1 ⟨k, h⟩) (hX ⟨k, h⟩),
        k0_pay3 (word0 i h1 arg1 X1 ⟨k, h⟩)
          (arg6.view.readAt (Elt F) (maskRow i h1 (word0 i h1 arg1 X1 ⟨k, h⟩) (hX ⟨k, h⟩)).toLoadRect
            (arg6.view.writes (Elt F) G (rows0 i h1 arg1 arg6 X1 hX G k)))⟩ :: rows0 i h1 arg1 arg6 X1 hX G k
    else rows0 i h1 arg1 arg6 X1 hX G k

theorem rows0_succ (i : grid0.Coords) (h1 : k0_cond1 i = 1#1) (arg1 : Memref sig .tc .smem S124 .i32) (arg6 : Memref sig .tc .vmem S32x128 .f32)
    (X1 : Bf F arg1) (hX : Words0 i h1 arg1 X1) (G : Bf F arg6) (k : Fin k0_t1_loop.trips) :
    rows0 i h1 arg1 arg6 X1 hX G (k.val + 1) =
      ⟨maskRow i h1 (word0 i h1 arg1 X1 k) (hX k),
        k0_pay3 (word0 i h1 arg1 X1 k)
          (arg6.view.readAt (Elt F) (maskRow i h1 (word0 i h1 arg1 X1 k) (hX k)).toLoadRect
            (arg6.view.writes (Elt F) G (rows0 i h1 arg1 arg6 X1 hX G k.val)))⟩ :: rows0 i h1 arg1 arg6 X1 hX G k.val := by
  rw [rows0.eq_2]; exact dif_pos k.isLt

set_option warn.classDefReducibility false in
/-- The loop by its invariant: before trip `k` the mask holds the rows written so far. -/
@[sl_loop] def loopInv_k0_t1 (c : Dev nD) (i : grid0.Coords) (arg1 : Memref sig .tc .smem S124 .i32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S256x4096 .fp8e4m3) (harg4 : arg4.IsWhole) (arg5 : Memref sig .tc .vmem S256x32 .f32) (harg5 : arg5.IsWhole) (arg6 : Memref sig .tc .vmem S32x128 .f32) (harg6 : arg6.IsWhole) (k0_h1 : k0_cond1 i = 1#1)
    (X1 : Bf F arg1) (hX : Words0 i k0_h1 arg1 X1) (G : Bf F arg6) :
    LoopInvTy_k0_t1 (F := F) Unit ℕ (UR sig nD τ) ℕ Variants.none c none Set.univ i arg1 harg1 arg2 harg2 arg3 harg3 arg4 harg4 arg5 harg5 arg6 harg6 k0_h1 where
  inv := fun k _ => iprop(pt c arg1 X1 ∗ ∃ f, pt c arg6 f ∗ ⌜f = arg6.view.writes (Elt F) G (rows0 i k0_h1 arg1 arg6 X1 hX G k)⌝)
  step := fun k acc => by
    have hk := hX k
    unfold k0_t1_body
    iintro ⟨H1, ⟨%f, H6, %hf⟩⟩
    subst hf
    sl_exec
    sl_step
    isplitl [H1]; · iexact H1
    rw [rows0_succ]
    iexists _; isplitl [H6]; · iexact H6
    ipureintro; rfl

end Cert.KernelIdeal.Hand

end
-- ==== Proof.KI.QuantBody.lean ====
/-
  The body of the first kernel, run once for the points past the first (the mask is already there) and once for the first
  point (the mask is cleared and built, then used in the same way).
-/
module

public import proofs.«01_k».proof.Proof.KI.QuantLoop
public import Idealize.ShloMosaic.Lib.Pipeline.FrameBody
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The lists of pieces that the first kernel leaves in its three results. -/
abbrev Pieces3 (F : FTy → Type) : Type :=
  List (View.Piece (Elt F) S256x4096 .bf16) × List (View.Piece (Elt F) S256x4096 .fp8e4m3) × List (View.Piece (Elt F) S256x32 .f32)

/-- A later point: the mask is only read. -/
def quantRun (c : Dev nD) (i : grid0.Coords) (hi : ¬ k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X2 : Bf F arg2) (X6 : Bf F arg6) :
    { L : Pieces3 F //
      ∀ (f3 : Bf F arg3) (f4 : Bf F arg4) (f5 : Bf F arg5),
      iprop(pt c arg2 X2 ∗ pt c arg6 X6 ∗ pt c arg3 f3 ∗ pt c arg4 f4 ∗ pt c arg5 f5)
        ⊢ wp frame (wpE (defs₀ (F := F)) Variants.none (c : Thread nD τ) none) Set.univ (cc0_quant i arg1 h1 arg2 h2 arg3 h3 arg4 h4 arg5 h5 arg6 h6)
          (fun _ => iprop(pt c arg2 X2 ∗ pt c arg6 X6 ∗ pt c arg3 (arg3.view.writes (Elt F) f3 L.1) ∗ pt c arg4 (arg4.view.writes (Elt F) f4 L.2.1)
            ∗ pt c arg5 (arg5.view.writes (Elt F) f5 L.2.2))) } := by
  refine ⟨⟨?_, ?_, ?_⟩, fun f3 f4 f5 => ?run⟩
  case run =>
    iintro ⟨H2, H6, H3, H4, H5⟩
    sl_exec
    sl_step
    sl_close

/-- The clearing store. -/
abbrev clearing : List (View.Piece (Elt F) S32x128 .f32) :=
  [⟨Rect.unit (s := S32x128) ![0, 0] S32x128.size inb_S32x128_S32x128_0_0, k0_pay2 (F := F)⟩]

/-- The mask after it is cleared and the loop has run. -/
abbrev built (i : grid0.Coords) (hi : k0_cond1 i = 1#1) (arg1 : Memref sig .tc .smem S124 .i32) (arg6 : Memref sig .tc .vmem S32x128 .f32)
    (X1 : Bf F arg1) (hX : Words0 i hi arg1 X1) : Bf F arg6 :=
  arg6.view.writes (Elt F) arg6.view.junk
    (rows0 i hi arg1 arg6 X1 hX (arg6.view.writes (Elt F) arg6.view.junk clearing) (Scf.trips k0_t1_loop.lb k0_t1_loop.ub k0_t1_loop.st) ++ clearing)

/-- The first point: the mask is cleared and built from the indices. -/
def quantRunFirst (c : Dev nD) (i : grid0.Coords) (hi : k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X1 : Bf F arg1) (hX : Words0 i hi arg1 X1) (X2 : Bf F arg2) :
    { L : Pieces3 F //
      ∀ (f6 : Bf F arg6) (f3 : Bf F arg3) (f4 : Bf F arg4) (f5 : Bf F arg5),
      iprop(pt c arg1 X1 ∗ pt c arg2 X2 ∗ pt c arg6 f6 ∗ pt c arg3 f3 ∗ pt c arg4 f4 ∗ pt c arg5 f5)
        ⊢ wp frame (wpE (defs₀ (F := F)) Variants.none (c : Thread nD τ) none) Set.univ (cc0_quant i arg1 h1 arg2 h2 arg3 h3 arg4 h4 arg5 h5 arg6 h6)
          (fun _ => iprop(pt c arg1 X1 ∗ pt c arg2 X2 ∗ pt c arg6 (built i hi arg1 arg6 X1 hX)
            ∗ pt c arg3 (arg3.view.writes (Elt F) f3 L.1) ∗ pt c arg4 (arg4.view.writes (Elt F) f4 L.2.1)
            ∗ pt c arg5 (arg5.view.writes (Elt F) f5 L.2.2))) } := by
  refine ⟨⟨?_, ?_, ?_⟩, fun f6 f3 f4 f5 => ?run⟩
  case run =>
    iintro ⟨H1, H2, H6, H3, H4, H5⟩
    sl_exec
    sl_step
    sl_close

/-! ## One block of 128 columns -/

/-- The scale of each row of a block: the mask row and the block of `x` it is computed from. -/
def blkScale (m : Vec F S1x128 .f32) (x : Vec F S256x128 .bf16) : FVec F S256x1 .f32 := k0_pay10 (k0_pay9 m x) 23#32
/-- The codes of a block. -/
def blkCodes (m : Vec F S1x128 .f32) (x : Vec F S256x128 .bf16) : FVec F S256x128 .fp8e4m3 := k0_pay11 (k0_pay7 m x) (k0_pay8 m x)
/-- The matrix operand of a block: the outlier columns as they are, the others quantised and scaled back. -/
def blkXm (m : Vec F S1x128 .f32) (x : Vec F S256x128 .bf16) : FVec F S256x128 .bf16 :=
  k0_pay12 (k0_pay5 m) (k0_pay6 x) (k0_pay7 m x) (k0_pay8 m x) (k0_pay9 m x) 23#32

/-- Block `j`'s mask row and columns. -/
theorem mrow_inb (j : Fin 32) : ∀ a, (![j.val, 0] : Fin 2 → ℕ) a + S1x128.size a ≤ S32x128.size a := by
  intro a; fin_cases a
  · show j.val + 1 ≤ 32; omega
  · show 0 + 128 ≤ 128; omega
theorem xcol_inb (j : Fin 32) : ∀ a, (![0, 128 * j.val] : Fin 2 → ℕ) a + S256x128.size a ≤ S256x4096.size a := by
  intro a; fin_cases a
  · show 0 + 256 ≤ 256; omega
  · show 128 * j.val + 128 ≤ 4096; omega
def mrow (M : S32x128.Idx → F .f32) (j : Fin 32) : Vec F S1x128 .f32 := View.ld (Val := Elt F) (e' := .f32) M (Rect.unit (s := S32x128) ![j.val, 0] S1x128.size (mrow_inb j))
def xcol (X : S256x4096.Idx → F .bf16) (j : Fin 32) : Vec F S256x128 .bf16 := View.ld (Val := Elt F) (e' := .bf16) X (Rect.unit (s := S256x4096) ![0, 128 * j.val] S256x128.size (xcol_inb j))

/-- The blocks, last first. -/
def blocks : List (Fin 32) := [31, 30, 29, 28, 27, 26, 25, 24, 23, 22, 21, 20, 19, 18, 17, 16, 15, 14, 13, 12, 11, 10, 9, 8, 7, 6, 5, 4, 3, 2, 1, 0]

theorem mem_blocks (j : Fin 32) : j ∈ blocks := by revert j; decide

/-- One step of the scales: column `j` takes the block's scale, the others stay. -/
def selCol (j : Fin 32) (acc : FVec F S256x32 .f32) (s : FVec F S256x1 .f32) : FVec F S256x32 .f32 :=
  select (cmpi .eq (iota .tc S256x32 32 [1] iota_S256x32_d1_w32) (broadcast S256x32 (BitVec.ofNat 32 j.val)))
    (broadcastTo S256x32 (shapeCast S256x1 s shapeCasts_S256x1_S256x1) broadcasts_S256x1_S256x32) acc

/-- The columns of the scales after the blocks of a list, newest first. -/
def scalesUpto (M : S32x128.Idx → F .f32) (X : S256x4096.Idx → F .bf16) : List (Fin 32) → FVec F S256x32 .f32
  | [] => k0_pay4
  | j :: l => selCol j (scalesUpto M X l) (blkScale (mrow M j) (xcol X j))

/-- The pieces of the three results, from the mask and the block of `x`. -/
def pieces3 (M : S32x128.Idx → F .f32) (X : S256x4096.Idx → F .bf16) : Pieces3 F :=
  (blocks.map fun j => ⟨Rect.unit (s := S256x4096) ![0, 128 * j.val] S256x128.size (xcol_inb j), blkXm (mrow M j) (xcol X j)⟩,
   blocks.map fun j => ⟨Rect.unit (s := S256x4096) ![0, 128 * j.val] S256x128.size (xcol_inb j), blkCodes (mrow M j) (xcol X j)⟩,
   [⟨Rect.unit (s := S256x32) ![0, 0] S256x32.size inb_S256x32_S256x32_0_0, scalesUpto M X blocks⟩])

set_option maxRecDepth 20000 in
theorem quantRun_pieces (c : Dev nD) (i : grid0.Coords) (hi : ¬ k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X2 : Bf F arg2) (X6 : Bf F arg6) :
    (quantRun c i hi arg1 h1 arg2 h2 arg3 h3 arg4 h4 arg5 h5 arg6 h6 X2 X6).1 = pieces3 (arg6.view.read (Elt F) X6) (arg2.view.read (Elt F) X2) := by
  rfl

set_option maxRecDepth 20000 in
theorem quantRunFirst_pieces (c : Dev nD) (i : grid0.Coords) (hi : k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X1 : Bf F arg1) (hX : Words0 i hi arg1 X1) (X2 : Bf F arg2) :
    (quantRunFirst c i hi arg1 h1 arg2 h2 arg3 h3 arg4 h4 arg5 h5 arg6 h6 X1 hX X2).1
      = pieces3 (arg6.view.read (Elt F) (built i hi arg1 arg6 X1 hX)) (arg2.view.read (Elt F) X2) := by
  rfl

end Cert.KernelIdeal.Hand

end
-- ==== Proof.KI.QuantWords.lean ====
/-
  An outlier index's row and lane in the mask, as the first kernel's loop computes them.
-/
module

public import Idealize.ShloMosaic.Lib.WordCmp
public import proofs.«01_k».proof.Proof.KI.QuantBody
public import Idealize.ShloMosaic.Lib.PointwiseCore
public import Idealize.ShloMosaic.Lib.WritesUnit
public import Idealize.ShloMosaic.Lib.Routing.Words

@[expose] public section

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

theorem trips0 : k0_t1_loop.trips = 124 := by decide

set_option maxRecDepth 100000 in
/-- The mask row of an index below 4096. -/
theorem off2_eq : ∀ n : Fin 4096, k0_off2 (BitVec.ofNat 32 n.val) = ![n.val / 128, 0] := by decide +kernel

/-- The lane of an index word, as the kernel computes it. -/
def lane0 (w : BitVec 32) : BitVec 32 :=
  let m : BitVec 32 := Scalar.select (Scalar.cmpi .eq 128#32 0#32) 1#32 128#32
  let r : BitVec 32 := Scalar.remsi w m
  Scalar.select (Scalar.andi (Scalar.xori (Scalar.cmpi .slt r 0#32) (Scalar.cmpi .slt m 0#32)) (Scalar.cmpi .ne r 0#32)) (Scalar.addi r m) r

set_option maxRecDepth 100000 in
theorem lane0_eq : ∀ n : Fin 4096, lane0 (BitVec.ofNat 32 n.val) = BitVec.ofNat 32 (n.val % 128) := by decide +kernel

/-- The row that a trip stores: a one at the index's lane, the other lanes as they were. -/
theorem pay3_apply (w : BitVec 32) (hw : w.toNat < 4096) (row : Vec F S1x128 .f32) (l : Fin 128) :
    k0_pay3 w row (ix2 0 l) = if l.val = w.toNat % 128 then Scalar.ofBits .f32 0x3F800000#32 else row (ix2 0 l) := by
  have hl : lane0 w = BitVec.ofNat 32 (w.toNat % 128) := by
    have := lane0_eq ⟨w.toNat, hw⟩
    rwa [show BitVec.ofNat 32 (⟨w.toNat, hw⟩ : Fin 4096).val = w from BitVec.eq_of_toNat_eq (by simp)] at this
  have h0 : k0_pay3 w row = shapeCast S1x128 (select (cmpi .eq (iota .tc S1x128 32 [1] iota_S1x128_d1_w32) (broadcast S1x128 (lane0 w)))
    (broadcast S1x128 (Scalar.ofBits .f32 0x3F800000#32)) row) shapeCasts_S1x128_S1x128 := rfl
  rw [h0, hl]
  pointwise
  have hc : IntOp.cmpi .eq (BitVec.ofNat 32 l.val) (BitVec.ofNat 32 (w.toNat % 128)) = if l.val = w.toNat % 128 then 1#1 else 0#1 := by
    rw [Idealize.ShloMosaic.WordCmp.cmpi_eq_eq_toNat, BitVec.toNat_ofNat, BitVec.toNat_ofNat,
        Nat.mod_eq_of_lt (by omega : l.val < 2 ^ 32), Nat.mod_eq_of_lt (by omega : w.toNat % 128 < 2 ^ 32)]
    by_cases h : l.val = w.toNat % 128
    · rw [if_pos h, decide_eq_true h]; rfl
    · rw [if_neg h, decide_eq_false h]; rfl
  rw [hc]
  by_cases h : l.val = w.toNat % 128
  · rw [if_pos h, if_pos h]; exact if_pos (by decide)
  · rw [if_neg h, if_neg h]; exact if_neg (by decide)

end Cert.KernelIdeal.Hand

end
-- ==== Proof.KI.QuantMask.lean ====
/-
  What the loop leaves in the mask: a one exactly at the outlier columns (column `128 r + l` at row `r`, lane `l`).
-/
module

public import proofs.«01_k».proof.Proof.KI.QuantWords
public import Idealize.ShloMosaic.Lib.PointwiseCore
public import Idealize.ShloMosaic.Lib.WritesUnit
public import Idealize.ShloMosaic.Lib.Routing.Words

@[expose] public section

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- Position `o` of the index list. -/
abbrev at1 (o : Fin 124) : S124.Idx := Idealize.ShloMosaic.ix1 o

/-- Every index names a column. -/
abbrev InRange (I : S124.Idx → BitVec 32) : Prop := ∀ o : Fin 124, (I (at1 o)).toNat < 4096

/-- The mask of a list of indices. -/
def maskOf (F : FTy → Type) [FloatOps F] (I : S124.Idx → BitVec 32) (k : ℕ) : S32x128.Idx → F .f32 := fun y =>
  if ∃ o : Fin 124, o.val < k ∧ (I (at1 o)).toNat = 128 * (y 0).val + (y 1).val then Scalar.ofBits .f32 0x3F800000#32 else Scalar.ofBits .f32 0x00000000#32

theorem word0_eq (i : grid0.Coords) (h1 : k0_cond1 i = 1#1) (arg1 : Memref sig .tc .smem S124 .i32) (X1 : Bf F arg1) (k : Fin k0_t1_loop.trips) :
    word0 i h1 arg1 X1 k = arg1.view.read (Elt F) X1 (at1 ⟨k.val, trips0 ▸ k.isLt⟩) := by
  show arg1.view.read (Elt F) X1 _ = _
  congr 1
  funext a
  apply Fin.ext
  have hc : k0_off1 k = ![k.val] := k0_off1_eq k
  match a with
  | ⟨0, _⟩ =>
    show k0_off1 k 0 + 1 * 0 = k.val
    rw [hc]; rfl

theorem off2_of_lt (w : BitVec 32) (hw : w.toNat < 4096) : k0_off2 w = ![w.toNat / 128, 0] := by
  have := off2_eq ⟨w.toNat, hw⟩
  rwa [show BitVec.ofNat 32 (⟨w.toNat, hw⟩ : Fin 4096).val = w from BitVec.eq_of_toNat_eq (by simp)] at this

theorem words0_of_inRange (i : grid0.Coords) (h1 : k0_cond1 i = 1#1) (arg1 : Memref sig .tc .smem S124 .i32) (X1 : Bf F arg1)
    (hI : InRange (arg1.view.read (Elt F) X1)) : Words0 i h1 arg1 X1 := fun k => by
  intro _ a
  have hw := hI ⟨k.val, trips0 ▸ k.isLt⟩
  rw [word0_eq, off2_of_lt _ hw]
  fin_cases a
  · show _ / 128 + 1 ≤ 32; omega
  · show 0 + 128 ≤ 128; omega

/-- After `k` trips the mask holds a one at the columns that the first `k` indices name. -/
theorem read_rows0 (i : grid0.Coords) (h1 : k0_cond1 i = 1#1) (arg1 : Memref sig .tc .smem S124 .i32) (arg6 : Memref sig .tc .vmem S32x128 .f32)
    (X1 : Bf F arg1) (hX : Words0 i h1 arg1 X1) (hI : InRange (arg1.view.read (Elt F) X1)) :
    ∀ k, k ≤ k0_t1_loop.trips → arg6.view.read (Elt F) (arg6.view.writes (Elt F) (arg6.view.writes (Elt F) arg6.view.junk clearing)
        (rows0 i h1 arg1 arg6 X1 hX (arg6.view.writes (Elt F) arg6.view.junk clearing) k)) = maskOf F (arg1.view.read (Elt F) X1) k
  | 0, _ => by
    funext y
    rw [show rows0 i h1 arg1 arg6 X1 hX (arg6.view.writes (Elt F) arg6.view.junk clearing) 0 = [] from rfl, View.writes_nil,
      View.read_writes_junk_apply_eq_canon]
    unfold maskOf
    rw [if_neg (by rintro ⟨o, h, -⟩; omega), View.canon_unit_zero (by funext a; fin_cases a <;> rfl)]
    idx_vars y
    pointwise [k0_pay2]
  | k + 1, hk => by
    have ih := read_rows0 i h1 arg1 arg6 X1 hX hI k (Nat.le_of_succ_le hk)
    have hk' : k < 124 := trips0 ▸ hk
    funext y
    rw [rows0_succ i h1 arg1 arg6 X1 hX _ ⟨k, hk⟩]
    have hw : (word0 i h1 arg1 X1 ⟨k, hk⟩).toNat < 4096 := by rw [word0_eq]; exact hI _
    have hwo : (word0 i h1 arg1 X1 ⟨k, hk⟩) = arg1.view.read (Elt F) X1 (at1 ⟨k, hk'⟩) := word0_eq i h1 arg1 X1 ⟨k, hk⟩
    obtain ⟨r, l, rfl⟩ := show ∃ r l, y = ix2 r l from ⟨y 0, y 1, eq_ix2 y⟩
    have hm : maskOf F (arg1.view.read (Elt F) X1) (k + 1) (ix2 r l)
        = if (arg1.view.read (Elt F) X1 (at1 ⟨k, hk'⟩)).toNat = 128 * r.val + l.val then Scalar.ofBits .f32 0x3F800000#32
          else maskOf F (arg1.view.read (Elt F) X1) k (ix2 r l) := by
      unfold maskOf
      show (if ∃ o : Fin 124, o.val < k + 1 ∧ (arg1.view.read (Elt F) X1 (at1 o)).toNat = 128 * r.val + l.val then _ else _)
        = if _ then _ else if ∃ o : Fin 124, o.val < k ∧ (arg1.view.read (Elt F) X1 (at1 o)).toNat = 128 * r.val + l.val then _ else _
      by_cases h : (arg1.view.read (Elt F) X1 (at1 ⟨k, hk'⟩)).toNat = 128 * r.val + l.val
      · rw [if_pos h, if_pos ⟨⟨k, hk'⟩, Nat.lt_succ_self k, h⟩]
      · rw [if_neg h]
        refine if_congr ⟨?_, ?_⟩ rfl rfl
        · rintro ⟨o, ho, e⟩
          rcases Nat.lt_succ_iff_lt_or_eq.mp ho with ho | ho
          · exact ⟨o, ho, e⟩
          · exact absurd (by rwa [show o = ⟨k, hk'⟩ from Fin.ext ho] at e) h
        · rintro ⟨o, ho, e⟩; exact ⟨o, Nat.lt_succ_of_lt ho, e⟩
    rw [hm, ← hwo]
    by_cases hr : r.val = (word0 i h1 arg1 X1 ⟨k, hk⟩).toNat / 128
    · refine (View.read_writes_cons_rows_of_mem arg6.view _ _ _ _ (ix2 r l) (ix2 (0 : Fin 1) l) (off2_of_lt _ hw) (by simpa using hr) rfl).trans ?_
      refine (pay3_apply _ hw _ l).trans ?_
      have he : (l.val = (word0 i h1 arg1 X1 ⟨k, hk⟩).toNat % 128) ↔ (word0 i h1 arg1 X1 ⟨k, hk⟩).toNat = 128 * r.val + l.val := by
        have := l.isLt; omega
      refine if_congr he rfl ?_
      refine Eq.trans ?_ (congrFun ih (ix2 r l))
      rw [View.readAt_apply]
      show arg6.view.read (Elt F) _ _ = arg6.view.read (Elt F) _ _
      congr 1
      funext a
      apply Fin.ext
      have ho := off2_of_lt _ hw
      fin_cases a
      · show k0_off2 (word0 i h1 arg1 X1 ⟨k, hk⟩) 0 + 1 * 0 = r.val
        rw [ho, hr]; rfl
      · show k0_off2 (word0 i h1 arg1 X1 ⟨k, hk⟩) 1 + 1 * l.val = l.val
        rw [ho]; show 0 + 1 * l.val = l.val; omega
    · refine (View.read_writes_cons_rows_of_not_mem arg6.view _ _ _ _ (ix2 r l) (off2_of_lt _ hw) (W := 1) rfl
        (by show r.val < _ ∨ _ ≤ r.val; omega)).trans ?_
      rw [if_neg (by have := l.isLt; omega)]
      exact congrFun ih _

/-- **The mask.** After all 124 trips it holds a one exactly at the columns that some index names. -/
theorem read_built (i : grid0.Coords) (h1 : k0_cond1 i = 1#1) (arg1 : Memref sig .tc .smem S124 .i32) (arg6 : Memref sig .tc .vmem S32x128 .f32)
    (X1 : Bf F arg1) (hX : Words0 i h1 arg1 X1) (hI : InRange (arg1.view.read (Elt F) X1)) :
    arg6.view.read (Elt F) (built i h1 arg1 arg6 X1 hX) = maskOf F (arg1.view.read (Elt F) X1) 124 := by
  have h := read_rows0 i h1 arg1 arg6 X1 hX hI 124 (Nat.le_of_eq trips0.symm)
  rw [← h]
  unfold built
  rw [View.writes_append]
  rfl

end Cert.KernelIdeal.Hand

end
-- ==== Proof.KI.WprepBody.lean ====
/-
  The body of the second kernel: 64 blocks of scaled weight codes into the scratch, the outlier rows over them, then the
  scratch rounded into the result.
-/
module

public import proofs.«01_k».proof.Proof.KI.Base
public import Idealize.ShloMosaic.Lib.Pipeline.FrameBody
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The index word that trip `k` reads. -/
abbrev word1 (I : S124.Idx → BitVec 32) (k : Fin k1_t1_loop.trips) : BitVec 32 :=
  View.ld (Val := Elt F) (e' := .i32) I (Rect.unit (s := S124) (k1_off34 k) S1.size (k1_off34_inb k)) (Shape.Idx.first (numel1_S1.symm ▸ Nat.one_pos))

/-- Every index word names a row of the scratch. -/
abbrev Words1 (F : FTy → Type) [FloatOps F] (I : S124.Idx → BitVec 32) : Prop :=
  ∀ (kq : ℕ) (hkq : kq < k1_t1_loop.trips), k1_chk1 (word1 (F := F) I ⟨kq, hkq⟩)

/-- The outlier rows written by the trips before `k`, newest first. -/
def outRows (I : S124.Idx → BitVec 32) (hI : Words1 F I) (WO : S124x256.Idx → F .f32) : ℕ → List (View.Piece (Elt F) S4096x256 .f32)
  | 0 => []
  | k + 1 =>
    if h : k < k1_t1_loop.trips then
      ⟨Rect.unit (s := S4096x256) (k1_off35 (word1 (F := F) I ⟨k, h⟩)) S1x256.size (k1_off35_inb _ (hI k h)),
        k1_pay81 (View.ld (Val := Elt F) (e' := .f32) WO (Rect.unit (s := S124x256) (k1_off33 ⟨k, h⟩) S1x256.size (k1_off33_inb ⟨k, h⟩)))⟩ :: outRows I hI WO k
    else outRows I hI WO k

/-- The blocks of 128 rows, last first. -/
def wblocks : List (Fin 32 × Fin 2) :=
  [(31, 1), (31, 0), (30, 1), (30, 0), (29, 1), (29, 0), (28, 1), (28, 0), (27, 1), (27, 0), (26, 1), (26, 0), (25, 1), (25, 0),
   (24, 1), (24, 0), (23, 1), (23, 0), (22, 1), (22, 0), (21, 1), (21, 0), (20, 1), (20, 0), (19, 1), (19, 0), (18, 1), (18, 0),
   (17, 1), (17, 0), (16, 1), (16, 0), (15, 1), (15, 0), (14, 1), (14, 0), (13, 1), (13, 0), (12, 1), (12, 0), (11, 1), (11, 0),
   (10, 1), (10, 0), (9, 1), (9, 0), (8, 1), (8, 0), (7, 1), (7, 0), (6, 1), (6, 0), (5, 1), (5, 0), (4, 1), (4, 0),
   (3, 1), (3, 0), (2, 1), (2, 0), (1, 1), (1, 0), (0, 1), (0, 0)]

theorem mem_wblocks (j : Fin 32) (h : Fin 2) : (j, h) ∈ wblocks := by revert j h; decide

/-- Where block `(j, h)`'s scale word is read. -/
def wsOff (i : grid1.Coords) (b : Fin 32 × Fin 2) : Fin 2 → ℕ :=
  ![b.1.val, (Scalar.indexCast (Scalar.addi (Scalar.muli (BitVec.ofNat 32 (i 0).val) 2#32) (BitVec.ofNat 32 b.2.val))).toNat]

theorem wsOff_inb (i : grid1.Coords) (b : Fin 32 × Fin 2) : ∀ a, wsOff i b a + S1x1.size a ≤ S32x86.size a := by
  intro a
  fin_cases a
  · show b.1.val + 1 ≤ 32; omega
  · exact k1_off1_inb i b.2 1

theorem wblk_inb (b : Fin 32 × Fin 2) : ∀ a, (![128 * b.1.val, 128 * b.2.val] : Fin 2 → ℕ) a + S128x128.size a ≤ S4096x256.size a := by
  intro a
  fin_cases a
  · show 128 * b.1.val + 128 ≤ 4096; omega
  · show 128 * b.2.val + 128 ≤ 256; omega

/-- The blocks of scaled codes. -/
def scaledBlocks (i : grid1.Coords) (WS : S32x86.Idx → F .f32) (WC : S4096x256.Idx → F .fp8e4m3) : List (View.Piece (Elt F) S4096x256 .f32) :=
  wblocks.map fun b => ⟨Rect.unit (s := S4096x256) ![128 * b.1.val, 128 * b.2.val] S128x128.size (wblk_inb b),
    k1_pay2 (View.ld (Val := Elt F) (e' := .f32) WS (Rect.unit (s := S32x86) (wsOff i b) S1x1.size (wsOff_inb i b)) (Shape.Idx.first (numel1_S1x1.symm ▸ Nat.one_pos)))
      (View.ld (Val := Elt F) (e' := .fp8e4m3) WC (Rect.unit (s := S4096x256) ![128 * b.1.val, 128 * b.2.val] S128x128.size (wblk_inb b)))⟩

/-- The scratch after the loop. -/
def wAcc (i : grid1.Coords) (I : S124.Idx → BitVec 32) (hI : Words1 F I) (WS : S32x86.Idx → F .f32) (WO : S124x256.Idx → F .f32)
    (WC : S4096x256.Idx → F .fp8e4m3) : List (View.Piece (Elt F) S4096x256 .f32) :=
  outRows I hI WO k1_t1_loop.trips ++ scaledBlocks i WS WC

/-- The body: what it leaves in the result and the scratch. -/
def wprepRun (c : Dev nD) (i : grid1.Coords) (arg1 : Memref sig .tc .smem S124 .i32) (h1 : arg1.IsWhole)
    (arg2 : Memref sig .tc .smem S32x86 .f32) (h2 : arg2.IsWhole)
    (arg3 : Memref sig .tc .vmem S124x256 .f32) (h3 : arg3.IsWhole) (arg4 : Memref sig .tc .vmem S4096x256 .fp8e4m3) (h4 : arg4.IsWhole)
    (arg5 : Memref sig .tc .vmem S4096x256 .bf16) (h5 : arg5.IsWhole) (arg6 : Memref sig .tc .vmem S4096x256 .f32) (h6 : arg6.IsWhole)
    (X1 : Bf F arg1) (hX : Words1 F (arg1.view.read (Elt F) X1)) (X2 : Bf F arg2) (X3 : Bf F arg3) (X4 : Bf F arg4) :
    { L : List (View.Piece (Elt F) S4096x256 .bf16) × Bf F arg6 //
      ∀ (f5 : Bf F arg5) (f6 : Bf F arg6),
      iprop(pt c arg1 X1 ∗ pt c arg2 X2 ∗ pt c arg3 X3 ∗ pt c arg4 X4 ∗ pt c arg5 f5 ∗ pt c arg6 f6)
        ⊢ wp frame (wpE (defs₀ (F := F)) Variants.none (c : Thread nD τ) none) Set.univ (cc1_wprep i arg1 h1 arg2 h2 arg3 h3 arg4 h4 arg5 h5 arg6 h6)
          (fun _ => iprop(pt c arg1 X1 ∗ pt c arg2 X2 ∗ pt c arg3 X3 ∗ pt c arg4 X4 ∗ pt c arg5 (arg5.view.writes (Elt F) f5 L.1) ∗ pt c arg6 L.2)) } := by
  have hX' : ∀ (kq : ℕ) (hkq : kq < k1_t1_loop.trips), k1_chk1 (arg1.view.readAt (Elt F) (Rect.unit (s := S124) (k1_off34 ⟨kq, hkq⟩) S1.size
    (k1_off34_inb ⟨kq, hkq⟩)).toLoadRect X1 (Shape.Idx.first (numel1_S1.symm ▸ Nat.one_pos))) := hX
  refine ⟨⟨?_, ?_⟩, fun f5 f6 => ?run⟩
  case run =>
    iintro ⟨H1, H2, H3, H4, H5, H6⟩
    sl_exec
    sl_step
    sl_close

/-- The rows that the loop's trips write are the listed ones. -/
theorem pb_eq (c : Dev nD) (i : grid1.Coords) (arg1 : Memref sig .tc .smem S124 .i32) (h1 : arg1.IsWhole)
    (arg2 : Memref sig .tc .smem S32x86 .f32) (h2 : arg2.IsWhole)
    (arg3 : Memref sig .tc .vmem S124x256 .f32) (h3 : arg3.IsWhole) (arg4 : Memref sig .tc .vmem S4096x256 .fp8e4m3) (h4 : arg4.IsWhole)
    (arg5 : Memref sig .tc .vmem S4096x256 .bf16) (h5 : arg5.IsWhole) (arg6 : Memref sig .tc .vmem S4096x256 .f32) (h6 : arg6.IsWhole)
    (X1 : Bf F arg1) (X3 : Bf F arg3) (hX : Words1 F (arg1.view.read (Elt F) X1)) :
    ∀ k, k ≤ k1_t1_loop.trips → pb_k1_t1 (F := F) Variants.none c none i arg1 h1 arg2 h2 arg3 h3 arg4 h4 arg5 h5 arg6 h6 X1 X3 hX k
      = outRows (arg1.view.read (Elt F) X1) hX (arg3.view.read (Elt F) X3) k
  | 0, _ => rfl
  | k + 1, hk => by
    rw [pb_k1_t1_succ Variants.none c none i arg1 h1 arg2 h2 arg3 h3 arg4 h4 arg5 h5 arg6 h6 X1 X3 hX ⟨k, hk⟩, outRows, dif_pos (show k < k1_t1_loop.trips from hk),
      pb_eq c i arg1 h1 arg2 h2 arg3 h3 arg4 h4 arg5 h5 arg6 h6 X1 X3 hX k (Nat.le_of_succ_le hk)]
    unfold tripL_k1_t1 trip_k1_t1
    rfl

/-- The result is the scratch, rounded. -/
theorem wprepRun_pieces (c : Dev nD) (i : grid1.Coords) (arg1 : Memref sig .tc .smem S124 .i32) (h1 : arg1.IsWhole)
    (arg2 : Memref sig .tc .smem S32x86 .f32) (h2 : arg2.IsWhole)
    (arg3 : Memref sig .tc .vmem S124x256 .f32) (h3 : arg3.IsWhole) (arg4 : Memref sig .tc .vmem S4096x256 .fp8e4m3) (h4 : arg4.IsWhole)
    (arg5 : Memref sig .tc .vmem S4096x256 .bf16) (h5 : arg5.IsWhole) (arg6 : Memref sig .tc .vmem S4096x256 .f32) (h6 : arg6.IsWhole)
    (X1 : Bf F arg1) (hX : Words1 F (arg1.view.read (Elt F) X1)) (X2 : Bf F arg2) (X3 : Bf F arg3) (X4 : Bf F arg4) :
    (wprepRun c i arg1 h1 arg2 h2 arg3 h3 arg4 h4 arg5 h5 arg6 h6 X1 hX X2 X3 X4).1.1 =
      [⟨Rect.unit (s := S4096x256) ![0, 0] S4096x256.size inb_S4096x256_S4096x256_0_0,
        k1_pay1 (View.ld (Val := Elt F) (e' := .f32) (View.canon (wAcc i (arg1.view.read (Elt F) X1) hX (arg2.view.read (Elt F) X2) (arg3.view.read (Elt F) X3) (arg4.view.read (Elt F) X4)))
          (Rect.unit (s := S4096x256) ![0, 0] S4096x256.size inb_S4096x256_S4096x256_0_0))⟩] := by
  have h : (wprepRun c i arg1 h1 arg2 h2 arg3 h3 arg4 h4 arg5 h5 arg6 h6 X1 hX X2 X3 X4).1.1 =
      [⟨Rect.unit (s := S4096x256) ![0, 0] S4096x256.size inb_S4096x256_S4096x256_0_0,
        k1_pay1 (arg6.view.readAt (Elt F) (Rect.unit (s := S4096x256) ![0, 0] S4096x256.size inb_S4096x256_S4096x256_0_0).toLoadRect
          (arg6.view.writes (Elt F) arg6.view.junk
            (pb_k1_t1 Variants.none c none i arg1 h1 arg2 h2 arg3 h3 arg4 h4 arg5 h5 arg6 h6 X1 X3 hX k1_t1_loop.trips
              ++ scaledBlocks i (arg2.view.read (Elt F) X2) (arg4.view.read (Elt F) X4))))⟩] := rfl
  rw [h, View.readAt_writes_junk_eq_canon, pb_eq c i arg1 h1 arg2 h2 arg3 h3 arg4 h4 arg5 h5 arg6 h6 X1 X3 hX _ le_rfl]
  rfl

end Cert.KernelIdeal.Hand

end
-- ==== Proof.KI.MmBody.lean ====
/-
  The body of the third kernel: one matrix product per point, rounded to the result's type.
-/
module

public import proofs.«01_k».proof.Proof.KI.Base
public import Idealize.ShloMosaic.Lib.Pipeline.FrameBody
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body: what it leaves in the result. -/
def mmRun (c : Dev nD) (i : grid2.Coords) (arg2 : Memref sig .tc .vmem S2048x4096 .bf16) (h2 : arg2.IsWhole)
    (arg3 : Memref sig .tc .vmem S4096x256 .bf16) (h3 : arg3.IsWhole) (arg4 : Memref sig .tc .vmem S2048x256 .bf16) (h4 : arg4.IsWhole)
    (X2 : Bf F arg2) (X3 : Bf F arg3) :
    { L : List (View.Piece (Elt F) S2048x256 .bf16) // ∀ (f4 : Bf F arg4),
      iprop(pt c arg2 X2 ∗ pt c arg3 X3 ∗ pt c arg4 f4)
        ⊢ wp frame (wpE (defs₀ (F := F)) Variants.none (c : Thread nD τ) none) Set.univ (cc2_mm i arg2 h2 arg3 h3 arg4 h4)
          (fun _ => iprop(pt c arg2 X2 ∗ pt c arg3 X3 ∗ pt c arg4 (arg4.view.writes (Elt F) f4 L))) } := by
  refine ⟨?_, fun f4 => ?run⟩
  case run =>
    iintro ⟨H2, H3, H4⟩
    sl_exec
    sl_step
    sl_close

/-- The one piece is the rounded product of the two blocks. -/
theorem mmRun_pieces (c : Dev nD) (i : grid2.Coords) (arg2 : Memref sig .tc .vmem S2048x4096 .bf16) (h2 : arg2.IsWhole)
    (arg3 : Memref sig .tc .vmem S4096x256 .bf16) (h3 : arg3.IsWhole) (arg4 : Memref sig .tc .vmem S2048x256 .bf16) (h4 : arg4.IsWhole)
    (X2 : Bf F arg2) (X3 : Bf F arg3) :
    (mmRun c i arg2 h2 arg3 h3 arg4 h4 X2 X3).1 =
      [⟨Rect.unit (s := S2048x256) ![0, 0] S2048x256.size inb_S2048x256_S2048x256_0_0,
        k2_pay1 (View.ld (Val := Elt F) (arg2.view.read (Elt F) X2) (Rect.unit (s := S2048x4096) ![0, 0] S2048x4096.size inb_S2048x4096_S2048x4096_0_0))
          (View.ld (Val := Elt F) (arg3.view.read (Elt F) X3) (Rect.unit (s := S4096x256) ![0, 0] S4096x256.size inb_S4096x256_S4096x256_0_0))⟩] := rfl

end Cert.KernelIdeal.Hand

end
-- ==== Proof.KI.Sound.lean ====
/-
  The three bodies as triples over what the buffers read: each result block as a function of the input blocks.
-/
module

public import proofs.«01_k».proof.Proof.KI.QuantMask
public import proofs.«01_k».proof.Proof.KI.WprepBody
public import proofs.«01_k».proof.Proof.KI.MmBody
public import Idealize.ShloMosaic.Lib.Pipeline.FrameBody
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a memref reads, held whole. -/
abbrev ow (c : Dev nD) {sp : Space} {S : Shape} {e : EltTy} (M : Memref sig .tc sp S e) (X : S.Idx → Elt F e) : sProp 𝕄 :=
  owns (c : Thread nD τ) M fullShare X

/-- A run used under what follows it. -/
theorem use_run {c : Dev nD} {p : Prog (TpuEff nD τ sig (Elt F) Λ₀ .tc) PUnit} {P A : sProp 𝕄} {Q : PUnit → sProp 𝕄}
    (h : P ⊢ wp frame (wpE (defs₀ (F := F)) Variants.none (c : Thread nD τ) none) Set.univ p (fun _ => A)) :
    iprop(P ∗ (A -∗ Q ⟨⟩)) ⊢ wp frame (wpE (defs₀ (F := F)) Variants.none (c : Thread nD τ) none) Set.univ p Q :=
  (BIClass.sep_mono h (sProp.forall_intro fun _ => BIBase.Entails.rfl)).trans (wp_wand_r _ _ _)

/-- One store of the whole leaves its payload. -/
theorem read_one {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f [(⟨Rect.unit off S.size inb, w⟩ : View.Piece (Elt F) S e)]
    (fun y => ⟨_, List.mem_singleton.mpr rfl, View.mem_set_unit_zero h inb y⟩)).trans (View.canon_unit_zero h inb w)

theorem z2 : (![0, 0] : Fin 2 → ℕ) = fun _ => 0 := by funext a; fin_cases a <;> rfl

/-- The column blocks cover the whole. -/
theorem cover_cols {e : EltTy} (G : Fin 32 → S256x128.Idx → Elt F e) (y : S256x4096.Idx) :
    ∃ p ∈ (blocks.map fun j => (⟨Rect.unit (s := S256x4096) ![0, 128 * j.val] S256x128.size (xcol_inb j), G j⟩ : View.Piece (Elt F) S256x4096 e)), y ∈ p.1.set := by
  have h1 : (y 1).val < 4096 := (y 1).isLt
  have h0 : (y 0).val < 256 := (y 0).isLt
  refine ⟨_, List.mem_map.mpr ⟨⟨(y 1).val / 128, by omega⟩, mem_blocks _, rfl⟩, ?_⟩
  refine (Rect.mem_set_unit (inb := xcol_inb ⟨(y 1).val / 128, by omega⟩)).mpr fun a => ?_
  fin_cases a
  · show 0 ≤ (y 0).val ∧ (y 0).val < 0 + 256; omega
  · show 128 * ((y 1).val / 128) ≤ (y 1).val ∧ (y 1).val < 128 * ((y 1).val / 128) + 128; omega

/-- The first kernel's result blocks, from the mask and the block of `x`. -/
def xmBlock (M : S32x128.Idx → F .f32) (X : S256x4096.Idx → F .bf16) : S256x4096.Idx → Elt F .bf16 := View.canon (pieces3 M X).1
@[inherit_doc xmBlock] def codesBlock (M : S32x128.Idx → F .f32) (X : S256x4096.Idx → F .bf16) : S256x4096.Idx → Elt F .fp8e4m3 := View.canon (pieces3 M X).2.1
@[inherit_doc xmBlock] def scaleBlock (M : S32x128.Idx → F .f32) (X : S256x4096.Idx → F .bf16) : S256x32.Idx → Elt F .f32 := scalesUpto M X blocks

theorem read_pieces3 (M : S32x128.Idx → F .f32) (X : S256x4096.Idx → F .bf16)
    (arg3 : Memref sig .tc .vmem S256x4096 .bf16) (arg4 : Memref sig .tc .vmem S256x4096 .fp8e4m3) (arg5 : Memref sig .tc .vmem S256x32 .f32)
    (f3 : Bf F arg3) (f4 : Bf F arg4) (f5 : Bf F arg5) :
    arg3.view.read (Elt F) (arg3.view.writes (Elt F) f3 (pieces3 M X).1) = xmBlock M X
    ∧ arg4.view.read (Elt F) (arg4.view.writes (Elt F) f4 (pieces3 M X).2.1) = codesBlock M X
    ∧ arg5.view.read (Elt F) (arg5.view.writes (Elt F) f5 (pieces3 M X).2.2) = scaleBlock M X := by
  refine ⟨View.read_writes_eq_canon _ _ _ (cover_cols (e := .bf16) fun j => blkXm (mrow M j) (xcol X j)),
    View.read_writes_eq_canon _ _ _ (cover_cols (e := .fp8e4m3) fun j => blkCodes (mrow M j) (xcol X j)), ?_⟩
  exact read_one _ _ z2 _ _

/-- The first kernel at a later point: the mask stays. -/
theorem sound_quant (c : Dev nD) (i : grid0.Coords) (hi : ¬ k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (X : S256x4096.Idx → F .bf16) (M : S32x128.Idx → F .f32) (Q : PUnit → sProp 𝕄) :
    iprop(ow c arg2 X ∗ ow c arg6 M ∗ (∃ Y, ow c arg3 Y) ∗ (∃ Y, ow c arg4 Y) ∗ (∃ Y, ow c arg5 Y)
        ∗ ((ow c arg2 X ∗ ow c arg6 M ∗ ow c arg3 (xmBlock M X) ∗ ow c arg4 (codesBlock M X) ∗ ow c arg5 (scaleBlock M X)) -∗ Q ⟨⟩))
      ⊢ wp frame (wpE (defs₀ (F := F)) Variants.none (c : Thread nD τ) none) Set.univ (cc0_quant i arg1 h1 arg2 h2 arg3 h3 arg4 h4 arg5 h5 arg6 h6) Q := by
  unfold ow owns
  iintro ⟨⟨%f2, %e2, H2⟩, ⟨%f6, %e6, H6⟩, ⟨%Y3, %f3, -, H3⟩, ⟨%Y4, %f4, -, H4⟩, ⟨%Y5, %f5, -, H5⟩, Hk⟩
  subst e2; subst e6
  have hr := (quantRun c i hi arg1 h1 arg2 h2 arg3 h3 arg4 h4 arg5 h5 arg6 h6 f2 f6).2 f3 f4 f5
  rw [quantRun_pieces] at hr
  obtain ⟨r3, r4, r5⟩ := read_pieces3 (arg6.view.read (Elt F) f6) (arg2.view.read (Elt F) f2) arg3 arg4 arg5 f3 f4 f5
  iapply (use_run hr)
  isplitl [H2 H6 H3 H4 H5]
  · isplitl [H2]; · iexact H2
    isplitl [H6]; · iexact H6
    isplitl [H3]; · iexact H3
    isplitl [H4]; · iexact H4
    iexact H5
  iintro ⟨H2, H6, H3, H4, H5⟩
  iapply Hk
  isplitl [H2]; · iexists _; isplitr; swap; (· iexact H2); ipureintro; rfl
  isplitl [H6]; · iexists _; isplitr; swap; (· iexact H6); ipureintro; rfl
  isplitl [H3]; · iexists _; isplitr; swap; (· iexact H3); ipureintro; exact r3
  isplitl [H4]; · iexists _; isplitr; swap; (· iexact H4); ipureintro; exact r4
  iexists _; isplitr; swap; (· iexact H5); ipureintro; exact r5

/-- The first kernel at the first point: the mask is built from the indices. -/
theorem sound_quantFirst (c : Dev nD) (i : grid0.Coords) (hi : k0_cond1 i = 1#1) (arg1 : Memref sig .tc .smem S124 .i32) (h1 : arg1.IsWhole)
    (arg2 : Memref sig .tc .vmem S256x4096 .bf16) (h2 : arg2.IsWhole)
    (arg3 : Memref sig .tc .vmem S256x4096 .bf16) (h3 : arg3.IsWhole) (arg4 : Memref sig .tc .vmem S256x4096 .fp8e4m3) (h4 : arg4.IsWhole)
    (arg5 : Memref sig .tc .vmem S256x32 .f32) (h5 : arg5.IsWhole) (arg6 : Memref sig .tc .vmem S32x128 .f32) (h6 : arg6.IsWhole)
    (I : S124.Idx → BitVec 32) (hI : InRange I) (X : S256x4096.Idx → F .bf16) (Q : PUnit → sProp 𝕄) :
    iprop(ow c arg1 I ∗ ow c arg2 X ∗ (∃ Y, ow c arg6 Y) ∗ (∃ Y, ow c arg3 Y) ∗ (∃ Y, ow c arg4 Y) ∗ (∃ Y, ow c arg5 Y)
        ∗ ((ow c arg1 I ∗ ow c arg2 X ∗ ow c arg6 (maskOf F I 124) ∗ ow c arg3 (xmBlock (maskOf F I 124) X) ∗ ow c arg4 (codesBlock (maskOf F I 124) X)
            ∗ ow c arg5 (scaleBlock (maskOf F I 124) X)) -∗ Q ⟨⟩))
      ⊢ wp frame (wpE (defs₀ (F := F)) Variants.none (c : Thread nD τ) none) Set.univ (cc0_quant i arg1 h1 arg2 h2 arg3 h3 arg4 h4 arg5 h5 arg6 h6) Q := by
  unfold ow owns
  iintro ⟨⟨%f1, %e1, H1⟩, ⟨%f2, %e2, H2⟩, ⟨%Y6, %f6, -, H6⟩, ⟨%Y3, %f3, -, H3⟩, ⟨%Y4, %f4, -, H4⟩, ⟨%Y5, %f5, -, H5⟩, Hk⟩
  subst e2; subst e1
  have hX := words0_of_inRange i hi arg1 f1 hI
  have hr := (quantRunFirst c i hi arg1 h1 arg2 h2 arg3 h3 arg4 h4 arg5 h5 arg6 h6 f1 hX f2).2 f6 f3 f4 f5
  rw [quantRunFirst_pieces] at hr
  have hm := read_built i hi arg1 arg6 f1 hX hI
  obtain ⟨r3, r4, r5⟩ := read_pieces3 (arg6.view.read (Elt F) (built i hi arg1 arg6 f1 hX)) (arg2.view.read (Elt F) f2) arg3 arg4 arg5 f3 f4 f5
  iapply (use_run hr)
  isplitl [H1 H2 H6 H3 H4 H5]
  · isplitl [H1]; · iexact H1
    isplitl [H2]; · iexact H2
    isplitl [H6]; · iexact H6
    isplitl [H3]; · iexact H3
    isplitl [H4]; · iexact H4
    iexact H5
  iintro ⟨H1, H2, H6, H3, H4, H5⟩
  iapply Hk
  isplitl [H1]; · iexists _; isplitr; swap; (· iexact H1); ipureintro; rfl
  isplitl [H2]; · iexists _; isplitr; swap; (· iexact H2); ipureintro; rfl
  isplitl [H6]; · iexists _; isplitr; swap; (· iexact H6); ipureintro; exact hm
  rw [hm] at r3 r4 r5
  isplitl [H3]; · iexists _; isplitr; swap; (· iexact H3); ipureintro; rw [hm]; exact r3
  isplitl [H4]; · iexists _; isplitr; swap; (· iexact H4); ipureintro; rw [hm]; exact r4
  iexists _; isplitr; swap; (· iexact H5); ipureintro; rw [hm]; exact r5

/-! ## The second kernel -/

theorem trips1 : k1_t1_loop.trips = 124 := by decide

/-- The word of a trip is the index of that position. -/
theorem word1_eq (I : S124.Idx → BitVec 32) (k : Fin k1_t1_loop.trips) : word1 (F := F) I k = I (at1 ⟨k.val, trips1 ▸ k.isLt⟩) := by
  show I _ = I _
  congr 1
  funext a
  apply Fin.ext
  have hc : k1_off34 k = ![k.val] := k1_off34_eq k
  match a with
  | ⟨0, _⟩ =>
    show k1_off34 k 0 + 1 * 0 = k.val
    rw [hc]; rfl

theorem off35_eq (w : BitVec 32) : k1_off35 w = ![w.toNat, 0] := rfl

theorem words1_of_inRange (I : S124.Idx → BitVec 32) (hI : InRange I) : Words1 F I := fun k hk => by
  intro a
  have hw := hI ⟨k, trips1 ▸ hk⟩
  rw [word1_eq, off35_eq]
  fin_cases a
  · show _ + 1 ≤ 4096; exact hw
  · show 0 + 256 ≤ 256; omega

/-- The second kernel's result block. -/
def wmBlock (i : grid1.Coords) (I : S124.Idx → BitVec 32) (hI : InRange I) (WS : S32x86.Idx → F .f32) (WO : S124x256.Idx → F .f32)
    (WC : S4096x256.Idx → F .fp8e4m3) : S4096x256.Idx → F .bf16 :=
  k1_pay1 (View.canon (Val := Elt F) (e := .f32) (wAcc i I (words1_of_inRange I hI) WS WO WC))

theorem sound_wprep (c : Dev nD) (i : grid1.Coords) (arg1 : Memref sig .tc .smem S124 .i32) (h1 : arg1.IsWhole)
    (arg2 : Memref sig .tc .smem S32x86 .f32) (h2 : arg2.IsWhole)
    (arg3 : Memref sig .tc .vmem S124x256 .f32) (h3 : arg3.IsWhole) (arg4 : Memref sig .tc .vmem S4096x256 .fp8e4m3) (h4 : arg4.IsWhole)
    (arg5 : Memref sig .tc .vmem S4096x256 .bf16) (h5 : arg5.IsWhole) (arg6 : Memref sig .tc .vmem S4096x256 .f32) (h6 : arg6.IsWhole)
    (I : S124.Idx → BitVec 32) (hI : InRange I) (WS : S32x86.Idx → F .f32) (WO : S124x256.Idx → F .f32) (WC : S4096x256.Idx → F .fp8e4m3) (Q : PUnit → sProp 𝕄) :
    iprop(ow c arg1 I ∗ ow c arg2 WS ∗ ow c arg3 WO ∗ ow c arg4 WC ∗ (∃ Y, ow c arg5 Y) ∗ (∃ Y, ow c arg6 Y)
        ∗ ((ow c arg1 I ∗ ow c arg2 WS ∗ ow c arg3 WO ∗ ow c arg4 WC ∗ ow c arg5 (wmBlock i I hI WS WO WC) ∗ (∃ Y, ow c arg6 Y)) -∗ Q ⟨⟩))
      ⊢ wp frame (wpE (defs₀ (F := F)) Variants.none (c : Thread nD τ) none) Set.univ (cc1_wprep i arg1 h1 arg2 h2 arg3 h3 arg4 h4 arg5 h5 arg6 h6) Q := by
  unfold ow owns
  iintro ⟨⟨%f1, %e1, H1⟩, ⟨%f2, %e2, H2⟩, ⟨%f3, %e3, H3⟩, ⟨%f4, %e4, H4⟩, ⟨%Y5, %f5, -, H5⟩, ⟨%Y6, %f6, -, H6⟩, Hk⟩
  subst e2; subst e1; subst e3; subst e4
  have hX := words1_of_inRange (F := F) _ hI
  have hr := (wprepRun c i arg1 h1 arg2 h2 arg3 h3 arg4 h4 arg5 h5 arg6 h6 f1 hX f2 f3 f4).2 f5 f6
  rw [wprepRun_pieces] at hr
  iapply (use_run hr)
  isplitl [H1 H2 H3 H4 H5 H6]
  · isplitl [H1]; · iexact H1
    isplitl [H2]; · iexact H2
    isplitl [H3]; · iexact H3
    isplitl [H4]; · iexact H4
    isplitl [H5]; · iexact H5
    iexact H6
  iintro ⟨H1, H2, H3, H4, H5, H6⟩
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]
  · iexists _; isplitr; swap; (· iexact H5); ipureintro
    refine (read_one _ _ z2 _ _).trans ?_
    rw [View.ld_unit_zero z2]
    rfl
  iexists _; iexists _; isplitr; swap; (· iexact H6); ipureintro; rfl

/-- The third kernel's result block. -/
def mmBlock (X : S2048x4096.Idx → F .bf16) (W : S4096x256.Idx → F .bf16) : S2048x256.Idx → F .bf16 := k2_pay1 X W

theorem sound_mm (c : Dev nD) (i : grid2.Coords) (arg2 : Memref sig .tc .vmem S2048x4096 .bf16) (h2 : arg2.IsWhole)
    (arg3 : Memref sig .tc .vmem S4096x256 .bf16) (h3 : arg3.IsWhole) (arg4 : Memref sig .tc .vmem S2048x256 .bf16) (h4 : arg4.IsWhole)
    (X : S2048x4096.Idx → F .bf16) (W : S4096x256.Idx → F .bf16) (Q : PUnit → sProp 𝕄) :
    iprop(ow c arg2 X ∗ ow c arg3 W ∗ (∃ Y, ow c arg4 Y) ∗ ((ow c arg2 X ∗ ow c arg3 W ∗ ow c arg4 (mmBlock X W)) -∗ Q ⟨⟩))
      ⊢ wp frame (wpE (defs₀ (F := F)) Variants.none (c : Thread nD τ) none) Set.univ (cc2_mm i arg2 h2 arg3 h3 arg4 h4) Q := by
  unfold ow owns
  iintro ⟨⟨%f2, %e2, H2⟩, ⟨%f3, %e3, H3⟩, ⟨%Y4, %f4, -, H4⟩, Hk⟩
  subst e2; subst e3
  have hr := (mmRun c i arg2 h2 arg3 h3 arg4 h4 f2 f3).2 f4
  rw [mmRun_pieces] at hr
  iapply (use_run hr)
  isplitl [H2 H3 H4]
  · isplitl [H2]; · iexact H2
    isplitl [H3]; · iexact H3
    iexact H4
  iintro ⟨H2, H3, H4⟩
  iapply Hk
  isplitl [H2]; · iexists _; isplitr; swap; (· iexact H2); ipureintro; rfl
  isplitl [H3]; · iexists _; isplitr; swap; (· iexact H3); ipureintro; rfl
  iexists _; isplitr; swap; (· iexact H4); ipureintro
  refine (read_one _ _ z2 _ _).trans ?_
  rw [View.ld_unit_zero z2, View.ld_unit_zero z2]
  rfl

end Cert.KernelIdeal.Hand

end
-- ==== Proof.KI.Dat0.lean ====
/-
  The first kernel's proof data: what its buffers hold at each grid point, and its body at any point.
-/
module

public import proofs.«01_k».proof.Proof.KI.Sound
public import proofs.«01_k».proof.Proof.Gen.KernelIdeal.Launch
public import Idealize.ShloMosaic.Lib.Pipeline.Frame
public import Idealize.ShloMosaic.Lib.Pipeline.RegionArraysTS

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

/-- The admissible tables: the index list, for the two kernels that take it. -/
def tabs (I : S124.Idx → BitVec 32) : (p : Fin 3) → (pcfgs (F := F) p).Adm
  | ⟨0, _⟩ => ⟨fun | ⟨0, _⟩ => I, trivial⟩
  | ⟨1, _⟩ => ⟨fun | ⟨0, _⟩ => I, trivial⟩
  | ⟨2, _⟩ => cfg2.toPCfg_adm

variable (I : S124.Idx → BitVec 32)

/-- A window's block at a point, read off the array as the region finds it. -/
abbrev blk0 (W : Valuation τ sig (Elt F)) (w : Fin 4) (t : Fin (cfg0 (tabs (F := F) I 0)).N) :=
  (((cfg0 (tabs (F := F) I 0)).win w).blk t).view.read (Elt F) (W (Pipeline.arrRef spec0 w))

/-- The buffers the first kernel does not touch. -/
def rest0 (c : Dev nD) : sProp 𝕄 := iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc1_stg0_0), ((c : Thread nD τ).loc cc1_stg0_0) ↦{fullShare} f))

/-- Between points: the mask is built from the first point on; the index list is held. -/
def Φ0 (c : Dev nD) (t : ℕ) : sProp 𝕄 :=
  iprop((∃ Y, ⌜t ≠ 0 → Y = maskOf F I 124⌝ ∗ ow c (Memref.whole cc0_scratch0) Y) ∗ rest0 c ∗ ow c (Memref.whole main_arg1) I)

/-- The proof data of the first kernel's pipeline, entered at a valuation. -/
def dat0 (W : Dev nD → Valuation τ sig (Elt F)) (c : Dev nD) : Dat τ (Elt F) Unit ℕ (UR sig nD τ) ℕ (cfg0 (tabs (F := F) I 0)) c where
  A w := W c (Pipeline.arrRef spec0 w)
  after w t := match w with
    | ⟨0, _⟩ => blk0 I (W c) 0 t
    | ⟨1, _⟩ => xmBlock (maskOf F I 124) (blk0 I (W c) 0 t)
    | ⟨2, _⟩ => codesBlock (maskOf F I 124) (blk0 I (W c) 0 t)
    | ⟨3, _⟩ => scaleBlock (maskOf F I 124) (blk0 I (W c) 0 t)
  Φ t := Φ0 I c t.val
  q _ := fullShare
  owed _ := 0

variable (W : Dev nD → Valuation τ sig (Elt F))

theorem A0_eq (c : Dev nD) (w : Fin 4) : (dat0 I W c).A w = W c (Pipeline.arrRef spec0 w) := by dsimp only [dat0]
theorem after0_0 (c : Dev nD) (t) : (dat0 I W c).after 0 t = blk0 I (W c) 0 t := rfl
theorem after0_1 (c : Dev nD) (t) : (dat0 I W c).after 1 t = xmBlock (maskOf F I 124) (blk0 I (W c) 0 t) := rfl
theorem after0_2 (c : Dev nD) (t) : (dat0 I W c).after 2 t = codesBlock (maskOf F I 124) (blk0 I (W c) 0 t) := rfl
theorem after0_3 (c : Dev nD) (t) : (dat0 I W c).after 3 t = scaleBlock (maskOf F I 124) (blk0 I (W c) 0 t) := rfl

theorem before0_0 (c : Dev nD) (t) (d) : (dat0 I W c).before 0 t d = blk0 I (W c) 0 t :=
  ((dat0 I W c).before_in_eq_fetched 0 rfl (fun _ => rfl) (fun _ _ _ => rfl) (fun t => by rw [after0_0]; unfold Dat.blockOf; rw [A0_eq]; try rfl) t d).trans
    (by unfold Dat.fetched Dat.blockOf; rw [A0_eq]; try rfl)

/-- The mask is built at point 0 alone. -/
theorem cond0_iff : ∀ t : Fin grid0.N, k0_cond1 (grid0.coords t) = 1#1 ↔ t.val = 0 := by decide +kernel

variable (hI : InRange I)
include hI

/-- The first kernel's body at any point. -/
theorem body0 (c : Dev nD) : BodyObligation (dat0 I W c) (defs₀ (F := F)) Variants.none () Set.univ := fun t => by
  rw [bigSep_W0, bigSep_W0]
  unfold defs₀; rw [Defs.onTc_tc]
  rw [show (dat0 I W c).Φ t.castSucc = Φ0 I c t.val from rfl, show (dat0 I W c).Φ t.succ = Φ0 I c (t.val + 1) from rfl,
    show (dat0 I W c).owesAt () t.succ = (dat0 I W c).owesAt () t.castSucc from rfl]
  unfold Φ0
  iintro ⟨⟨⟨%Y, %hY, Hm⟩, Hr, Ht⟩, Ho, ⟨%d0, H0⟩, ⟨%d1, H1⟩, ⟨%d2, H2⟩, ⟨%d3, H3⟩⟩
  have e0 := before0_0 I W c t d0
  by_cases h : t.val = 0
  · have hc := (cond0_iff t).mpr h
    iapply (sound_quantFirst (F := F) c (grid0.coords t) hc (Memref.whole main_arg1) (Memref.isWhole_whole _) _ _ _ _ _ _ _ _ (Memref.whole cc0_scratch0) (Memref.isWhole_whole _) I hI (blk0 I (W c) 0 t) _)
    isplitl [Ht]; · iexact Ht
    isplitl [H0]; · rw [← e0]; iexact H0
    isplitl [Hm]; · iexists _; iexact Hm
    isplitl [H1]; · iexists _; iexact H1
    isplitl [H2]; · iexists _; iexact H2
    isplitl [H3]; · iexists _; iexact H3
    iintro ⟨Ht, H0, Hm, H1, H2, H3⟩
    isplitl [Hm Hr Ht]
    · isplitl [Hm]
      · iexists _; isplitr; swap; (· iexact Hm); ipureintro; exact fun _ => rfl
      isplitl [Hr]; · iexact Hr
      iexact Ht
    isplitl [Ho]; · iexact Ho
    isplitl [H0]; · rw [after0_0]; iexact H0
    isplitl [H1]; · rw [after0_1]; iexact H1
    isplitl [H2]; · rw [after0_2]; iexact H2
    rw [after0_3]; iexact H3
  · have hc : ¬ k0_cond1 (grid0.coords t) = 1#1 := fun e => h ((cond0_iff t).mp e)
    obtain rfl := hY h
    iapply (sound_quant (F := F) c (grid0.coords t) hc (Memref.whole main_arg1) (Memref.isWhole_whole _) _ _ _ _ _ _ _ _ (Memref.whole cc0_scratch0) (Memref.isWhole_whole _) (blk0 I (W c) 0 t) (maskOf F I 124) _)
    isplitl [H0]; · rw [← e0]; iexact H0
    isplitl [Hm]; · iexact Hm
    isplitl [H1]; · iexists _; iexact H1
    isplitl [H2]; · iexists _; iexact H2
    isplitl [H3]; · iexists _; iexact H3
    iintro ⟨H0, Hm, H1, H2, H3⟩
    isplitl [Hm Hr Ht]
    · isplitl [Hm]
      · iexists _; isplitr; swap; (· iexact Hm); ipureintro; exact fun _ => rfl
      isplitl [Hr]; · iexact Hr
      iexact Ht
    isplitl [Ho]; · iexact Ho
    isplitl [H0]; · rw [after0_0]; iexact H0
    isplitl [H1]; · rw [after0_1]; iexact H1
    isplitl [H2]; · rw [after0_2]; iexact H2
    rw [after0_3]; iexact H3

omit hI in
/-- The prefetched table is the index list, held. -/
theorem table_eq (c : Dev nD) : (ow c (Memref.whole main_arg1) I : sProp 𝕄) = iprop(((c : Thread nD τ).loc main_arg1) ↦{fullShare} I) := by
  unfold ow
  rw [owns_whole_eq]
  refine equiv_iff.mp ⟨?_, ?_⟩
  · show (iprop(∃ f, ⌜f = I⌝ ∗ (((c : Thread nD τ).loc main_arg1) ↦{fullShare} f)) : sProp 𝕄) ⊢ iprop(((c : Thread nD τ).loc main_arg1) ↦{fullShare} I)
    iintro ⟨%f, %e, H⟩
    subst e; iexact H
  · show (iprop(((c : Thread nD τ).loc main_arg1) ↦{fullShare} I) : sProp 𝕄) ⊢ iprop(∃ f, ⌜f = I⌝ ∗ (((c : Thread nD τ).loc main_arg1) ↦{fullShare} f))
    iintro H
    iexists I; isplitr; · ipureintro; rfl
    iexact H

omit hI in
theorem tables0 (c : Dev nD) : (Pipeline.tablesAt (pcfgs (F := F)) (tabs (F := F) I) 0 c : sProp 𝕄) = ow c (Memref.whole main_arg1) I := by
  rw [table_eq]
  exact bigSep_singleton (I := Fin 1) (i := 0)

omit hI in
theorem in0 (c : Dev nD) : iprop(iprop(Pipeline.scopedRest (Ix := Unit) (Name := ℕ) (U := UR sig nD τ) (Lvl := ℕ) (Val := Elt F) spec0 c ∗ BI.emp)
    ∗ ow c (Memref.whole main_arg1) I) ⊢ (Φ0 I c 0 : sProp 𝕄) := by
  unfold Φ0
  rw [scopedRest0_eq, ← rest0.eq_1]
  unfold ow
  rw [owns_whole_eq]
  iintro ⟨⟨⟨⟨%f, Hm⟩, Hr⟩, -⟩, Ht⟩
  isplitl [Hm]
  · iexists f; isplitr; · ipureintro; exact fun h => absurd rfl h
    rw [owns_whole_eq]; iexists f; isplitr; · ipureintro; rfl
    iexact Hm
  isplitl [Hr]; · iexact Hr
  iexact Ht

omit hI in
theorem out0 (c : Dev nD) (t : ℕ) : (Φ0 I c t : sProp 𝕄) ⊢ iprop(iprop(Pipeline.scopedRest (Ix := Unit) (Name := ℕ) (U := UR sig nD τ) (Lvl := ℕ) (Val := Elt F) spec0 c ∗ BI.emp)
    ∗ ow c (Memref.whole main_arg1) I) := by
  unfold Φ0
  rw [scopedRest0_eq, ← rest0.eq_1]
  unfold ow
  simp only [owns_whole_eq]
  iintro ⟨⟨%Y, -, Hm⟩, Hr, Ht⟩
  icases Hm with ⟨%f, -, Hm⟩
  isplitr [Ht]
  · isplitl [Hm Hr]
    · isplitl [Hm]; · iexists f; iexact Hm
      iexact Hr
    iempintro
  iexact Ht

end Cert.KernelIdeal.Hand

end
-- ==== Proof.KI.Dat12.lean ====
/-
  The second and third kernels' proof data, and their bodies at any point.
-/
module

public import proofs.«01_k».proof.Proof.KI.Dat0

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

variable (I : S124.Idx → BitVec 32)

/-- A window's block of the second kernel at a point. -/
abbrev blk1 (W : Valuation τ sig (Elt F)) (w : Fin 4) (t : Fin (cfg1 (tabs (F := F) I 1)).N) :=
  (((cfg1 (tabs (F := F) I 1)).win w).blk t).view.read (Elt F) (W (Pipeline.arrRef spec1 w))

/-- The buffers the second kernel does not touch. -/
def rest1 (c : Dev nD) : sProp 𝕄 := iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- Between points: scratch at any contents, and the index list. -/
def Φ1 (c : Dev nD) : sProp 𝕄 :=
  iprop(Pipeline.scopedRest (Ix := Unit) (Name := ℕ) (U := UR sig nD τ) (Lvl := ℕ) (Val := Elt F) spec1 c ∗ ow c (Memref.whole main_arg1) I)

variable (hI : InRange I)

/-- The proof data of the second kernel's pipeline, entered at a valuation. -/
def dat1 (W : Dev nD → Valuation τ sig (Elt F)) (c : Dev nD) : Dat τ (Elt F) Unit ℕ (UR sig nD τ) ℕ (cfg1 (tabs (F := F) I 1)) c where
  A w := W c (Pipeline.arrRef spec1 w)
  after w t := match w with
    | ⟨0, _⟩ => blk1 I (W c) 0 t
    | ⟨1, _⟩ => blk1 I (W c) 1 t
    | ⟨2, _⟩ => blk1 I (W c) 2 t
    | ⟨3, _⟩ => wmBlock (F := F) (grid1.coords t) I hI (blk1 I (W c) 0 t) (blk1 I (W c) 1 t) (blk1 I (W c) 2 t)
  Φ _ := Φ1 I c
  q _ := fullShare
  owed _ := 0

variable (W : Dev nD → Valuation τ sig (Elt F))

theorem A1_eq (c : Dev nD) (w : Fin 4) : (dat1 I hI W c).A w = W c (Pipeline.arrRef spec1 w) := by dsimp only [dat1]
theorem after1_0 (c : Dev nD) (t) : (dat1 I hI W c).after 0 t = blk1 I (W c) 0 t := rfl
theorem after1_1 (c : Dev nD) (t) : (dat1 I hI W c).after 1 t = blk1 I (W c) 1 t := rfl
theorem after1_2 (c : Dev nD) (t) : (dat1 I hI W c).after 2 t = blk1 I (W c) 2 t := rfl
theorem after1_3 (c : Dev nD) (t) : (dat1 I hI W c).after 3 t
    = wmBlock (F := F) (grid1.coords t) I hI (blk1 I (W c) 0 t) (blk1 I (W c) 1 t) (blk1 I (W c) 2 t) := rfl

theorem before1_0 (c : Dev nD) (t) (d) : (dat1 I hI W c).before 0 t d = blk1 I (W c) 0 t :=
  ((dat1 I hI W c).before_in_eq_fetched 0 rfl (fun _ => rfl) (fun _ _ _ => rfl) (fun t => by rw [after1_0]; unfold Dat.blockOf; rw [A1_eq]; try rfl) t d).trans
    (by unfold Dat.fetched Dat.blockOf; rw [A1_eq]; try rfl)
theorem before1_1 (c : Dev nD) (t) (d) : (dat1 I hI W c).before 1 t d = blk1 I (W c) 1 t :=
  ((dat1 I hI W c).before_in_eq_fetched 1 rfl (fun _ => rfl) (fun _ _ _ => rfl) (fun t => by rw [after1_1]; unfold Dat.blockOf; rw [A1_eq]; try rfl) t d).trans
    (by unfold Dat.fetched Dat.blockOf; rw [A1_eq]; try rfl)
theorem before1_2 (c : Dev nD) (t) (d) : (dat1 I hI W c).before 2 t d = blk1 I (W c) 2 t :=
  ((dat1 I hI W c).before_in_eq_fetched 2 rfl (fun _ => rfl) (fun _ _ _ => rfl) (fun t => by rw [after1_2]; unfold Dat.blockOf; rw [A1_eq]; try rfl) t d).trans
    (by unfold Dat.fetched Dat.blockOf; rw [A1_eq]; try rfl)

/-- The second kernel's scratch, taken out of what it holds between points. -/
theorem scratch1 (c : Dev nD) : (Φ1 I c : sProp 𝕄) ⊢ iprop((∃ Y, ow c (Memref.whole cc1_scratch0) Y)
    ∗ ((∃ Y, ow c (Memref.whole cc1_scratch0) Y) -∗ ow c (Memref.whole main_arg1) I -∗ Φ1 I c) ∗ ow c (Memref.whole main_arg1) I) := by
  unfold Φ1
  rw [scopedRest1_eq, ← rest1.eq_1]
  unfold ow
  simp only [owns_whole_eq]
  iintro ⟨⟨A0, A1, A2, A3, A4, A5, A6, A7, A8, ⟨%f, Hs⟩, Hr⟩, Ht⟩
  isplitl [Hs]
  · iexists f; iexists f; isplitr; · ipureintro; rfl
    iexact Hs
  isplitr [Ht]
  · iintro ⟨%Y, %g, -, Hs⟩ Ht
    isplitr [Ht]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [Hs]; · iexists g; iexact Hs
      iexact Hr
    iexact Ht
  iexact Ht

/-- The second kernel's body at any point. -/
theorem body1 (c : Dev nD) : BodyObligation (dat1 I hI W c) (defs₀ (F := F)) Variants.none () Set.univ := fun t => by
  rw [bigSep_W1, bigSep_W1]
  unfold defs₀; rw [Defs.onTc_tc]
  rw [show (dat1 I hI W c).Φ t.castSucc = Φ1 I c from rfl, show (dat1 I hI W c).Φ t.succ = Φ1 I c from rfl,
    show (dat1 I hI W c).owesAt () t.succ = (dat1 I hI W c).owesAt () t.castSucc from rfl]
  iintro ⟨HΦ, Ho, ⟨%d0, H0⟩, ⟨%d1, H1⟩, ⟨%d2, H2⟩, ⟨%d3, H3⟩⟩
  have e0 := before1_0 I hI W c t d0
  have e1 := before1_1 I hI W c t d1
  have e2 := before1_2 I hI W c t d2
  ihave HS := (scratch1 (F := F) I c) $$ HΦ
  icases HS with ⟨Hs, Hk, Ht⟩
  iapply (sound_wprep (F := F) c (grid1.coords t) (Memref.whole main_arg1) (Memref.isWhole_whole _) _ _ _ _ _ _ _ _ (Memref.whole cc1_scratch0) (Memref.isWhole_whole _) I hI (blk1 I (W c) 0 t) (blk1 I (W c) 1 t) (blk1 I (W c) 2 t) _)
  isplitl [Ht]; · iexact Ht
  isplitl [H0]; · rw [← e0]; iexact H0
  isplitl [H1]; · rw [← e1]; iexact H1
  isplitl [H2]; · rw [← e2]; iexact H2
  isplitl [H3]; · iexists _; iexact H3
  isplitl [Hs]; · iexact Hs
  iintro ⟨Ht, H0, H1, H2, H3, Hs⟩
  isplitl [Hk Ht Hs]
  · iapply Hk $$ Hs Ht
  isplitl [Ho]; · iexact Ho
  isplitl [H0]; · rw [after1_0]; iexact H0
  isplitl [H1]; · rw [after1_1]; iexact H1
  isplitl [H2]; · rw [after1_2]; iexact H2
  rw [after1_3]; iexact H3

theorem tables1 (c : Dev nD) : (Pipeline.tablesAt (pcfgs (F := F)) (tabs (F := F) I) 1 c : sProp 𝕄) = ow c (Memref.whole main_arg1) I := by
  rw [table_eq]
  exact bigSep_singleton (I := Fin 1) (i := 0)

/-- A window's block of the third kernel at a point. -/
abbrev blk2 (W : Valuation τ sig (Elt F)) (w : Fin 3) (t : Fin cfg2.N) :=
  ((cfg2.win w).blk t).view.read (Elt F) (W (Pipeline.arrRef spec2 w))

/-- The proof data of the third kernel's pipeline, entered at a valuation. -/
def dat2 (W : Dev nD → Valuation τ sig (Elt F)) (c : Dev nD) : Dat τ (Elt F) Unit ℕ (UR sig nD τ) ℕ cfg2 c where
  A w := W c (Pipeline.arrRef spec2 w)
  after w t := match w with
    | ⟨0, _⟩ => blk2 (W c) 0 t
    | ⟨1, _⟩ => blk2 (W c) 1 t
    | ⟨2, _⟩ => mmBlock (blk2 (W c) 0 t) (blk2 (W c) 1 t)
  Φ _ := Pipeline.scopedRest (Ix := Unit) (Name := ℕ) (U := UR sig nD τ) (Lvl := ℕ) (Val := Elt F) spec2 c
  q _ := fullShare
  owed _ := 0

theorem A2_eq (c : Dev nD) (w : Fin 3) : (dat2 W c).A w = W c (Pipeline.arrRef spec2 w) := by dsimp only [dat2]
theorem after2_0 (c : Dev nD) (t) : (dat2 W c).after 0 t = blk2 (W c) 0 t := rfl
theorem after2_1 (c : Dev nD) (t) : (dat2 W c).after 1 t = blk2 (W c) 1 t := rfl
theorem after2_2 (c : Dev nD) (t) : (dat2 W c).after 2 t = mmBlock (blk2 (W c) 0 t) (blk2 (W c) 1 t) := rfl

theorem before2_0 (c : Dev nD) (t) (d) : (dat2 W c).before 0 t d = blk2 (W c) 0 t :=
  ((dat2 W c).before_in_eq_fetched 0 rfl (fun _ => rfl) (fun _ _ _ => rfl) (fun t => by rw [after2_0]; unfold Dat.blockOf; rw [A2_eq]; try rfl) t d).trans
    (by unfold Dat.fetched Dat.blockOf; rw [A2_eq]; try rfl)
theorem before2_1 (c : Dev nD) (t) (d) : (dat2 W c).before 1 t d = blk2 (W c) 1 t :=
  ((dat2 W c).before_in_eq_fetched 1 rfl (fun _ => rfl) (fun _ _ _ => rfl) (fun t => by rw [after2_1]; unfold Dat.blockOf; rw [A2_eq]; try rfl) t d).trans
    (by unfold Dat.fetched Dat.blockOf; rw [A2_eq]; try rfl)

/-- The third kernel's body at any point. -/
theorem body2 (c : Dev nD) : BodyObligation (dat2 W c) (defs₀ (F := F)) Variants.none () Set.univ := fun t => by
  rw [bigSep_W2, bigSep_W2]
  unfold defs₀; rw [Defs.onTc_tc]
  rw [show (dat2 W c).Φ t.succ = (dat2 W c).Φ t.castSucc from rfl,
    show (dat2 W c).owesAt () t.succ = (dat2 W c).owesAt () t.castSucc from rfl]
  iintro ⟨HΦ, Ho, ⟨%d0, H0⟩, ⟨%d1, H1⟩, ⟨%d2, H2⟩⟩
  have e0 := before2_0 W c t d0
  have e1 := before2_1 W c t d1
  iapply (sound_mm (F := F) c (grid2.coords t) _ _ _ _ _ _ (blk2 (W c) 0 t) (blk2 (W c) 1 t) _)
  isplitl [H0]; · rw [← e0]; iexact H0
  isplitl [H1]; · rw [← e1]; iexact H1
  isplitl [H2]; · iexists _; iexact H2
  iintro ⟨H0, H1, H2⟩
  isplitl [HΦ]; · iexact HΦ
  isplitl [Ho]; · iexact Ho
  isplitl [H0]; · rw [after2_0]; iexact H0
  isplitl [H1]; · rw [after2_1]; iexact H1
  rw [after2_2]; iexact H2

theorem in1 (c : Dev nD) : iprop(iprop(Pipeline.scopedRest (Ix := Unit) (Name := ℕ) (U := UR sig nD τ) (Lvl := ℕ) (Val := Elt F) spec1 c ∗ BI.emp)
    ∗ ow c (Memref.whole main_arg1) I) ⊢ (Φ1 I c : sProp 𝕄) := by
  unfold Φ1
  iintro ⟨⟨Hr, -⟩, Ht⟩
  isplitl [Hr] <;> iassumption

theorem out1 (c : Dev nD) : (Φ1 I c : sProp 𝕄) ⊢ iprop(iprop(Pipeline.scopedRest (Ix := Unit) (Name := ℕ) (U := UR sig nD τ) (Lvl := ℕ) (Val := Elt F) spec1 c ∗ BI.emp)
    ∗ ow c (Memref.whole main_arg1) I) := by
  unfold Φ1
  iintro ⟨Hr, Ht⟩
  isplitl [Hr]
  · isplitl [Hr]; · iexact Hr
    iempintro
  iexact Ht

theorem in2 (c : Dev nD) : iprop(Pipeline.scopedRest (Ix := Unit) (Name := ℕ) (U := UR sig nD τ) (Lvl := ℕ) (Val := Elt F) spec2 c ∗ BI.emp)
    ⊢ (Pipeline.scopedRest (Ix := Unit) (Name := ℕ) (U := UR sig nD τ) (Lvl := ℕ) (Val := Elt F) spec2 c : sProp 𝕄) := by
  iintro ⟨Hr, -⟩
  iexact Hr

theorem out2 (c : Dev nD) : (Pipeline.scopedRest (Ix := Unit) (Name := ℕ) (U := UR sig nD τ) (Lvl := ℕ) (Val := Elt F) spec2 c : sProp 𝕄)
    ⊢ iprop(Pipeline.scopedRest (Ix := Unit) (Name := ℕ) (U := UR sig nD τ) (Lvl := ℕ) (Val := Elt F) spec2 c ∗ BI.emp) := by
  iintro Hr
  isplitl [Hr]; · iexact Hr
  iempintro

end Cert.KernelIdeal.Hand

end
-- ==== Proof.KI.Run.lean ====
/-
  The three regions of the program one after another: what each leaves, and what the whole run leaves.
-/
module

public import proofs.«01_k».proof.Proof.KI.Dat12
public import proofs.«01_k».proof.Proof.Gen.KernelIdeal.Regions
public import Idealize.ShloMosaic.Lib.Pipeline.RegionArraysS
public import Idealize.ShloMosaic.Lib.StableHlo.RunHlo

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

open Idealize.ShloMosaic.Pipeline (Seg HostSeg)

set_option backward.isDefEq.respectTransparency.types false in
/-- The whole run, given each region's record: every buffer of the program ends at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ) (ρ : Dev nD → PrngReg) (outs : Outs (F := F)) (a : (p : Fin 3) → (pcfgs (F := F) p).Adm)
    (pdats : (p : Fin 3) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => (∀ c : Dev nD,
      ∀ b ∈ Pipeline.ucRefs τ sig, r.2.mem (c, b) = V6 m outs c b) ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1 R2)
    (fun c Q => by
      rewrite [main_chain c, Seg.run_eq_chain,
        show (segs m outs 𝒱₀ L lv E ι a pdats R0 R1 R2 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, hpost0 c, hpre1 c, (hpost1 c).trans (hpre2 c), hpost2 c, sep_mono .rfl (hE3 c)⟩)
    (hinit := ?_) (QY := fun c s => ∀ b ∈ Pipeline.ucRefs τ sig, s.mem (c, b) = V6 m outs c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact h
    · iexact HSI

variable (m : (ℓ : Loc nD τ sig) → Buf (Elt F) ℓ)

/-- The index list the program is given. -/
def tbl : S124.Idx → BitVec 32 := m (((0 : Dev nD) : Thread nD τ).loc main_arg1)

/-- What the first region leaves. -/
def outs0 : Outs (F := F) := fun _ r c => Pipeline.afterRegion (dat0 (tbl m) (V1 m) c) (V1 m c) (Proc.devRef .tc r)

variable (hI : InRange (tbl m))

/-- What the first two regions leave. -/
def outs1 : Outs (F := F) := fun k r c => match k with
  | 2 => outs0 m 2 r c
  | _ => Pipeline.afterRegion (dat1 (tbl m) hI (V3 m (outs0 m)) c) (V3 m (outs0 m) c) (Proc.devRef .tc r)

/-- What the three regions leave. -/
def outs : Outs (F := F) := fun k r c => match k with
  | 2 => outs0 m 2 r c
  | 4 => outs1 m hI 4 r c
  | _ => Pipeline.afterRegion (dat2 (V4 m (outs1 m hI)) c) (V4 m (outs1 m hI) c) (Proc.devRef .tc r)

theorem V2_outs (c : Dev nD) : V2 m (outs m hI) c = V2 m (outs0 m) c := rfl
theorem V3_outs (c : Dev nD) : V3 m (outs m hI) c = V3 m (outs0 m) c := rfl
theorem V4_outs (c : Dev nD) : V4 m (outs m hI) c = V4 m (outs1 m hI) c := rfl

/-- The three regions' proof data. -/
def pdats : (p : Fin 3) → (c : Dev nD) → Dat τ (Elt F) Unit ℕ (UR sig nD τ) ℕ (Pipeline.pin (pcfgs (F := F)) (tabs (F := F) (tbl m)) p) c
  | ⟨0, _⟩ => dat0 (tbl m) (V1 m)
  | ⟨1, _⟩ => dat1 (tbl m) hI (V3 m (outs0 m))
  | ⟨2, _⟩ => dat2 (V4 m (outs1 m hI))

/-- Every core's one index at every semaphore of its own. -/
def Lv : GSem nD τ sig → Finset Unit := fun g => if g.1.2 = .tc then {()} else ∅
/-- All at one level. -/
def lv0 : GSem nD τ sig → Unit → ℕ := fun _ _ => 0

theorem cut (p : Fin 3) : Pipeline.LevelCut (pcfgs (F := F)) (tabs (F := F) (tbl m)) () Lv lv0 p (fun _ => (0 : CellTallies nD τ sig Unit)) (fun _ => 0) where
  hι c w s := by unfold Lv; rw [if_pos rfl]; exact Finset.mem_singleton_self _
  hιb c w s := le_refl 0
  hD c g i h := absurd h (lt_irrefl 0)

/-- The index list stays as launched. -/
theorem tbl_V1 (c : Dev nD) : tbl m = V1 m c (Proc.devRef .tc main_arg1) := by
  obtain rfl := Subsingleton.elim c 0
  exact (V1_of m 0 main_arg1 (by decide)).symm

/-- What a core owes between regions: nothing. -/
def Eo : Fin 4 → Dev nD → sProp 𝕄 := fun _ c => iprop(∃ Wd, owes (c : Thread nD τ) (0 : CellTallies nD τ sig Unit) Wd)

abbrev SegOf (p : Fin 3) := RegionSeg (pcfgs (F := F)) (tabs (F := F) (tbl m)) (pdats m hI) () (defs₀ (F := F)) Variants.none Lv lv0 p

def seg0 : SegOf m hI 0 :=
  RegionSeg.ofHeldInT _ _ _ _ _ _ _ _ 0 (fun _ => 0) (Pipeline.ucRefs τ sig) (fun _ => iprop(BI.emp)) (fun _ => iprop(BI.emp)) launch0
    (fun c => (body0 (tbl m) (V1 m) hI c).loose) (fun _ _ => rfl) (fun _ => rfl) (fun c => (pdats m hI 0 c).share_full fun _ => rfl)
    (fun c => by rw [tables0]; exact in0 (tbl m) c) (fun c => by rw [tables0]; exact out0 (tbl m) c _) (fun _ => 0) (cut m 0) (fun _ => iprop(BI.emp)) (V1 m)
    (fun c w => A0_eq (tbl m) (V1 m) c w) (fun c k => match k with | ⟨0, _⟩ => tbl_V1 m c)

theorem tbl_V3 (c : Dev nD) : tbl m = V3 m (outs0 m) c (Proc.devRef .tc main_arg1) :=
  (tbl_V1 m c).trans ((V2_of m (outs0 m) c main_arg1 (by decide)).symm.trans (V3_of m (outs0 m) c main_arg1 (by decide)).symm)

def seg1 : SegOf m hI 1 :=
  RegionSeg.ofHeldInT _ _ _ _ _ _ _ _ 1 (fun _ => 0) (Pipeline.ucRefs τ sig) (fun _ => iprop(BI.emp)) (fun _ => iprop(BI.emp)) launch1
    (fun c => (body1 (tbl m) hI (V3 m (outs0 m)) c).loose) (fun _ _ => rfl) (fun _ => rfl) (fun c => (pdats m hI 1 c).share_full fun _ => rfl)
    (fun c => by rw [tables1]; exact in1 (tbl m) c) (fun c => by rw [tables1]; exact out1 (tbl m) c) (fun _ => 0) (cut m 1) (fun _ => iprop(BI.emp)) (V3 m (outs0 m))
    (fun c w => A1_eq (tbl m) hI (V3 m (outs0 m)) c w) (fun c k => match k with | ⟨0, _⟩ => tbl_V3 m c)

def seg2 : SegOf m hI 2 :=
  RegionSeg.ofHeldIn _ _ _ _ _ _ _ _ 2 (fun _ => 0) (Pipeline.ucRefs τ sig) (fun _ => iprop(BI.emp)) (fun _ => iprop(BI.emp)) launch2 rfl
    (fun c => (body2 (V4 m (outs1 m hI)) c).loose) (fun _ _ => rfl) (fun _ => rfl) (fun c => (pdats m hI 2 c).share_full fun _ => rfl)
    (fun c => in2 c) (fun c => out2 c) (fun _ => 0) (cut m 2) (fun _ => iprop(BI.emp)) (V4 m (outs1 m hI))
    (fun c w => A2_eq (V4 m (outs1 m hI)) c w)

/-- What the first region leaves is the valuation after it. -/
theorem left0 (c : Dev nD) (r : Ref sig .tc) :
    Pipeline.afterRegion (dat0 (tbl m) (V1 m) c) (V1 m c) (Proc.devRef .tc r) = V2 m (outs m hI) c (Proc.devRef .tc r) := by
  by_cases h : r ∈ ([main_v1_0, main_v1_1, main_v1_2] : List (Ref sig .tc))
  · rw [V2_outs]
    simp only [List.mem_cons, List.not_mem_nil, or_false] at h
    rcases h with rfl | rfl | rfl
    · rw [V2, Function.update_of_ne (StableHlo.devRef_ne_of_ne (by decide)), Function.update_of_ne (StableHlo.devRef_ne_of_ne (by decide)), Function.update_self]; rfl
    · rw [V2, Function.update_of_ne (StableHlo.devRef_ne_of_ne (by decide)), Function.update_self]; rfl
    · rw [V2, Function.update_self]; rfl
  · rw [V2_of m _ c r h]
    refine Pipeline.afterRegion_keeps _ _ (launch0 (F := F)).win.arr_inj (A0_eq (tbl m) (V1 m) c) r fun w hw => ?_
    match w with
    | ⟨0, _⟩ => rfl
    | ⟨1, _⟩ => exact absurd (hw ▸ List.mem_cons_self) h
    | ⟨2, _⟩ => exact absurd (hw ▸ List.mem_cons_of_mem _ List.mem_cons_self) h
    | ⟨3, _⟩ => exact absurd (hw ▸ List.mem_cons_of_mem _ (List.mem_cons_of_mem _ List.mem_cons_self)) h

/-- What the second region leaves is the valuation after it. -/
theorem left1 (c : Dev nD) (r : Ref sig .tc) :
    Pipeline.afterRegion (dat1 (tbl m) hI (V3 m (outs0 m)) c) (V3 m (outs0 m) c) (Proc.devRef .tc r) = V4 m (outs m hI) c (Proc.devRef .tc r) := by
  by_cases h : r = main_v3
  · subst h
    rw [V4_outs, V4, Function.update_self]; rfl
  · rw [V4_of m _ c r (fun e => h (List.mem_singleton.mp e)), V3_outs]
    refine Pipeline.afterRegion_keeps _ _ (launch1 (F := F)).win.arr_inj (A1_eq (tbl m) hI (V3 m (outs0 m)) c) r fun w hw => ?_
    match w with
    | ⟨0, _⟩ => rfl
    | ⟨1, _⟩ => rfl
    | ⟨2, _⟩ => rfl
    | ⟨3, _⟩ => exact absurd hw.symm h

/-- What the third region leaves is the valuation after it. -/
theorem left2 (c : Dev nD) (r : Ref sig .tc) :
    Pipeline.afterRegion (dat2 (V4 m (outs1 m hI)) c) (V4 m (outs1 m hI) c) (Proc.devRef .tc r) = V5 m (outs m hI) c (Proc.devRef .tc r) := by
  by_cases h : r = main_v4
  · subst h
    rw [V5, Function.update_self]; rfl
  · rw [V5_of m _ c r (fun e => h (List.mem_singleton.mp e)), V4_outs]
    refine Pipeline.afterRegion_keeps _ _ (launch2 (F := F)).win.arr_inj (A2_eq (V4 m (outs1 m hI)) c) r fun w hw => ?_
    match w with
    | ⟨0, _⟩ => rfl
    | ⟨1, _⟩ => rfl
    | ⟨2, _⟩ => exact absurd hw.symm h

/-- Two valuations that agree on every reference hold the same. -/
theorem held_of_left (c : Dev nD) (W W' : Valuation τ sig (Elt F)) (h : ∀ r : Ref sig .tc, W (Proc.devRef .tc r) = W' (Proc.devRef .tc r)) :
    (StableHlo.held (c : Thread nD τ) (Pipeline.ucRefs τ sig) W : sProp 𝕄) = StableHlo.held (c : Thread nD τ) (Pipeline.ucRefs τ sig) W' :=
  StableHlo.held_congr _ fun b hb => by
    obtain ⟨r, -, rfl⟩ := Finset.mem_map.mp (Finset.mem_filter.mp hb).1
    exact h r

theorem arrs0 : Pipeline.arrRefs (τ := τ) (pcfgs (F := F) 0).spec ⊆ Pipeline.ucRefs τ sig :=
  Pipeline.arrRefs_sub_ucRefs _ (show ∀ w : Fin 4, (Pipeline.arrRef spec0 w).isScoped = false by decide)
theorem arrs1 : Pipeline.arrRefs (τ := τ) (pcfgs (F := F) 1).spec ⊆ Pipeline.ucRefs τ sig :=
  Pipeline.arrRefs_sub_ucRefs _ (show ∀ w : Fin 4, (Pipeline.arrRef spec1 w).isScoped = false by decide)
theorem arrs2 : Pipeline.arrRefs (τ := τ) (pcfgs (F := F) 2).spec ⊆ Pipeline.ucRefs τ sig :=
  Pipeline.arrRefs_sub_ucRefs _ (show ∀ w : Fin 3, (Pipeline.arrRef spec2 w).isScoped = false by decide)
theorem tbls0 : Pipeline.tblRefs (τ := τ) (pcfgs (F := F) 0).pre ⊆ Pipeline.ucRefs τ sig := fun b hb => by
  obtain ⟨r, hr, rfl⟩ := Finset.mem_map.mp hb
  obtain ⟨k, -, rfl⟩ := Finset.mem_image.mp hr
  match k with
  | ⟨0, _⟩ => exact Pipeline.devRef_mem_ucRefs rfl
theorem tbls1 : Pipeline.tblRefs (τ := τ) (pcfgs (F := F) 1).pre ⊆ Pipeline.ucRefs τ sig := fun b hb => by
  obtain ⟨r, hr, rfl⟩ := Finset.mem_map.mp hb
  obtain ⟨k, -, rfl⟩ := Finset.mem_image.mp hr
  match k with
  | ⟨0, _⟩ => exact Pipeline.devRef_mem_ucRefs rfl

/-- What is owed, with and without the two empty assertions beside it. -/
theorem owe_in (i : Fin 4) (c : Dev nD) : (Eo i c : sProp 𝕄) ⊢ iprop((∃ Wd, owes (c : Thread nD τ) (0 : CellTallies nD τ sig Unit) Wd) ∗ BI.emp ∗ BI.emp) := by
  unfold Eo
  iintro H
  isplitl [H]; · iexact H
  isplitr <;> iempintro
theorem owe_out (i : Fin 4) (c : Dev nD) : iprop((∃ Wd, owes (c : Thread nD τ) (0 : CellTallies nD τ sig Unit) Wd) ∗ BI.emp ∗ BI.emp) ⊢ (Eo i c : sProp 𝕄) := by
  unfold Eo
  iintro ⟨H, -⟩
  iexact H

theorem pre0 (c : Dev nD) : iprop(StableHlo.held (c : Thread nD τ) (Pipeline.ucRefs τ sig) (V1 m c) ∗ Eo 0 c) ⊢ (seg0 m hI).pre c := by
  unfold seg0
  refine BIBase.Entails.trans ?_ (RegionSeg.ofHeldInT_pre arrs0 tbls0 c)
  exact BIClass.sep_mono BIBase.Entails.rfl (owe_in 0 c)
theorem post0 (c : Dev nD) : (seg0 m hI).post c ⊢ iprop(StableHlo.held (c : Thread nD τ) (Pipeline.ucRefs τ sig) (V2 m (outs m hI) c) ∗ Eo 1 c) := by
  unfold seg0
  refine BIBase.Entails.trans (RegionSeg.ofHeldInT_post arrs0 tbls0 c) ?_
  exact (BIClass.sep_mono (BIBase.Entails.of_eq (held_of_left c _ _ (left0 m hI  c))) (owe_out 1 c))
theorem pre1 (c : Dev nD) : iprop(StableHlo.held (c : Thread nD τ) (Pipeline.ucRefs τ sig) (V3 m (outs m hI) c) ∗ Eo 1 c) ⊢ (seg1 m hI).pre c := by
  unfold seg1
  refine BIBase.Entails.trans ?_ (RegionSeg.ofHeldInT_pre arrs1 tbls1 c)
  exact BIClass.sep_mono BIBase.Entails.rfl (owe_in 1 c)
theorem post1 (c : Dev nD) : (seg1 m hI).post c ⊢ iprop(StableHlo.held (c : Thread nD τ) (Pipeline.ucRefs τ sig) (V4 m (outs m hI) c) ∗ Eo 2 c) := by
  unfold seg1
  refine BIBase.Entails.trans (RegionSeg.ofHeldInT_post arrs1 tbls1 c) ?_
  exact (BIClass.sep_mono (BIBase.Entails.of_eq (held_of_left c _ _ (left1 m hI  c))) (owe_out 2 c))
theorem pre2 (c : Dev nD) : iprop(StableHlo.held (c : Thread nD τ) (Pipeline.ucRefs τ sig) (V4 m (outs m hI) c) ∗ Eo 2 c) ⊢ (seg2 m hI).pre c := by
  unfold seg2
  refine BIBase.Entails.trans ?_ (RegionSeg.ofHeldIn_pre arrs2 c)
  exact BIClass.sep_mono BIBase.Entails.rfl (owe_in 2 c)
theorem post2 (c : Dev nD) : (seg2 m hI).post c ⊢ iprop(StableHlo.held (c : Thread nD τ) (Pipeline.ucRefs τ sig) (V5 m (outs m hI) c) ∗ Eo 3 c) := by
  unfold seg2
  refine BIBase.Entails.trans (RegionSeg.ofHeldIn_post arrs2 c) ?_
  exact (BIClass.sep_mono (BIBase.Entails.of_eq (held_of_left c _ _ (left2 m hI  c))) (owe_out 3 c))

/-- The program's run: every buffer of it ends at the last valuation. -/
theorem run_main (ρ : Dev nD → PrngReg) : θ_run defs (onTc (τ := τ) (main (F := F))) ⟨m, fun _ => 0, ρ⟩ (fun r => (∀ c : Dev nD,
      ∀ b ∈ Pipeline.ucRefs τ sig, r.2.mem (c, b) = V6 m (outs m hI) c b) ∧ r.2.sem = fun _ => 0) :=
  run_cond (Ix := Unit) (U := UR sig nD τ) (Lvl := ℕ) (uEmb (nD := nD) (τ := τ) (sig := sig) (Ix := Unit) (Val := Elt F) (Name := ℕ) (U := UR sig nD τ) (Lvl := ℕ)).toEmb
    () Variants.none Lv lv0 (fun g h => by unfold Lv; rw [if_neg h]) m ρ (outs m hI) (tabs (F := F) (tbl m)) (pdats m hI)
    (fun _ => 0) (fun _ => iprop(BI.emp)) (initOf (Pipeline.cells (Pipeline.pin (pcfgs (F := F)) (tabs (F := F) (tbl m))) (cellOf_inj _)) (Pipeline.launchToks (Pipeline.pin (pcfgs (F := F)) (tabs (F := F) (tbl m))) (cellOf_inj _)))
    (by
      have h0 : ∀ u, (ownU u : sProp 𝕄) ⊢ BI.own ((uEmb (nD := nD) (τ := τ) (sig := sig) (Ix := Unit) (Val := Elt F) (Name := ℕ) (U := UR sig nD τ) (Lvl := ℕ)).toEmb u) := fun u => .rfl
      iintro Hu
      imodintro
      isplitl [Hu]; · iapply (h0 _); iexact Hu
      iapply (show (BI.emp : sProp 𝕄) ⊢ bigSep Finset.univ (fun _ : Dev nD => (BI.emp : sProp 𝕄)) from by rw [BI.bigSep_emp_const])
      iempintro)
    Eo
    (by
      refine Pipeline.initEach Lv lv0 fun c => ?_
      iintro ⟨⟨-, HO, -⟩, -⟩
      imodintro
      unfold Eo
      iexists ∅; iexact HO)
    (fun c => .rfl)
    (seg0 m hI) (pre0 m hI) (post0 m hI)
    (seg1 m hI) (pre1 m hI) (post1 m hI)
    (seg2 m hI) (pre2 m hI) (post2 m hI)

include hI in
/-- The frame: it ends, its arguments as launched and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_mono (run_main m hI ρ) fun r h => ⟨fun c => ⟨(h.1 c _ (Pipeline.devRef_mem_ucRefs (b := main_arg0) rfl)).trans (V6_main_arg0 m (outs m hI) c),
    (h.1 c _ (Pipeline.devRef_mem_ucRefs (b := main_arg1) rfl)).trans (V6_main_arg1 m (outs m hI) c),
    (h.1 c _ (Pipeline.devRef_mem_ucRefs (b := main_arg2) rfl)).trans (V6_main_arg2 m (outs m hI) c),
    (h.1 c _ (Pipeline.devRef_mem_ucRefs (b := main_arg3) rfl)).trans (V6_main_arg3 m (outs m hI) c),
    (h.1 c _ (Pipeline.devRef_mem_ucRefs (b := main_arg4) rfl)).trans (V6_main_arg4 m (outs m hI) c)⟩, h.2⟩

end Cert.KernelIdeal.Hand

end
-- ==== Proof.KI.QuantValue.lean ====
/-
  The quantiser's block results at an index, over the extended reals.
-/
module

public import proofs.«01_k».proof.Proof.KI.Sound
public import proofs.«01_k».proof.Proof.KI.QuantMask
public import proofs.«01_k».proof.Proof.Val.Spec

@[expose] public section

set_option maxRecDepth 16384

noncomputable section

namespace Cert.KernelIdeal.Hand

open Cert.KernelIdeal Cert.KernelIdeal.Gen Cert.Val
open Idealize.ShloMosaic Idealize.ShloMosaic.TcCoe Idealize.ShloMosaic.Tactic

/-- What is left of a row's entry `l` of a block once the outlier columns are zeroed. -/
def keptAt (M : Vec Ideal S1x128 .f32) (X : Vec Ideal S256x128 .bf16) (r : Fin 256) (l : Fin 128) : EReal :=
  if Ideal.ofBits FTy.f32 1056964608#32 < M (ix2 0 l) then 0 else X (ix2 r l)

/-- The greatest magnitude left of a row of a block. -/
def maxAt (M : Vec Ideal S1x128 .f32) (X : Vec Ideal S256x128 .bf16) (r : Fin 256) : EReal :=
  Finset.fold max (Ideal.ofBits FTy.f32 0xFF800000#32) (fun l => max (keptAt M X r l) (-(keptAt M X r l))) Finset.univ

theorem exp_at (M : Vec Ideal S1x128 .f32) (X : Vec Ideal S256x128 .bf16) (r : Fin 256) :
    k0_pay8 M X (ix2 r 0) = expW (cntW (maxAt M X r * c448)) := by
  pointwise [k0_pay8, k0_pay7, k0_pay6, k0_pay5]
  rfl

theorem blkScale_at (M : Vec Ideal S1x128 .f32) (X : Vec Ideal S256x128 .bf16) (r : Fin 256) :
    blkScale M X (ix2 r 0) = kScale (maxAt M X r) := by
  unfold kScale; rw [← exp_at M X r]
  pointwise [blkScale, k0_pay10, k0_pay9]

theorem blkCodes_at (M : Vec Ideal S1x128 .f32) (X : Vec Ideal S256x128 .bf16) (r : Fin 256) (l : Fin 128) :
    blkCodes M X (ix2 r l)
      = min (Ideal.ofBits FTy.f32 0x43E00000#32) (max (Ideal.ofBits FTy.f32 0xC3E00000#32) (keptAt M X r l * kInv (maxAt M X r))) := by
  unfold kInv; rw [← exp_at M X r]
  pointwise [blkCodes, k0_pay11,k0_pay7, k0_pay6, k0_pay5]
  rfl

theorem blkXm_at (M : Vec Ideal S1x128 .f32) (X : Vec Ideal S256x128 .bf16) (r : Fin 256) (l : Fin 128) :
    blkXm M X (ix2 r l)
      = if Ideal.ofBits FTy.f32 1056964608#32 < M (ix2 0 l) then X (ix2 r l)
        else blkCodes M X (ix2 r l) * blkScale M X (ix2 r 0) := by
  unfold blkCodes blkScale
  pointwise [blkXm, k0_pay12, k0_pay6, k0_pay5]

/-- The scales' columns: column `j` is block `j`'s scale. -/
theorem scalesUpto_at (M : S32x128.Idx → Ideal .f32) (X : S256x4096.Idx → Ideal .bf16) (r : Fin 256) (j : Fin 32) (l : List (Fin 32)) (h : j ∈ l) :
    scalesUpto M X l (ix2 r j) = blkScale (mrow M j) (xcol X j) (ix2 r 0) := by
  induction l with
  | nil => simp at h
  | cons i l ih =>
    have e : scalesUpto M X (i :: l) (ix2 r j)
        = if j = i then blkScale (mrow M i) (xcol X i) (ix2 r 0) else scalesUpto M X l (ix2 r j) := by
      show selCol i (scalesUpto M X l) (blkScale (mrow M i) (xcol X i)) _ = _
      generalize scalesUpto M X l = A
      generalize blkScale (mrow M i) (xcol X i) = B
      pointwise [selCol]
      have hw : ∀ a b : Fin 32, (BitVec.ofNat 32 a.val = BitVec.ofNat 32 b.val) ↔ a = b := by decide +kernel
      by_cases hij : j = i
      · subst hij; simp [Scalar.select, IntOp.cmpi]
      · have := fun e => hij ((hw j i).1 e)
        have hb : (BitVec.ofNat 32 j.val == BitVec.ofNat 32 i.val) = false := beq_eq_false_iff_ne.2 this
        simp [Scalar.select, IntOp.cmpi, hij, hb]
    rw [e]
    split
    · next h' => rw [h']
    · next h' => exact ih ((List.mem_cons.1 h).resolve_left h')

/-! ### With the mask of a list of indices -/

variable (I : S124.Idx → BitVec 32) (X : S256x4096.Idx → Ideal .bf16)

/-- The index list by its position. -/
def lst (o : Fin 124) : BitVec 32 := I (at1 o)

theorem half_lt : (Ideal.ofBits FTy.f32 0x3F000000#32 < Ideal.ofBits FTy.f32 0x3F800000#32) ∧ ¬ (Ideal.ofBits FTy.f32 0x3F000000#32 < Ideal.ofBits FTy.f32 0x00000000#32) := by
  have h : Ideal.ofBits FTy.f32 0x3F000000#32 = ((1 / 2 : ℝ) : EReal) := by
    simp [Ideal.ofBits, Ideal.ieee, -EReal.coe_mul]; norm_num
  rw [h, Ideal.ofBits_one_f32, Ideal.ofBits_zero_f32]
  constructor
  · rw [← EReal.coe_one]; exact EReal.coe_lt_coe_iff.2 (by norm_num)
  · rw [← EReal.coe_zero]; exact fun h => absurd (EReal.coe_lt_coe_iff.1 h) (by norm_num)

/-- The mask's test at a column of a block: the column is an outlier column. -/
theorem mask_iff (j : Fin 32) (l : Fin 128) :
    Ideal.ofBits FTy.f32 1056964608#32 < mrow (maskOf Ideal I 124) j (ix2 0 l) ↔ IsOut (lst I) (colOf j l).val := by
  have e : mrow (maskOf Ideal I 124) j (ix2 0 l) = maskOf Ideal I 124 (ix2 j l) := by pointwise [mrow]
  rw [e]
  unfold maskOf
  have hP : (∃ o : Fin 124, o.val < 124 ∧ (I (at1 o)).toNat = 128 * ((ix2 j l : S32x128.Idx) 0).val + ((ix2 j l : S32x128.Idx) 1).val) ↔ IsOut (lst I) (colOf j l).val :=
    ⟨fun ⟨o, _, h⟩ => ⟨o, h⟩, fun ⟨o, h⟩ => ⟨o, o.isLt, h⟩⟩
  split
  · next h => exact ⟨fun _ => hP.1 h, fun _ => half_lt.1⟩
  · next h => exact ⟨fun h' => absurd h' half_lt.2, fun h' => absurd (hP.2 h') h⟩

theorem xcol_at (j : Fin 32) (r : Fin 256) (l : Fin 128) : xcol X j (ix2 r l) = X (ix2 r (colOf j l)) := by
  pointwise [xcol]; rfl

theorem keptAt_eq (j : Fin 32) (r : Fin 256) (l : Fin 128) :
    keptAt (mrow (maskOf Ideal I 124) j) (xcol X j) r l = kept (lst I) (fun k => X (ix2 r k)) (colOf j l) := by
  unfold keptAt kept
  rw [xcol_at]
  by_cases h : IsOut (lst I) (colOf j l).val
  · rw [if_pos h, if_pos ((mask_iff I j l).2 h)]
  · rw [if_neg h, if_neg (fun h' => h ((mask_iff I j l).1 h'))]

theorem maxAt_eq (j : Fin 32) (r : Fin 256) :
    maxAt (mrow (maskOf Ideal I 124) j) (xcol X j) r = amax (lst I) (fun k => X (ix2 r k)) j := by
  unfold maxAt amax
  simp only [keptAt_eq]

/-- A row of the scales of a block of rows. -/
theorem scaleBlock_at (r : Fin 256) (j : Fin 32) :
    scaleBlock (maskOf Ideal I 124) X (ix2 r j) = kScale (amax (lst I) (fun k => X (ix2 r k)) j) :=
  (scalesUpto_at _ _ r j _ (mem_blocks j)).trans ((blkScale_at _ _ r).trans (congrArg kScale (maxAt_eq I X j r)))

/-- A row of the matrix operand. -/
def kXm (I : Fin 124 → BitVec 32) (x : Fin 4096 → EReal) (k : Fin 4096) : EReal :=
  open Classical in if IsOut I k.val then x k else kCode I x k * kScale (amax I x (blkOf k))

theorem blkCodes_eq (j : Fin 32) (r : Fin 256) (l : Fin 128) :
    blkCodes (mrow (maskOf Ideal I 124) j) (xcol X j) (ix2 r l) = kCode (lst I) (fun k => X (ix2 r k)) (colOf j l) := by
  rw [blkCodes_at, keptAt_eq, maxAt_eq]
  unfold kCode clip; rw [blkOf_colOf]

theorem blkXm_eq (j : Fin 32) (r : Fin 256) (l : Fin 128) :
    blkXm (mrow (maskOf Ideal I 124) j) (xcol X j) (ix2 r l) = kXm (lst I) (fun k => X (ix2 r k)) (colOf j l) := by
  rw [blkXm_at, blkCodes_eq, blkScale_at, maxAt_eq, xcol_at]
  unfold kXm; rw [blkOf_colOf]
  by_cases h : IsOut (lst I) (colOf j l).val
  · rw [if_pos h, if_pos ((mask_iff I j l).2 h)]
  · rw [if_neg h, if_neg (fun h' => h ((mask_iff I j l).1 h'))]

theorem col_emb (j : Fin 32) (z : S256x128.Idx) : (Rect.unit (s := S256x4096) ![0, 128 * j.val] S256x128.size (xcol_inb j)).emb z = ix2 (z 0) (colOf j (z 1)) := by
  funext a
  apply Fin.ext
  match a with
  | ⟨0, _⟩ => show 0 + 1 * (z 0).val = (z 0).val; omega
  | ⟨1, _⟩ => show 128 * j.val + 1 * (z 1).val = 128 * j.val + (z 1).val; omega

theorem codesBlock_at (r : Fin 256) (k : Fin 4096) :
    codesBlock (maskOf Ideal I 124) X (ix2 r k) = kCode (lst I) (fun k => X (ix2 r k)) k := by
  refine View.canon_apply_of_pieces (Val := Elt Ideal) (e := .fp8e4m3) (fun y => kCode (lst I) (fun k => X (ix2 (y 0) k)) (y 1)) _ ?_ (ix2 r k)
    (cover_cols (e := .fp8e4m3) (fun j => blkCodes (mrow (maskOf Ideal I 124) j) (xcol X j)) _)
  intro p hp z
  obtain ⟨j, _, rfl⟩ := List.mem_map.1 hp
  show (blkCodes (F := Ideal) (mrow (maskOf Ideal I 124) j) (xcol X j) z : EReal) = kCode (lst I) _ _
  rw [show (⟨Rect.unit (s := S256x4096) ![0, 128 * j.val] S256x128.size (xcol_inb j), blkCodes (mrow (maskOf Ideal I 124) j) (xcol X j)⟩ : View.Piece (Elt Ideal) S256x4096 .fp8e4m3).1.emb z
    = ix2 (z 0) (colOf j (z 1)) from col_emb j z]
  rw [show z = ix2 (z 0) (z 1) from eq_ix2 z]
  exact blkCodes_eq I X j (z 0) (z 1)

theorem xmBlock_at (r : Fin 256) (k : Fin 4096) :
    xmBlock (maskOf Ideal I 124) X (ix2 r k) = kXm (lst I) (fun k => X (ix2 r k)) k := by
  refine View.canon_apply_of_pieces (Val := Elt Ideal) (e := .bf16) (fun y => kXm (lst I) (fun k => X (ix2 (y 0) k)) (y 1)) _ ?_ (ix2 r k)
    (cover_cols (e := .bf16) (fun j => blkXm (mrow (maskOf Ideal I 124) j) (xcol X j)) _)
  intro p hp z
  obtain ⟨j, _, rfl⟩ := List.mem_map.1 hp
  show (blkXm (F := Ideal) (mrow (maskOf Ideal I 124) j) (xcol X j) z : EReal) = kXm (lst I) _ _
  rw [show (⟨Rect.unit (s := S256x4096) ![0, 128 * j.val] S256x128.size (xcol_inb j), blkXm (mrow (maskOf Ideal I 124) j) (xcol X j)⟩ : View.Piece (Elt Ideal) S256x4096 .bf16).1.emb z
    = ix2 (z 0) (colOf j (z 1)) from col_emb j z]
  rw [show z = ix2 (z 0) (z 1) from eq_ix2 z]
  exact blkXm_eq I X j (z 0) (z 1)

end Cert.KernelIdeal.Hand
-- ==== Proof.KI.Arrays0.lean ====
/-
  What the quantiser leaves in its three arrays, at an index, over the extended reals.
-/
module

public import proofs.«01_k».proof.Proof.KI.Dat0
public import proofs.«01_k».proof.Proof.KI.QuantValue
public import Idealize.ShloMosaic.Lib.Pipeline.ValueKit

@[expose] public section

set_option maxRecDepth 16384

noncomputable section

namespace Cert.KernelIdeal.Hand

open Cert.KernelIdeal Cert.KernelIdeal.Gen Cert.Val
open Idealize.ShloMosaic Idealize.ShloMosaic.TcCoe Idealize.ShloMosaic.Tactic Idealize.ShloMosaic.Pipeline

variable (I : S124.Idx → BitVec 32) (W : Dev nD → Valuation τ sig (Elt Ideal)) (c : Dev nD)

/-- A row of `x` as the first kernel finds it. -/
def xrow (R : Fin 16384) (k : Fin 4096) : EReal := (W c (Proc.devRef .tc main_v0) : S16384x4096.Idx → EReal) (ix2 R k)

/-- Row `r` of point `t`'s block, as a row of the array. -/
def rowOf (t : Fin 64) (r : Fin 256) : Fin 16384 := ⟨256 * t.val + r.val, by omega⟩

theorem tr0_0 : ∀ t : Fin grid0.N, cc0_transform_0 (grid0.coords t) = ![t.val, 0] := by decide +kernel
theorem tr0_1 : ∀ t : Fin grid0.N, cc0_transform_1 (grid0.coords t) = ![t.val, 0] := by decide +kernel
theorem tr0_2 : ∀ t : Fin grid0.N, cc0_transform_2 (grid0.coords t) = ![t.val, 0] := by decide +kernel
theorem tr0_3 : ∀ t : Fin grid0.N, cc0_transform_3 (grid0.coords t) = ![t.val, 0] := by decide +kernel

/-- Where a block's entry lies in its array. -/
theorem emb0_0 (t : Fin (cfg0 (tabs (F := Ideal) I 0)).N) (y : S256x4096.Idx) :
    (((cfg0 (tabs (F := Ideal) I 0)).win 0).blk t).view.emb y = (ix2 (rowOf t (y 0)) (y 1) : S16384x4096.Idx) := by
  funext a
  apply Fin.ext
  match a with
  | ⟨0, _⟩ =>
    show cc0_transform_0 (grid0.coords t) 0 * 256 + 1 * (y 0).val = 256 * t.val + (y 0).val
    rw [tr0_0]; show t.val * 256 + 1 * _ = _; omega
  | ⟨1, _⟩ =>
    show cc0_transform_0 (grid0.coords t) 1 * 4096 + 1 * (y 1).val = (y 1).val
    rw [tr0_0]; show 0 * 4096 + 1 * _ = _; omega
@[inherit_doc emb0_0] theorem emb0_1 (t : Fin (cfg0 (tabs (F := Ideal) I 0)).N) (y : S256x4096.Idx) :
    (((cfg0 (tabs (F := Ideal) I 0)).win 1).blk t).view.emb y = (ix2 (rowOf t (y 0)) (y 1) : S16384x4096.Idx) := by
  funext a
  apply Fin.ext
  match a with
  | ⟨0, _⟩ =>
    show cc0_transform_1 (grid0.coords t) 0 * 256 + 1 * (y 0).val = 256 * t.val + (y 0).val
    rw [tr0_1]; show t.val * 256 + 1 * _ = _; omega
  | ⟨1, _⟩ =>
    show cc0_transform_1 (grid0.coords t) 1 * 4096 + 1 * (y 1).val = (y 1).val
    rw [tr0_1]; show 0 * 4096 + 1 * _ = _; omega
@[inherit_doc emb0_0] theorem emb0_2 (t : Fin (cfg0 (tabs (F := Ideal) I 0)).N) (y : S256x4096.Idx) :
    (((cfg0 (tabs (F := Ideal) I 0)).win 2).blk t).view.emb y = (ix2 (rowOf t (y 0)) (y 1) : S16384x4096.Idx) := by
  funext a
  apply Fin.ext
  match a with
  | ⟨0, _⟩ =>
    show cc0_transform_2 (grid0.coords t) 0 * 256 + 1 * (y 0).val = 256 * t.val + (y 0).val
    rw [tr0_2]; show t.val * 256 + 1 * _ = _; omega
  | ⟨1, _⟩ =>
    show cc0_transform_2 (grid0.coords t) 1 * 4096 + 1 * (y 1).val = (y 1).val
    rw [tr0_2]; show 0 * 4096 + 1 * _ = _; omega
@[inherit_doc emb0_0] theorem emb0_3 (t : Fin (cfg0 (tabs (F := Ideal) I 0)).N) (y : S256x32.Idx) :
    (((cfg0 (tabs (F := Ideal) I 0)).win 3).blk t).view.emb y = (ix2 (rowOf t (y 0)) (y 1) : S16384x32.Idx) := by
  funext a
  apply Fin.ext
  match a with
  | ⟨0, _⟩ =>
    show cc0_transform_3 (grid0.coords t) 0 * 256 + 1 * (y 0).val = 256 * t.val + (y 0).val
    rw [tr0_3]; show t.val * 256 + 1 * _ = _; omega
  | ⟨1, _⟩ =>
    show cc0_transform_3 (grid0.coords t) 1 * 32 + 1 * (y 1).val = (y 1).val
    rw [tr0_3]; show 0 * 32 + 1 * _ = _; omega

theorem cov0_1 : (((cfg0 (tabs (F := Ideal) I 0)).win 1)).Covers := by
  show (((cfg0 (tabs (F := Ideal) (fun _ => 0#32) 0)).win 1)).Covers
  decide +kernel
theorem cov0_2 : (((cfg0 (tabs (F := Ideal) I 0)).win 2)).Covers := by
  show (((cfg0 (tabs (F := Ideal) (fun _ => 0#32) 0)).win 2)).Covers
  decide +kernel
theorem cov0_3 : (((cfg0 (tabs (F := Ideal) I 0)).win 3)).Covers := by
  show (((cfg0 (tabs (F := Ideal) (fun _ => 0#32) 0)).win 3)).Covers
  decide +kernel

/-- A row of the block of `x` at a point. -/
theorem blk0_row (t : Fin (cfg0 (tabs (F := Ideal) I 0)).N) (r : Fin 256) :
    (fun k : Fin 4096 => ((blk0 I (W c) 0 t : S256x4096.Idx → Ideal .bf16) (ix2 r k) : EReal)) = xrow W c (rowOf t r) := by
  funext k
  show (W c (Proc.devRef .tc main_v0) : S16384x4096.Idx → EReal) ((((cfg0 (tabs (F := Ideal) I 0)).win 0).blk t).view.emb (ix2 r k : S256x4096.Idx)) = _
  rw [emb0_0]; rfl

theorem arr0_scale_blk (t : Fin (cfg0 (tabs (F := Ideal) I 0)).N) (q : S256x32.Idx) :
    (scaleBlock (maskOf Ideal I 124) (blk0 I (W c) 0 t) q : EReal) = kScale (amax (lst I) (xrow W c (rowOf t (q 0))) (q 1)) := by
  refine Eq.trans (congrArg _ (eq_ix2 q)) ((scaleBlock_at I _ _ _).trans ?_)
  exact congrArg (fun z : Fin 4096 → EReal => kScale (amax (lst I) z (q 1))) (blk0_row I W c t (q 0))

/-- The array of window 3 after the region. -/
theorem arr0_scale : (dat0 I W c).arrAt 3 (cfg0 (tabs (F := Ideal) I 0)).N
    = (fun y : S16384x32.Idx => (kScale (amax (lst I) (xrow W c (y 0)) (y 1)) : EReal)) := by
  refine (dat0 I W c).arrAt_eq_of_covers 3 _ (cov0_3 I) fun t hf y => ?_
  refine Eq.trans ?_ (congrArg (fun y : S16384x32.Idx => (kScale (amax (lst I) (xrow W c (y 0)) (y 1)) : EReal)) (emb0_3 I t y)).symm
  exact arr0_scale_blk I W c t y

theorem arr0_codes_blk (t : Fin (cfg0 (tabs (F := Ideal) I 0)).N) (q : S256x4096.Idx) :
    (codesBlock (maskOf Ideal I 124) (blk0 I (W c) 0 t) q : EReal) = kCode (lst I) (xrow W c (rowOf t (q 0))) (q 1) := by
  refine Eq.trans (congrArg _ (eq_ix2 q)) ((codesBlock_at I _ _ _).trans ?_)
  exact congrArg (fun z : Fin 4096 → EReal => kCode (lst I) z (q 1)) (blk0_row I W c t (q 0))

/-- The array of window 2 after the region. -/
theorem arr0_codes : (dat0 I W c).arrAt 2 (cfg0 (tabs (F := Ideal) I 0)).N
    = (fun y : S16384x4096.Idx => (kCode (lst I) (xrow W c (y 0)) (y 1) : EReal)) := by
  refine (dat0 I W c).arrAt_eq_of_covers 2 _ (cov0_2 I) fun t hf y => ?_
  refine Eq.trans ?_ (congrArg (fun y : S16384x4096.Idx => (kCode (lst I) (xrow W c (y 0)) (y 1) : EReal)) (emb0_2 I t y)).symm
  exact arr0_codes_blk I W c t y

theorem arr0_xm_blk (t : Fin (cfg0 (tabs (F := Ideal) I 0)).N) (q : S256x4096.Idx) :
    (xmBlock (maskOf Ideal I 124) (blk0 I (W c) 0 t) q : EReal) = kXm (lst I) (xrow W c (rowOf t (q 0))) (q 1) := by
  refine Eq.trans (congrArg _ (eq_ix2 q)) ((xmBlock_at I _ _ _).trans ?_)
  exact congrArg (fun z : Fin 4096 → EReal => kXm (lst I) z (q 1)) (blk0_row I W c t (q 0))

/-- The array of window 1 after the region. -/
theorem arr0_xm : (dat0 I W c).arrAt 1 (cfg0 (tabs (F := Ideal) I 0)).N
    = (fun y : S16384x4096.Idx => (kXm (lst I) (xrow W c (y 0)) (y 1) : EReal)) := by
  refine (dat0 I W c).arrAt_eq_of_covers 1 _ (cov0_1 I) fun t hf y => ?_
  refine Eq.trans ?_ (congrArg (fun y : S16384x4096.Idx => (kXm (lst I) (xrow W c (y 0)) (y 1) : EReal)) (emb0_1 I t y)).symm
  exact arr0_xm_blk I W c t y

end Cert.KernelIdeal.Hand
-- ==== Proof.KI.WprepValue.lean ====
/-
  What the second kernel leaves in its block, at an index, over the extended reals: an outlier row holds that row of the
  outlier weights, any other row holds the codes times their block's scale.
-/
module

public import proofs.«01_k».proof.Proof.KI.Sound
public import proofs.«01_k».proof.Proof.KI.QuantValue
public import Idealize.ShloMosaic.Lib.Pipeline.Value
public import Idealize.ShloMosaic.Lib.Pipeline.CanonAppend

@[expose] public section

set_option maxRecDepth 16384

noncomputable section

namespace Cert.KernelIdeal.Hand

open Cert.KernelIdeal Cert.KernelIdeal.Gen Cert.Val
open Idealize.ShloMosaic Idealize.ShloMosaic.TcCoe Idealize.ShloMosaic.Tactic Idealize.ShloMosaic.Pipeline

variable (I : S124.Idx → BitVec 32)

/-- One outlier row, as it is stored. -/
theorem pay81_at (WO : S124x256.Idx → EReal) (k : Fin k1_t1_loop.trips) (l : Fin 256) :
    (k1_pay81 (F := Ideal) (View.ld (Val := Elt Ideal) (e' := .f32) WO (Rect.unit (s := S124x256) (k1_off33 k) S1x256.size (k1_off33_inb k))) (ix2 0 l) : EReal)
      = WO (ix2 ⟨k.val, trips1 ▸ k.isLt⟩ l) := by
  pointwise [k1_pay81]
  show WO _ = WO _
  congr 1
  funext a
  apply Fin.ext
  have hc : k1_off33 k = ![k.val, 0] := k1_off33_eq k
  match a with
  | ⟨0, _⟩ =>
    show k1_off33 k 0 + 1 * 0 = k.val
    simp only [hc]; rfl
  | ⟨1, _⟩ =>
    show k1_off33 k 1 + l.val = l.val
    simp only [hc]
    exact Nat.zero_add _

/-- A stored row covers only its own row of the scratch. -/
theorem row_mem (w : BitVec 32) (h : k1_chk1 w) (R : Fin 4096) (l : Fin 256) :
    (ix2 R l : S4096x256.Idx) ∈ (Rect.unit (s := S4096x256) (k1_off35 w) S1x256.size (k1_off35_inb w h)).set ↔ w.toNat = R.val := by
  rw [Rect.mem_set_unit]
  constructor
  · intro h
    have h0 := h 0
    have : w.toNat ≤ R.val ∧ R.val < w.toNat + 1 := h0
    omega
  · intro h a
    fin_cases a
    · show w.toNat ≤ R.val ∧ R.val < w.toNat + 1
      omega
    · show 0 ≤ l.val ∧ l.val < 0 + 256
      omega

theorem row_emb (w : BitVec 32) (h : k1_chk1 w) (R : Fin 4096) (l : Fin 256) (hw : w.toNat = R.val) :
    (Rect.unit (s := S4096x256) (k1_off35 w) S1x256.size (k1_off35_inb w h)).emb (ix2 0 l : S1x256.Idx) = (ix2 R l : S4096x256.Idx) := by
  funext a
  apply Fin.ext
  match a with
  | ⟨0, _⟩ => show w.toNat + 1 * 0 = R.val; omega
  | ⟨1, _⟩ => show 0 + 1 * l.val = l.val; omega

/-- A row that no trip so far names is as it was before the loop. -/
theorem outRows_miss (hI : Words1 Ideal I) (WO : S124x256.Idx → EReal) (B : List (View.Piece (Elt Ideal) S4096x256 .f32)) (R : Fin 4096) (l : Fin 256) :
    ∀ k, (∀ o : Fin 124, o.val < k → (I (at1 o)).toNat ≠ R.val) → View.canon (outRows (F := Ideal) I hI WO k ++ B) (ix2 R l) = View.canon B (ix2 R l)
  | 0, _ => rfl
  | k + 1, h => by
    have ih := outRows_miss hI WO B R l k (fun o ho => h o (by omega))
    by_cases hk : k < k1_t1_loop.trips
    · rw [outRows, dif_pos hk, List.cons_append, View.canon_cons_of_not_mem, ih]
      rw [row_mem _ (hI k hk), word1_eq]
      exact h ⟨k, trips1 ▸ hk⟩ (Nat.lt_succ_self k)
    · rw [outRows, dif_neg hk, ih]

/-- A row that trip `o` names holds that row of the outlier weights, when no other trip names it. -/
theorem outRows_hit (hI : Words1 Ideal I) (hd : ∀ o o' : Fin 124, (I (at1 o)).toNat = (I (at1 o')).toNat → o = o')
    (WO : S124x256.Idx → EReal) (B : List (View.Piece (Elt Ideal) S4096x256 .f32)) (R : Fin 4096) (l : Fin 256)
    (o : Fin 124) (hR : (I (at1 o)).toNat = R.val) :
    ∀ k, o.val < k → View.canon (outRows (F := Ideal) I hI WO k ++ B) (ix2 R l) = WO (ix2 o l)
  | 0, h => absurd h (Nat.not_lt_zero _)
  | k + 1, h => by
    by_cases hk : k < k1_t1_loop.trips
    · rw [outRows, dif_pos hk, List.cons_append]
      by_cases e : o.val = k
      · subst e
        have hw : (word1 (F := Ideal) I ⟨o.val, hk⟩).toNat = R.val := by rw [word1_eq]; exact hR
        rw [← row_emb _ (hI o.val hk) R l hw, View.canon_cons_emb]
        exact pay81_at WO ⟨o.val, hk⟩ l
      · rw [View.canon_cons_of_not_mem, outRows_hit hI hd WO B R l o hR k (by omega)]
        rw [row_mem _ (hI k hk), word1_eq]
        intro h'
        exact e (congrArg Fin.val (hd o ⟨k, trips1 ▸ hk⟩ (hR.trans h'.symm)))
    · rw [outRows, dif_neg hk]
      exact outRows_hit hI hd WO B R l o hR k (by have := trips1; have := o.isLt; omega)

/-- A block of scaled codes, at an index. -/
theorem pay2_at (s : EReal) (C : S128x128.Idx → EReal) (x : S128x128.Idx) :
    (k1_pay2 (F := Ideal) s C x : EReal) = C x * s := by
  rw [eq_ix2 x]
  pointwise [k1_pay2]

/-- The scale of an entry of the block. -/
def wsAt (i : grid1.Coords) (WS : S32x86.Idx → EReal) (y : S4096x256.Idx) : EReal :=
  WS (ix2 ⟨(y 0).val / 128, by have : (y 0).val < 4096 := (y 0).isLt; omega⟩
    ⟨2 * (i 0).val + (y 1).val / 128, by have : (y 1).val < 256 := (y 1).isLt; have : (i 0).val < 43 := (i 0).isLt; omega⟩)

theorem wsCol : ∀ (n : Fin 43) (h : Fin 2), (Scalar.indexCast (Scalar.addi (Scalar.muli (BitVec.ofNat 32 n.val) 2#32) (BitVec.ofNat 32 h.val))).toNat = 2 * n.val + h.val := by
  decide +kernel

theorem wsOff_0 (i : grid1.Coords) (b : Fin 32 × Fin 2) : wsOff i b 0 = b.1.val := rfl
theorem wsOff_1 (i : grid1.Coords) (b : Fin 32 × Fin 2) : wsOff i b 1 = 2 * (i 0).val + b.2.val := wsCol (i 0) b.2

theorem scaled_at (i : grid1.Coords) (WS : S32x86.Idx → EReal) (WC : S4096x256.Idx → EReal) (y : S4096x256.Idx) :
    (View.canon (scaledBlocks (F := Ideal) i WS WC) y : EReal) = WC y * wsAt i WS y := by
  refine View.canon_apply_of_pieces (Val := Elt Ideal) (e := .f32) (fun y => (WC y * wsAt i WS y : EReal)) _ ?_ y ?_
  · intro p hp x
    obtain ⟨b, hb, rfl⟩ := List.mem_map.1 hp
    refine (pay2_at _ _ _).trans ?_
    show WC _ * WS _ = WC _ * WS _
    have x0 : (x 0).val < 128 := (x 0).isLt
    have x1 : (x 1).val < 128 := (x 1).isLt
    refine congr (congrArg _ ?_) ?_
    · rfl
    · congr 1
      funext a
      apply Fin.ext
      match a with
      | ⟨0, _⟩ =>
        show wsOff i b 0 + 1 * 0 = (128 * b.1.val + 1 * (x 0).val) / 128
        have h := wsOff_0 i b
        omega
      | ⟨1, _⟩ =>
        show wsOff i b 1 + 1 * 0 = 2 * (i 0).val + (128 * b.2.val + 1 * (x 1).val) / 128
        have h := wsOff_1 i b
        omega
  · have y0 : (y 0).val < 4096 := (y 0).isLt
    have y1 : (y 1).val < 256 := (y 1).isLt
    refine ⟨_, List.mem_map.2 ⟨(⟨(y 0).val / 128, by omega⟩, ⟨(y 1).val / 128, by omega⟩), mem_wblocks _ _, rfl⟩, ?_⟩
    rw [Rect.mem_set_unit]
    intro a
    fin_cases a
    · show 128 * ((y 0).val / 128) ≤ (y 0).val ∧ (y 0).val < 128 * ((y 0).val / 128) + 128
      omega
    · show 128 * ((y 1).val / 128) ≤ (y 1).val ∧ (y 1).val < 128 * ((y 1).val / 128) + 128
      omega

/-- The block at an outlier row. -/
theorem wmBlock_out (i : grid1.Coords) (hI : InRange I) (hd : ∀ o o' : Fin 124, (I (at1 o)).toNat = (I (at1 o')).toNat → o = o')
    (WS : S32x86.Idx → EReal) (WO : S124x256.Idx → EReal) (WC : S4096x256.Idx → EReal) (R : Fin 4096) (l : Fin 256) (o : Fin 124)
    (hR : (I (at1 o)).toNat = R.val) :
    (wmBlock (F := Ideal) i I hI WS WO WC (ix2 R l) : EReal) = WO (ix2 o l) := by
  show (View.canon (Val := Elt Ideal) (e := .f32) (wAcc i I (words1_of_inRange I hI) WS WO WC) (ix2 R l) : EReal) = _
  exact outRows_hit I _ hd WO _ R l o hR _ (by rw [trips1]; exact o.isLt)

/-- The block at any other row. -/
theorem wmBlock_in (i : grid1.Coords) (hI : InRange I) (WS : S32x86.Idx → EReal) (WO : S124x256.Idx → EReal) (WC : S4096x256.Idx → EReal)
    (R : Fin 4096) (l : Fin 256) (hR : ¬ IsOut (lst I) R.val) :
    (wmBlock (F := Ideal) i I hI WS WO WC (ix2 R l) : EReal) = WC (ix2 R l) * wsAt i WS (ix2 R l) := by
  show (View.canon (Val := Elt Ideal) (e := .f32) (wAcc i I (words1_of_inRange I hI) WS WO WC) (ix2 R l) : EReal) = _
  refine (outRows_miss I _ WO _ R l _ (fun o _ h => hR ⟨o, h⟩)).trans ?_
  exact scaled_at i WS WC _

end Cert.KernelIdeal.Hand
-- ==== Proof.KI.Arrays1.lean ====
/-
  What the second kernel leaves in its array, at an index, over the extended reals: the mixed weights.
-/
module

public import proofs.«01_k».proof.Proof.KI.Dat12
public import proofs.«01_k».proof.Proof.KI.WprepValue
public import Idealize.ShloMosaic.Lib.Pipeline.ValueKit

@[expose] public section

set_option maxRecDepth 16384

noncomputable section

namespace Cert.KernelIdeal.Hand

open Cert.KernelIdeal Cert.KernelIdeal.Gen Cert.Val
open Idealize.ShloMosaic Idealize.ShloMosaic.TcCoe Idealize.ShloMosaic.Tactic Idealize.ShloMosaic.Pipeline

variable (I : S124.Idx → BitVec 32) (W : Dev nD → Valuation τ sig (Elt Ideal)) (c : Dev nD)

/-- The outlier weights, the weight codes and their scales, as the second kernel finds them. -/
def woAt (o : Fin 124) (n : Fin 11008) : EReal := (W c (Proc.devRef .tc main_v2) : S124x11008.Idx → EReal) (ix2 o n)
@[inherit_doc woAt] def wcAt (k : Fin 4096) (n : Fin 11008) : EReal := (W c (Proc.devRef .tc main_arg3) : S4096x11008.Idx → EReal) (ix2 k n)
@[inherit_doc woAt] def wsOf (j : Fin 32) (b : Fin 86) : EReal := (W c (Proc.devRef .tc main_arg4) : S32x86.Idx → EReal) (ix2 j b)

/-- The mixed weights. -/
def wm (k : Fin 4096) (n : Fin 11008) : EReal := wmOf (lst I) (woAt W c) (wcAt W c) (wsOf W c) k n

/-- Column `l` of point `t`'s block, as a column of the array. -/
def colAt (t : Fin 43) (l : Fin 256) : Fin 11008 := ⟨256 * t.val + l.val, by omega⟩

theorem tr1_0 : ∀ t : Fin grid1.N, cc1_transform_0 (grid1.coords t) = ![0, 0] := by decide +kernel
/-- Where a block's entry lies in its array. -/
theorem emb1_0 (t : Fin (cfg1 (tabs (F := Ideal) I 1)).N) (y : S32x86.Idx) :
    (((cfg1 (tabs (F := Ideal) I 1)).win 0).blk t).view.emb y = (ix2 (y 0) (y 1) : S32x86.Idx) := by
  have y0 : (y 0).val < 32 := (y 0).isLt
  have y1 : (y 1).val < 86 := (y 1).isLt
  funext a
  apply Fin.ext
  match a with
  | ⟨0, _⟩ =>
    show cc1_transform_0 (grid1.coords t) 0 * 32 + 1 * (y 0).val = (y 0).val
    rw [tr1_0]; show 0 * 32 + 1 * _ = _; omega
  | ⟨1, _⟩ =>
    show cc1_transform_0 (grid1.coords t) 1 * 86 + 1 * (y 1).val = (y 1).val
    rw [tr1_0]; show 0 * 86 + 1 * _ = _; omega

theorem tr1_1 : ∀ t : Fin grid1.N, cc1_transform_1 (grid1.coords t) = ![0, t.val] := by decide +kernel
/-- Where a block's entry lies in its array. -/
theorem emb1_1 (t : Fin (cfg1 (tabs (F := Ideal) I 1)).N) (y : S124x256.Idx) :
    (((cfg1 (tabs (F := Ideal) I 1)).win 1).blk t).view.emb y = (ix2 (y 0) (colAt t (y 1)) : S124x11008.Idx) := by
  have y0 : (y 0).val < 124 := (y 0).isLt
  have y1 : (y 1).val < 256 := (y 1).isLt
  funext a
  apply Fin.ext
  match a with
  | ⟨0, _⟩ =>
    show cc1_transform_1 (grid1.coords t) 0 * 124 + 1 * (y 0).val = (y 0).val
    rw [tr1_1]; show 0 * 124 + 1 * _ = _; omega
  | ⟨1, _⟩ =>
    show cc1_transform_1 (grid1.coords t) 1 * 256 + 1 * (y 1).val = 256 * t.val + (y 1).val
    rw [tr1_1]; show t.val * 256 + 1 * _ = _; omega

theorem tr1_2 : ∀ t : Fin grid1.N, cc1_transform_2 (grid1.coords t) = ![0, t.val] := by decide +kernel
/-- Where a block's entry lies in its array. -/
theorem emb1_2 (t : Fin (cfg1 (tabs (F := Ideal) I 1)).N) (y : S4096x256.Idx) :
    (((cfg1 (tabs (F := Ideal) I 1)).win 2).blk t).view.emb y = (ix2 (y 0) (colAt t (y 1)) : S4096x11008.Idx) := by
  have y0 : (y 0).val < 4096 := (y 0).isLt
  have y1 : (y 1).val < 256 := (y 1).isLt
  funext a
  apply Fin.ext
  match a with
  | ⟨0, _⟩ =>
    show cc1_transform_2 (grid1.coords t) 0 * 4096 + 1 * (y 0).val = (y 0).val
    rw [tr1_2]; show 0 * 4096 + 1 * _ = _; omega
  | ⟨1, _⟩ =>
    show cc1_transform_2 (grid1.coords t) 1 * 256 + 1 * (y 1).val = 256 * t.val + (y 1).val
    rw [tr1_2]; show t.val * 256 + 1 * _ = _; omega

theorem tr1_3 : ∀ t : Fin grid1.N, cc1_transform_3 (grid1.coords t) = ![0, t.val] := by decide +kernel
/-- Where a block's entry lies in its array. -/
theorem emb1_3 (t : Fin (cfg1 (tabs (F := Ideal) I 1)).N) (y : S4096x256.Idx) :
    (((cfg1 (tabs (F := Ideal) I 1)).win 3).blk t).view.emb y = (ix2 (y 0) (colAt t (y 1)) : S4096x11008.Idx) := by
  have y0 : (y 0).val < 4096 := (y 0).isLt
  have y1 : (y 1).val < 256 := (y 1).isLt
  funext a
  apply Fin.ext
  match a with
  | ⟨0, _⟩ =>
    show cc1_transform_3 (grid1.coords t) 0 * 4096 + 1 * (y 0).val = (y 0).val
    rw [tr1_3]; show 0 * 4096 + 1 * _ = _; omega
  | ⟨1, _⟩ =>
    show cc1_transform_3 (grid1.coords t) 1 * 256 + 1 * (y 1).val = 256 * t.val + (y 1).val
    rw [tr1_3]; show t.val * 256 + 1 * _ = _; omega

theorem cov1_3 : (((cfg1 (tabs (F := Ideal) I 1)).win 3)).Covers := by
  show (((cfg1 (tabs (F := Ideal) (fun _ => 0#32) 1)).win 3)).Covers
  decide +kernel

theorem coord1 : ∀ t : Fin grid1.N, (grid1.coords t 0).val = t.val := by decide +kernel

/-- The block of mixed weights at a point. -/
theorem arr1_blk (hI : InRange I) (hd : ∀ o o' : Fin 124, (I (at1 o)).toNat = (I (at1 o')).toNat → o = o')
    (t : Fin (cfg1 (tabs (F := Ideal) I 1)).N) (R : Fin 4096) (l : Fin 256) :
    (wmBlock (F := Ideal) (grid1.coords t) I hI (blk1 I (W c) 0 t) (blk1 I (W c) 1 t) (blk1 I (W c) 2 t) (ix2 R l) : EReal) = wm I W c R (colAt t l) := by
  unfold wm wmOf
  by_cases h : IsOut (lst I) R.val
  · rw [dif_pos h]
    refine (wmBlock_out I _ hI hd _ _ _ R l (Classical.choose h) (Classical.choose_spec h)).trans ?_
    exact congrArg (W c (Proc.devRef .tc main_v2) : S124x11008.Idx → EReal) (emb1_1 I t (ix2 (Classical.choose h) l))
  · rw [dif_neg h]
    refine (wmBlock_in I _ hI _ _ _ R l h).trans ?_
    refine congr (congrArg _ ?_) ?_
    · exact congrArg (W c (Proc.devRef .tc main_arg3) : S4096x11008.Idx → EReal) (emb1_2 I t (ix2 R l))
    · refine (congrArg (W c (Proc.devRef .tc main_arg4) : S32x86.Idx → EReal) (emb1_0 I t _)).trans ?_
      show (W c (Proc.devRef .tc main_arg4) : S32x86.Idx → EReal) (ix2 _ _) = (W c (Proc.devRef .tc main_arg4) : S32x86.Idx → EReal) (ix2 _ _)
      congr 2
      apply Fin.ext
      show 2 * (grid1.coords t 0).val + l.val / 128 = (256 * t.val + l.val) / 128
      rw [coord1]
      have := l.isLt
      omega

/-- The mixed weights' array after the region. -/
theorem arr1_wm (hI : InRange I) (hd : ∀ o o' : Fin 124, (I (at1 o)).toNat = (I (at1 o')).toNat → o = o') :
    (dat1 I hI W c).arrAt 3 (cfg1 (tabs (F := Ideal) I 1)).N = (fun y : S4096x11008.Idx => (wm I W c (y 0) (y 1) : EReal)) := by
  refine (dat1 I hI W c).arrAt_eq_of_covers 3 _ (cov1_3 I) fun t hf y => ?_
  refine Eq.trans ?_ (congrArg (fun y : S4096x11008.Idx => (wm I W c (y 0) (y 1) : EReal)) (emb1_3 I t y)).symm
  refine Eq.trans ?_ (arr1_blk I W c hI hd t _ _)
  exact congrArg (wmBlock (F := Ideal) (grid1.coords t) I hI (blk1 I (W c) 0 t) (blk1 I (W c) 1 t) (blk1 I (W c) 2 t)) (eq_ix2 (y : S4096x256.Idx))

end Cert.KernelIdeal.Hand

end
-- ==== Proof.KI.Arrays2.lean ====
/-
  What the third kernel leaves in its array, at an index, over the extended reals: the product.
-/
module

public import proofs.«01_k».proof.Proof.KI.Dat12
public import proofs.«01_k».proof.Proof.Val.Spec
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Cert.Val
open Idealize.ShloMosaic Idealize.ShloMosaic.TcCoe Idealize.ShloMosaic.Tactic Idealize.ShloMosaic.Pipeline

variable (W : Dev nD → Valuation τ sig (Elt Ideal)) (c : Dev nD)

/-- Row `r` of a point's block of 2048, as a row of the array; likewise a column of its 256. -/
def row2 (t : Fin 344) (r : Fin 2048) : Fin 16384 := ⟨2048 * (t.val / 43) + r.val, by omega⟩
@[inherit_doc row2] def col2 (t : Fin 344) (l : Fin 256) : Fin 11008 := ⟨256 * (t.val % 43) + l.val, by omega⟩

theorem tr2_0 : ∀ t : Fin grid2.N, cc2_transform_0 (grid2.coords t) = ![t.val / 43, 0] := by decide +kernel
/-- Where a block's entry lies in its array. -/
theorem emb2_0 (t : Fin cfg2.N) (y : S2048x4096.Idx) :
    ((cfg2.win 0).blk t).view.emb y = (ix2 (row2 t (y 0)) (y 1) : S16384x4096.Idx) := by
  have y0 : (y 0).val < 2048 := (y 0).isLt
  have y1 : (y 1).val < 4096 := (y 1).isLt
  funext a
  apply Fin.ext
  match a with
  | ⟨0, _⟩ =>
    show cc2_transform_0 (grid2.coords t) 0 * 2048 + 1 * (y 0).val = 2048 * (t.val / 43) + (y 0).val
    rw [tr2_0]; show t.val / 43 * 2048 + 1 * _ = _; omega
  | ⟨1, _⟩ =>
    show cc2_transform_0 (grid2.coords t) 1 * 4096 + 1 * (y 1).val = (y 1).val
    rw [tr2_0]; show 0 * 4096 + 1 * _ = _; omega

theorem tr2_1 : ∀ t : Fin grid2.N, cc2_transform_1 (grid2.coords t) = ![0, t.val % 43] := by decide +kernel
/-- Where a block's entry lies in its array. -/
theorem emb2_1 (t : Fin cfg2.N) (y : S4096x256.Idx) :
    ((cfg2.win 1).blk t).view.emb y = (ix2 (y 0) (col2 t (y 1)) : S4096x11008.Idx) := by
  have y0 : (y 0).val < 4096 := (y 0).isLt
  have y1 : (y 1).val < 256 := (y 1).isLt
  funext a
  apply Fin.ext
  match a with
  | ⟨0, _⟩ =>
    show cc2_transform_1 (grid2.coords t) 0 * 4096 + 1 * (y 0).val = (y 0).val
    rw [tr2_1]; show 0 * 4096 + 1 * _ = _; omega
  | ⟨1, _⟩ =>
    show cc2_transform_1 (grid2.coords t) 1 * 256 + 1 * (y 1).val = 256 * (t.val % 43) + (y 1).val
    rw [tr2_1]; show t.val % 43 * 256 + 1 * _ = _; omega

theorem tr2_2 : ∀ t : Fin grid2.N, cc2_transform_2 (grid2.coords t) = ![t.val / 43, t.val % 43] := by decide +kernel
/-- Where a block's entry lies in its array. -/
theorem emb2_2 (t : Fin cfg2.N) (y : S2048x256.Idx) :
    ((cfg2.win 2).blk t).view.emb y = (ix2 (row2 t (y 0)) (col2 t (y 1)) : S16384x11008.Idx) := by
  have y0 : (y 0).val < 2048 := (y 0).isLt
  have y1 : (y 1).val < 256 := (y 1).isLt
  funext a
  apply Fin.ext
  match a with
  | ⟨0, _⟩ =>
    show cc2_transform_2 (grid2.coords t) 0 * 2048 + 1 * (y 0).val = 2048 * (t.val / 43) + (y 0).val
    rw [tr2_2]; show t.val / 43 * 2048 + 1 * _ = _; omega
  | ⟨1, _⟩ =>
    show cc2_transform_2 (grid2.coords t) 1 * 256 + 1 * (y 1).val = 256 * (t.val % 43) + (y 1).val
    rw [tr2_2]; show t.val % 43 * 256 + 1 * _ = _; omega

theorem cov2_2 : (cfg2.win 2).Covers := by
  decide +kernel

/-- A block of the product. -/
theorem mmBlock_at (X : S2048x4096.Idx → EReal) (M : S4096x256.Idx → EReal) (r : Fin 2048) (l : Fin 256) :
    (mmBlock (F := Ideal) X M (ix2 r l) : EReal) = ∑ k : Fin 4096, X (ix2 r k) * M (ix2 k l) := by
  pointwise [mmBlock, k2_pay1]

/-- The product's two operands. -/
def lhsAt (R : Fin 16384) (k : Fin 4096) : EReal := (W c (Proc.devRef .tc main_v1_0) : S16384x4096.Idx → EReal) (ix2 R k)
@[inherit_doc lhsAt] def rhsAt (k : Fin 4096) (n : Fin 11008) : EReal := (W c (Proc.devRef .tc main_v3) : S4096x11008.Idx → EReal) (ix2 k n)

/-- The product at an index of its array. -/
def prod (R : Fin 16384) (n : Fin 11008) : EReal := ∑ k : Fin 4096, lhsAt W c R k * rhsAt W c k n

theorem arr2_blk (t : Fin cfg2.N) (r : Fin 2048) (l : Fin 256) :
    (mmBlock (F := Ideal) (blk2 (W c) 0 t) (blk2 (W c) 1 t) (ix2 r l) : EReal) = prod W c (row2 t r) (col2 t l) := by
  refine (mmBlock_at _ _ r l).trans (Finset.sum_congr rfl fun k _ => ?_)
  refine congr (congrArg _ ?_) ?_
  · exact congrArg (W c (Proc.devRef .tc main_v1_0) : S16384x4096.Idx → EReal) (emb2_0 t (ix2 r k))
  · exact congrArg (W c (Proc.devRef .tc main_v3) : S4096x11008.Idx → EReal) (emb2_1 t (ix2 k l))

/-- The product's array after the region. -/
theorem arr2_y : (dat2 W c).arrAt 2 cfg2.N = (fun y : S16384x11008.Idx => (prod W c (y 0) (y 1) : EReal)) := by
  refine (dat2 W c).arrAt_eq_of_covers 2 _ cov2_2 fun t hf y => ?_
  refine Eq.trans ?_ (congrArg (fun y : S16384x11008.Idx => (prod W c (y 0) (y 1) : EReal)) (emb2_2 t y)).symm
  refine Eq.trans ?_ (arr2_blk W c t _ _)
  exact congrArg (mmBlock (F := Ideal) (blk2 (W c) 0 t) (blk2 (W c) 1 t)) (eq_ix2 (y : S2048x256.Idx))

end Cert.KernelIdeal.Hand

end
-- ==== Proof.KI.Result.lean ====
/-
  The kernel's three results at an index, as functions of the arguments' launch contents.
-/
module

public import proofs.«01_k».proof.Proof.KI.Run
public import proofs.«01_k».proof.Proof.KI.Arrays0
public import proofs.«01_k».proof.Proof.KI.Arrays1
public import proofs.«01_k».proof.Proof.KI.Arrays2

@[expose] public section

set_option maxRecDepth 16384

noncomputable section

namespace Cert.KernelIdeal.Hand

open Cert.KernelIdeal Cert.KernelIdeal.Gen Cert.Val
open Idealize.ShloMosaic Idealize.ShloMosaic.TcCoe Idealize.ShloMosaic.Tactic

variable (m : (ℓ : Loc nD τ sig) → Buf (Elt Ideal) ℓ) (hI : InRange (tbl m)) (c : Dev nD)

/-- Row `s` of batch `b` among all the rows. -/
def flat (b : Fin 8) (s : Fin 2048) : Fin 16384 := ⟨b.val * 2048 + s.val, by omega⟩

/-- A row of `x`. -/
def xRow (b : Fin 8) (s : Fin 2048) (k : Fin 4096) : EReal := (m ((c : Thread nD τ).loc main_arg0) : S8x2048x4096.Idx → EReal) (ix3 b s k)

theorem merge_at (v : S8x2048x4096.Idx → Ideal .bf16) (R : Fin 16384) (k : Fin 4096) :
    (shapeCast S16384x4096 v shapeCasts_S8x2048x4096_S16384x4096 (ix2 R k) : EReal) = v (ix3 ⟨R.val / 2048, by omega⟩ ⟨R.val % 2048, by omega⟩ k) := by
  pointwise

theorem reshape_x (b : Fin 8) (s : Fin 2048) : xrow (V1 m) c (flat b s) = xRow m c b s := by
  funext k
  have h : V1 m c (Proc.devRef .tc main_v0) = shapeCast S16384x4096 (m ((c : Thread nD τ).loc main_arg0)) shapeCasts_S8x2048x4096_S16384x4096 := by
    show StableHlo.after hostOps0 (V0 m c) (Proc.devRef .tc main_v0) = _
    after_results_simp <;> rfl
  unfold xrow xRow
  rw [h]
  generalize m ((c : Thread nD τ).loc main_arg0) = v
  refine (merge_at v (flat b s) k).trans (congrArg v ?_)
  have h0 : (⟨(flat b s).val / 2048, by omega⟩ : Fin 8) = b := Fin.ext (by show (b.val * 2048 + s.val) / 2048 = b.val; omega)
  have h1 : (⟨(flat b s).val % 2048, by omega⟩ : Fin 2048) = s := Fin.ext (by show (b.val * 2048 + s.val) % 2048 = s.val; omega)
  rw [h0, h1]

theorem V2_scale : V2 m (outs m hI) c (Proc.devRef .tc main_v1_2) = (fun y : S16384x32.Idx => (kScale (amax (lst (tbl m)) (xrow (V1 m) c (y 0)) (y 1)) : EReal)) :=
  (left0 m hI c main_v1_2).symm.trans ((Pipeline.afterRegion_arr (dat0 (tbl m) (V1 m) c) (V1 m c) (launch0 (F := Ideal)).win.arr_inj 3).trans (arr0_scale (tbl m) (V1 m) c))
theorem V2_codes : V2 m (outs m hI) c (Proc.devRef .tc main_v1_1) = (fun y : S16384x4096.Idx => (kCode (lst (tbl m)) (xrow (V1 m) c (y 0)) (y 1) : EReal)) :=
  (left0 m hI c main_v1_1).symm.trans ((Pipeline.afterRegion_arr (dat0 (tbl m) (V1 m) c) (V1 m c) (launch0 (F := Ideal)).win.arr_inj 2).trans (arr0_codes (tbl m) (V1 m) c))
theorem V2_xm : V2 m (outs m hI) c (Proc.devRef .tc main_v1_0) = (fun y : S16384x4096.Idx => (kXm (lst (tbl m)) (xrow (V1 m) c (y 0)) (y 1) : EReal)) :=
  (left0 m hI c main_v1_0).symm.trans ((Pipeline.afterRegion_arr (dat0 (tbl m) (V1 m) c) (V1 m c) (launch0 (F := Ideal)).win.arr_inj 1).trans (arr0_xm (tbl m) (V1 m) c))

/-- No two positions of the index list name one column. -/
def Distinct : Prop := ∀ o o' : Fin 124, (tbl m (at1 o)).toNat = (tbl m (at1 o')).toNat → o = o'

theorem V4_wm (hd : Distinct m) : V4 m (outs m hI) c (Proc.devRef .tc main_v3) = (fun y : S4096x11008.Idx => (wm (tbl m) (V3 m (outs0 m)) c (y 0) (y 1) : EReal)) :=
  (left1 m hI c main_v3).symm.trans ((Pipeline.afterRegion_arr (dat1 (tbl m) hI (V3 m (outs0 m)) c) (V3 m (outs0 m) c) (launch1 (F := Ideal)).win.arr_inj 3).trans (arr1_wm (tbl m) (V3 m (outs0 m)) c hI hd))
theorem V5_y : V5 m (outs m hI) c (Proc.devRef .tc main_v4) = (fun y : S16384x11008.Idx => (prod (V4 m (outs1 m hI)) c (y 0) (y 1) : EReal)) :=
  (left2 m hI c main_v4).symm.trans ((Pipeline.afterRegion_arr (dat2 (V4 m (outs1 m hI)) c) (V4 m (outs1 m hI) c) (launch2 (F := Ideal)).win.arr_inj 2).trans (arr2_y (V4 m (outs1 m hI)) c))

/-- The outlier weights, the weight codes and their scales, as launched. -/
def aWo (o : Fin 124) (n : Fin 11008) : EReal := (m ((c : Thread nD τ).loc main_arg2) : S124x11008.Idx → EReal) (ix2 o n)
@[inherit_doc aWo] def aWc (k : Fin 4096) (n : Fin 11008) : EReal := (m ((c : Thread nD τ).loc main_arg3) : S4096x11008.Idx → EReal) (ix2 k n)
@[inherit_doc aWo] def aWs (i : Fin 32) (j : Fin 86) : EReal := (m ((c : Thread nD τ).loc main_arg4) : S32x86.Idx → EReal) (ix2 i j)

theorem keep3 (r : Ref sig .tc) (h1 : r ∉ hostOps0_W) (h2 : r ∉ ([main_v1_0, main_v1_1, main_v1_2] : List (Ref sig .tc))) (h3 : r ∉ hostOps1_W) :
    V3 m (outs0 m) c r = m ((c : Thread nD τ).loc r) :=
  (V3_of m _ c r h3).trans ((V2_of m _ c r h2).trans (V1_of m c r h1))

theorem wo_V3 (o : Fin 124) (n : Fin 11008) : woAt (V3 m (outs0 m)) c o n = aWo m c o n := by
  have h : V3 m (outs0 m) c (Proc.devRef .tc main_v2) = extf (F := Ideal) .f32 (V2 m (outs0 m) c (Proc.devRef .tc main_arg2) : FVec Ideal S124x11008 .bf16) bitsLt_bf16_f32 := by
    show StableHlo.after hostOps1 (V2 m (outs0 m) c) (Proc.devRef .tc main_v2) = _
    after_results_simp <;> rfl
  have h2 : V2 m (outs0 m) c (Proc.devRef .tc main_arg2) = m ((c : Thread nD τ).loc main_arg2) :=
    (V2_of m _ c main_arg2 (by decide)).trans (V1_of m c main_arg2 (by decide))
  unfold woAt aWo
  rw [h, h2]
  rfl

theorem wm_V3 (k : Fin 4096) (n : Fin 11008) : wm (tbl m) (V3 m (outs0 m)) c k n = wmOf (lst (tbl m)) (aWo m c) (aWc m c) (aWs m c) k n := by
  have h1 : woAt (V3 m (outs0 m)) c = aWo m c := funext fun o => funext fun n => wo_V3 m c o n
  have h2 : wcAt (V3 m (outs0 m)) c = aWc m c := by
    funext k n; unfold wcAt aWc; rw [keep3 m c main_arg3 (by decide) (by decide) (by decide)]
  have h3 : wsOf (V3 m (outs0 m)) c = aWs m c := by
    funext i j; unfold wsOf aWs; rw [keep3 m c main_arg4 (by decide) (by decide) (by decide)]
  unfold wm
  rw [h1, h2, h3]

/-- The kernel's first result. -/
def yK (b : Fin 8) (s : Fin 2048) (n : Fin 11008) : EReal :=
  ∑ k : Fin 4096, kXm (lst (tbl m)) (xRow m c b s) k * wmOf (lst (tbl m)) (aWo m c) (aWc m c) (aWs m c) k n

theorem prod_eq (hd : Distinct m) (b : Fin 8) (s : Fin 2048) (n : Fin 11008) : prod (V4 m (outs1 m hI)) c (flat b s) n = yK m c b s n := by
  unfold prod yK
  refine Finset.sum_congr rfl fun k _ => ?_
  have h1 : lhsAt (V4 m (outs1 m hI)) c (flat b s) k = kXm (lst (tbl m)) (xRow m c b s) k := by
    have e : V4 m (outs m hI) c (Proc.devRef .tc main_v1_0) = V2 m (outs m hI) c (Proc.devRef .tc main_v1_0) :=
      (V4_of m _ c main_v1_0 (by decide)).trans (V3_of m _ c main_v1_0 (by decide))
    unfold lhsAt
    rw [← V4_outs m hI c, e, V2_xm]
    show kXm (lst (tbl m)) (xrow (V1 m) c (flat b s)) k = _
    rw [reshape_x]
  have h2 : rhsAt (V4 m (outs1 m hI)) c k n = wmOf (lst (tbl m)) (aWo m c) (aWc m c) (aWs m c) k n := by
    unfold rhsAt
    rw [← V4_outs m hI c, V4_wm m hI c hd]
    exact wm_V3 m c k n
  rw [h1, h2]

theorem result_y (hd : Distinct m) (b : Fin 8) (s : Fin 2048) (n : Fin 11008) :
    (V6 m (outs m hI) c (Proc.devRef .tc main_v5) : S8x2048x11008.Idx → EReal) (ix3 b s n) = yK m c b s n := by
  have h : V6 m (outs m hI) c (Proc.devRef .tc main_v5) = shapeCast S8x2048x11008 (V5 m (outs m hI) c (Proc.devRef .tc main_v4)) shapeCasts_S16384x11008_S8x2048x11008 := by
    show StableHlo.after hostOps3 (V5 m (outs m hI) c) (Proc.devRef .tc main_v5) = _
    after_results_simp <;> rfl
  rw [h, V5_y, ← prod_eq m hI c hd b s n]
  generalize prod (V4 m (outs1 m hI)) c = v
  pointwise [flat]

theorem result_codes (b : Fin 8) (s : Fin 2048) (k : Fin 4096) :
    (V6 m (outs m hI) c (Proc.devRef .tc main_v6) : S8x2048x4096.Idx → EReal) (ix3 b s k) = kCode (lst (tbl m)) (xRow m c b s) k := by
  have h : V6 m (outs m hI) c (Proc.devRef .tc main_v6) = shapeCast S8x2048x4096 (V5 m (outs m hI) c (Proc.devRef .tc main_v1_1)) shapeCasts_S16384x4096_S8x2048x4096 := by
    show StableHlo.after hostOps3 (V5 m (outs m hI) c) (Proc.devRef .tc main_v6) = _
    after_results_simp <;> rfl
  have e : V5 m (outs m hI) c (Proc.devRef .tc main_v1_1) = V2 m (outs m hI) c (Proc.devRef .tc main_v1_1) :=
    (V5_of m _ c main_v1_1 (by decide)).trans ((V4_of m _ c main_v1_1 (by decide)).trans (V3_of m _ c main_v1_1 (by decide)))
  rw [h, e, V2_codes, ← reshape_x]
  generalize xrow (V1 m) c = v
  pointwise [flat]

theorem result_scale (b : Fin 8) (s : Fin 2048) (j : Fin 32) :
    (V6 m (outs m hI) c (Proc.devRef .tc main_v7) : S8x2048x32.Idx → EReal) (ix3 b s j) = kScale (amax (lst (tbl m)) (xRow m c b s) j) := by
  have h : V6 m (outs m hI) c (Proc.devRef .tc main_v7) = shapeCast S8x2048x32 (V5 m (outs m hI) c (Proc.devRef .tc main_v1_2)) shapeCasts_S16384x32_S8x2048x32 := by
    show StableHlo.after hostOps3 (V5 m (outs m hI) c) (Proc.devRef .tc main_v7) = _
    after_results_simp <;> rfl
  have e : V5 m (outs m hI) c (Proc.devRef .tc main_v1_2) = V2 m (outs m hI) c (Proc.devRef .tc main_v1_2) :=
    (V5_of m _ c main_v1_2 (by decide)).trans ((V4_of m _ c main_v1_2 (by decide)).trans (V3_of m _ c main_v1_2 (by decide)))
  rw [h, e, V2_scale, ← reshape_x]
  generalize xrow (V1 m) c = v
  pointwise [flat]

end Cert.KernelIdeal.Hand

end
-- ==== Proof.Ref.Outlier.lean ====
/-
  The reference's scatter of zeros into the outlier columns and its gather of those columns, read at an index.
-/
module

public import proofs.«01_k».proof.Proof.Gen.ReferenceIdeal
public import proofs.«01_k».proof.Proof.Val.Spec
public import Idealize.ShloMosaic.Lib.Pointwise
public import Idealize.ShloMosaic.Lib.Routing.OpsSet

@[expose] public section

set_option maxRecDepth 16384

noncomputable section

namespace Cert.ReferenceIdeal.Hand

open Cert.ReferenceIdeal Cert.ReferenceIdeal.Gen Cert.Val
open Idealize.ShloMosaic Idealize.ShloMosaic.TcCoe Classical

/-- The index words as the reference hands them to its scatter and gather: negative ones wrapped once. -/
def words (I : S124.Idx → BitVec 32) : S124x1.Idx → BitVec 32 :=
  broadcastInDim S124x1 ![0] bcast_S124_S124x1_0 (select (cmpi .slt I (broadcastInDim S124 ![] bcast_S_S124 (constantI S_ 32 0#32))) (addi I (broadcastInDim S124 ![] bcast_S_S124 (constantI S_ 32 4096#32))) I)

theorem toInt_small (w : BitVec 32) (h : w.toNat < 4096) : w.toInt = (w.toNat : Int) := by
  rw [BitVec.toInt_eq_toNat_cond]; rw [if_pos (by omega)]

theorem words_at (I : S124.Idx → BitVec 32) (hI : ∀ o, (I o).toNat < 4096) (o : Fin 124) (z : Fin 1) : words I (ix2 o z) = I (ix1 o) := by
  have h : (I (ix1 o)).slt 0#32 = false := by
    rw [BitVec.slt_eq_decide, toInt_small _ (hI _)]; simp
  have key : ∀ y : S124.Idx → BitVec 32, broadcastInDim S124x1 ![0] bcast_S124_S124x1_0 y (ix2 o z) = y (ix1 o) := fun y => by
    unfold broadcastInDim
    exact congrArg y (funext fun a => match a with | ⟨0, _⟩ => rfl)
  unfold words
  rw [key]
  show (if BitVec.ofBool ((I (ix1 o)).slt 0#32) = 1 then I (ix1 o) + 4096#32 else I (ix1 o)) = I (ix1 o)
  rw [h]; rfl

abbrev sc := scatter_S8x2048x4096_S124x1_S8x2048x124_01_2_2_1

theorem lands (idx : S124x1.Idx → BitVec 32) (j : S8x2048x124.Idx) (b : Fin 8) (s : Fin 2048) (k : Fin 4096) :
    sc.resultIdx? j idx = some (ix3 b s k) ↔ j 0 = b ∧ j 1 = s ∧ (idx (ix2 (j 2) 0)).toInt = (k.val : Int) := by
  have w0 : sc.window j 0 = (j 0).val := rfl
  have w1 : sc.window j 1 = (j 1).val := rfl
  have w2 : sc.window j 2 = 0 := rfl
  have s0 : sc.start j idx 0 = 0 := rfl
  have s1 : sc.start j idx 1 = 0 := rfl
  have s2 : sc.start j idx 2 = (idx (ix2 (j 2) 0)).toInt := by
    refine (dif_pos (show (2 : Fin 3) ∈ sc.scatterDimsToOperandDims from List.mem_singleton.2 rfl)).trans (congrArg (fun i => (idx i).toInt) ?_)
    funext a
    match a with
    | ⟨0, _⟩ => rfl
    | ⟨1, _⟩ => rfl
  have hj0 := (j 0).isLt
  have hj1 := (j 1).isLt
  unfold ScatterDims.resultIdx?
  constructor
  · intro h
    split at h
    · rename_i hb
      have h := Option.some.inj h
      have h0 := congrArg Fin.val (congrFun h 0)
      have h1 := congrArg Fin.val (congrFun h 1)
      have h2 := congrArg Fin.val (congrFun h 2)
      have hb2 := hb 2
      simp only [w0, w1, w2, s0, s1, s2] at h0 h1 h2 hb2
      refine ⟨Fin.ext ?_, Fin.ext ?_, ?_⟩
      · simpa using h0
      · simpa using h1
      · have : ((idx (ix2 (j 2) 0)).toInt + ((0 : ℕ) : Int)).toNat = k.val := h2
        omega
    · cases h
  · rintro ⟨h0, h1, h2⟩
    have hk := k.isLt
    have hall : ∀ a, 0 ≤ sc.start j idx a + sc.window j a ∧ sc.start j idx a + sc.window j a < S8x2048x4096.size a := by
      intro a
      match a with
      | ⟨0, _⟩ => show 0 ≤ sc.start j idx 0 + sc.window j 0 ∧ sc.start j idx 0 + sc.window j 0 < (8 : ℕ); rw [w0, s0, h0]; have := b.isLt; omega
      | ⟨1, _⟩ => show 0 ≤ sc.start j idx 1 + sc.window j 1 ∧ sc.start j idx 1 + sc.window j 1 < (2048 : ℕ); rw [w1, s1, h1]; have := s.isLt; omega
      | ⟨2, _⟩ => show 0 ≤ sc.start j idx 2 + sc.window j 2 ∧ sc.start j idx 2 + sc.window j 2 < (4096 : ℕ); rw [w2, s2, h2]; omega
    rw [dif_pos hall]
    congr 1
    funext a
    apply Fin.ext
    match a with
    | ⟨0, _⟩ => show (sc.start j idx 0 + sc.window j 0).toNat = b.val; rw [w0, s0, h0]; omega
    | ⟨1, _⟩ => show (sc.start j idx 1 + sc.window j 1).toNat = s.val; rw [w1, s1, h1]; omega
    | ⟨2, _⟩ => show (sc.start j idx 2 + sc.window j 2).toNat = k.val; rw [w2, s2, h2]; omega

/-- `x` with the outlier columns zeroed, as the reference computes it. -/
def zeroed (x : FVec Ideal S8x2048x4096 .bf16) (I : S124.Idx → BitVec 32) : FVec Ideal S8x2048x4096 .bf16 :=
  Host.scatter sc (fun _ b => b) x (words I) (broadcastInDim S8x2048x124 ![] bcast_S_S8x2048x124 (constant S_ .bf16 0x0000#16))

/-- A row of `x`. -/
def row (x : FVec Ideal S8x2048x4096 .bf16) (b : Fin 8) (s : Fin 2048) (k : Fin 4096) : EReal := x (ix3 b s k)

/-- The index list over positions. -/
def lst (I : S124.Idx → BitVec 32) (o : Fin 124) : BitVec 32 := I (ix1 o)

theorem zeroed_at (x : FVec Ideal S8x2048x4096 .bf16) (I : S124.Idx → BitVec 32) (hI : ∀ o, (I o).toNat < 4096) (b : Fin 8) (s : Fin 2048) (k : Fin 4096) :
    zeroed x I (ix3 b s k) = kept (lst I) (row x b s) k := by
  have hw : ∀ o : Fin 124, (words I (ix2 o 0)).toInt = (k.val : Int) ↔ (lst I o).toNat = k.val := fun o => by
    rw [words_at I hI, toInt_small _ (hI _)]; exact Int.ofNat_inj
  unfold zeroed kept
  by_cases h : IsOut (lst I) k.val
  · rw [if_pos h]
    obtain ⟨o, ho⟩ := h
    refine Routing.scatter_set_hit sc x _ _ _ 0 (fun j _ => ?_) (ix3 b s o) ((lands _ _ _ _ _).2 ⟨rfl, rfl, (hw o).2 ho⟩)
    obtain ⟨j0, j1, j2, rfl⟩ : ∃ j0 j1 j2, j = ix3 j0 j1 j2 := ⟨_, _, _, eq_ix3 j⟩
    pointwise
  · rw [if_neg h]
    exact Routing.scatter_set_miss sc x _ _ _ fun j hj => h ⟨j 2, (hw _).1 ((lands _ _ _ _ _).1 hj).2.2⟩

abbrev ga := gather_S8x2048x4096_S124x1_S8x2048x124_01_2_n_n_2_1_820481

/-- The gathered outlier columns at an index. -/
theorem gathered_at (x : FVec Ideal S8x2048x4096 .bf16) (I : S124.Idx → BitVec 32) (hI : ∀ o, (I o).toNat < 4096) (b : Fin 8) (s : Fin 2048) (o : Fin 124) :
    Host.gather ga x (words I) (ix3 b s o) = row x b s ⟨(lst I o).toNat, hI _⟩ := by
  unfold Host.gather row
  congr 1
  funext a
  refine Fin.ext ?_
  match a with
  | ⟨0, _⟩ => show 0 + 0 + b.val = b.val; omega
  | ⟨1, _⟩ => show 0 + 0 + s.val = s.val; omega
  | ⟨2, _⟩ =>
    have hsi : ga.siIdx (ix3 b s o) ⟨List.idxOf (2 : Fin 3) ga.startIndexMap, List.idxOf_lt_length_iff.2 (List.mem_singleton.2 rfl)⟩ = ix2 o 0 := by
      funext a
      match a with
      | ⟨0, _⟩ => rfl
      | ⟨1, _⟩ => rfl
    have hst : ga.start (ix3 b s o) (words I) 2 = min (words I (ix2 o 0)).toInt.toNat (4096 - 1) :=
      (dif_pos (show (2 : Fin 3) ∈ ga.startIndexMap from List.mem_singleton.2 rfl)).trans (congrArg (fun i => min (words I i).toInt.toNat (4096 - 1)) hsi)
    show ga.start (ix3 b s o) (words I) 2 + 0 + 0 = (lst I o).toNat
    rw [hst, words_at I hI, toInt_small _ (hI _)]
    have := hI (ix1 o)
    show min (Int.toNat ((I (ix1 o)).toNat : Int)) (4096 - 1) + 0 + 0 = (I (ix1 o)).toNat
    omega

end Cert.ReferenceIdeal.Hand

end
-- ==== Proof.Ref.Quant.lean ====
/-
  The reference's quantisation read at an index: block maxima, scales and clipped quotients.
-/
module

public import proofs.«01_k».proof.Proof.Ref.Outlier

@[expose] public section

set_option maxRecDepth 16384

noncomputable section

namespace Cert.ReferenceIdeal.Hand

open Cert.ReferenceIdeal Cert.ReferenceIdeal.Gen Cert.Val
open Idealize.ShloMosaic Idealize.ShloMosaic.TcCoe Classical

/-- A row-major array of blocks: `x` split along its last axis. -/
def blocks (x : FVec Ideal S8x2048x4096 .bf16) : FVec Ideal S8x2048x32x128 .f32 :=
  shapeCast _ (extf .f32 x bitsLt_bf16_f32) shapeCasts_S8x2048x4096_S8x2048x32x128

/-- The greatest magnitude of each block. -/
def maxima (x : FVec Ideal S8x2048x4096 .bf16) : FVec Ideal S8x2048x32 .f32 :=
  Host.reduce FloatOps.maximumf (Host.absf (blocks x)) (constant S_ .f32 0xFF800000#32) reducesTo_S8x2048x32x128_S8x2048x32_d3 h_S_

/-- The powers of two among which the scales are found. -/
def powers : FVec Ideal S254 .f32 :=
  Host.powf (broadcastInDim S254 ![] bcast_S_S254 (constant S_ .f32 0x40000000#32)) (sitofp .f32 (addi (broadcastInDim S254 ![] bcast_S_S254 (constantI S_ 32 4294967171#32)) (iotaInDim S254 32 0)))

/-- The scales from the maxima. -/
def scales (a : FVec Ideal S8x2048x32 .f32) : FVec Ideal S8x2048x32 .f32 :=
  select (cmpf .oeq a (broadcastInDim S8x2048x32 ![] bcast_S_S8x2048x32 (constant S_ .f32 0x00000000#32))) (broadcastInDim S8x2048x32 ![] bcast_S_S8x2048x32 (id (constant S_ .f32 0x3F800000#32)))
    (Host.reduce FloatOps.minimumf (select (cmpf .ogt (broadcastInDim S8x2048x32x254 ![0, 1, 2, 3] bcast_S1x1x1x254_S8x2048x32x254_0_1_2_3 (broadcastInDim S1x1x1x254 ![3] bcast_S254_S1x1x1x254_3 powers))
        (broadcastInDim S8x2048x32x254 ![0, 1, 2, 3] bcast_S8x2048x32x1_S8x2048x32x254_0_1_2_3 (broadcastInDim S8x2048x32x1 ![0, 1, 2] bcast_S8x2048x32_S8x2048x32x1_0_1_2 (mulf a (broadcastInDim S8x2048x32 ![] bcast_S_S8x2048x32 (constant S_ .f32 0x3B124925#32))))))
      (broadcastInDim S8x2048x32x254 ![3] bcast_S254_S8x2048x32x254_3 powers) (broadcastInDim S8x2048x32x254 ![] bcast_S_S8x2048x32x254 (id (constant S_ .f32 0x7F800000#32)))) (constant S_ .f32 0x7F800000#32) reducesTo_S8x2048x32x254_S8x2048x32_d3 h_S_)

/-- The clipped quotients. -/
def quotients (x : FVec Ideal S8x2048x4096 .bf16) (s : FVec Ideal S8x2048x32 .f32) : FVec Ideal S8x2048x4096 .f32 :=
  shapeCast _ (minimumf (broadcastInDim S8x2048x32x128 ![] bcast_S_S8x2048x32x128 (id (constant S_ .f32 0x43E00000#32)))
    (maximumf (broadcastInDim S8x2048x32x128 ![] bcast_S_S8x2048x32x128 (id (constant S_ .f32 0xC3E00000#32)))
      (Host.divf (blocks x) (broadcastInDim S8x2048x32x128 ![0, 1, 2, 3] bcast_S8x2048x32x1_S8x2048x32x128_0_1_2_3 (broadcastInDim S8x2048x32x1 ![0, 1, 2] bcast_S8x2048x32_S8x2048x32x1_0_1_2 s))))) shapeCasts_S8x2048x32x128_S8x2048x4096

theorem blocks_at (x : FVec Ideal S8x2048x4096 .bf16) (b : Fin 8) (s : Fin 2048) (j : Fin 32) (l : Fin 128) :
    blocks x (ix4 b s j l) = x (ix3 b s (colOf j l)) := by
  pointwise [blocks]
  exact congrArg (fun k => x (ix3 b s k)) (Fin.ext (by show j.val * 128 + l.val = 128 * j.val + l.val; omega))

theorem maxima_at (x : FVec Ideal S8x2048x4096 .bf16) (b : Fin 8) (s : Fin 2048) (j : Fin 32) :
    maxima x (ix3 b s j) = Finset.fold max (Ideal.ofBits FTy.f32 0xFF800000#32) (fun l : Fin 128 => max (x (ix3 b s (colOf j l))) (-(x (ix3 b s (colOf j l))))) Finset.univ := by
  unfold maxima
  simp only [← blocks_at]
  generalize blocks x = v
  pointwise
  rfl

theorem powers_at (k : Fin 254) : powers (ix1 k) = rpw k.val := by
  pointwise [powers]
  rfl

theorem scales_at (a : FVec Ideal S8x2048x32 .f32) (b : Fin 8) (s : Fin 2048) (j : Fin 32) :
    scales a (ix3 b s j) = rScale (a (ix3 b s j)) := by
  unfold scales rScale
  simp only [id]
  simp only [← powers_at]
  generalize powers = p
  pointwise
  rfl

theorem quotients_at (x : FVec Ideal S8x2048x4096 .bf16) (sc : FVec Ideal S8x2048x32 .f32) (b : Fin 8) (s : Fin 2048) (k : Fin 4096) :
    quotients x sc (ix3 b s k) = clip (Ideal.div (x (ix3 b s k)) (sc (ix3 b s (blkOf k)))) := by
  pointwise [quotients, blocks]
  rfl

end Cert.ReferenceIdeal.Hand

end
-- ==== Proof.Ref.Use.lean ====
module
public import proofs.«01_k».proof.Proof.Gen.ReferenceIdeal.Run
public import proofs.«01_k».proof.Proof.Gen.ReferenceIdeal.Read
public import proofs.«01_k».proof.Proof.Gen.Pre_well_formed
-- ==== Proof.Ref.Enter.lean ====
/-
  The reference's scales and codes as terms of the arguments, where its pallas call starts.
-/
module

public import proofs.«01_k».proof.Proof.Ref.Quant
public import proofs.«01_k».proof.Proof.Ref.Use

@[expose] public section

set_option maxRecDepth 16384

noncomputable section

namespace Cert.ReferenceIdeal.Hand

open Cert.ReferenceIdeal Cert.ReferenceIdeal.Gen Cert.ReferenceIdeal.Value Cert.Val
open Idealize.ShloMosaic Idealize.ShloMosaic.TcCoe Classical

variable (m : (ℓ : Loc nD τ sig) → Buf (Elt Ideal) ℓ) (c : Dev nD)

/-- The arguments' launch contents. -/
abbrev aX : FVec Ideal S8x2048x4096 .bf16 := m ((c.tc : Thread nD τ).loc main_arg0)
@[inherit_doc aX] abbrev aI : S124.Idx → BitVec 32 := m ((c.tc : Thread nD τ).loc main_arg1)

/-- The reference's scales. -/
def scaleR : FVec Ideal S8x2048x32 .f32 := scales (maxima (zeroed (aX m c) (aI m c)))
/-- The reference's clipped quotients. -/
def codeR : FVec Ideal S8x2048x4096 .f32 := quotients (zeroed (aX m c) (aI m c)) (scaleR m c)

theorem exit_scale : exitV m c (Proc.devRef .tc main_v29) = scaleR m c := exit_main_v29 m c

set_option maxHeartbeats 2000000 in
/-- What the pallas call is given as its first operand. -/
theorem enter_codes : Gen.V0 m c (Proc.devRef .tc main_v34) = codeR m c := by
  show Gen.V0 m c (Proc.devRef .tc main_v34) = _
  simp only [Gen.V0, Gen.hostOps0, Gen.hostOps0_1, Gen.hostOps0_2, Gen.hostOps0_3, Gen.hostOps0_4, Gen.hostOps0_5, Gen.hostOps0_6, StableHlo.TRef.binary, StableHlo.TRef.ternary, StableHlo.TRef.unary, StableHlo.TRef.toBuf, StableHlo.TRef.ofBuf, cast_eq, List.flatten_cons, List.flatten_nil, List.append_nil, List.cons_append, List.nil_append]
  after_results_simp <;> rfl

end Cert.ReferenceIdeal.Hand

end
-- ==== Proof.Ref.Region.lean ====
/-
  What the reference's one pallas call leaves in its three arrays, and the reference's codes as a term of the arguments.
-/
module

public import proofs.«01_k».proof.Proof.Ref.Enter
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Value Cert.Val
open Idealize.ShloMosaic Idealize.ShloMosaic.TcCoe Classical

variable (m : (ℓ : Loc nD τ sig) → Buf (Elt Ideal) ℓ) (c : Dev nD)

theorem zeros3 : ∀ a : Fin 3, (![0, 0, 0] : Fin 3 → ℕ) a = 0 := by decide
theorem zeros2 : ∀ a : Fin 2, (![0, 0] : Fin 2 → ℕ) a = 0 := by decide

theorem out2_eq (x0 : Vec Ideal S8x2048x4096 .f32) (x1 : Vec Ideal S4096x11008 .fp8e4m3) (y : S8x2048x4096.Idx) : (out0_2 x0 x1 y : EReal) = x0 y := by
  unfold out0_2
  rw [View.canon_cons_unit_lit _ _ _ zeros3, View.ld_unit_lit _ _ zeros3]
  obtain ⟨y0, y1, y2, rfl⟩ : ∃ y0 y1 y2, y = ix3 y0 y1 y2 := ⟨_, _, _, eq_ix3 y⟩
  pointwise [k0_pay1]
theorem out3_eq (x0 : Vec Ideal S8x2048x4096 .f32) (x1 : Vec Ideal S4096x11008 .fp8e4m3) (y : S8x2048x4096.Idx) : (out0_3 x0 x1 y : EReal) = x0 y := by
  unfold out0_3
  rw [View.canon_cons_unit_lit _ _ _ zeros3, View.ld_unit_lit _ _ zeros3]
  obtain ⟨y0, y1, y2, rfl⟩ : ∃ y0 y1 y2, y = ix3 y0 y1 y2 := ⟨_, _, _, eq_ix3 y⟩
  pointwise [k0_pay2, k0_pay1]
theorem out4_eq (x0 : Vec Ideal S8x2048x4096 .f32) (x1 : Vec Ideal S4096x11008 .fp8e4m3) (y : S4096x11008.Idx) : (out0_4 x0 x1 y : EReal) = x1 y := by
  unfold out0_4
  rw [View.canon_cons_unit_lit _ _ _ zeros2, View.ld_unit_lit _ _ zeros2]
  obtain ⟨y0, y1, rfl⟩ : ∃ y0 y1, y = ix2 y0 y1 := ⟨_, _, eq_ix2 y⟩
  pointwise [k0_pay3]

theorem emb0 (t : Fin cfg0.N) (y : S8x2048x4096.Idx) : ((cfg0.win 0).blk t).view.emb y = y := by
  funext a
  apply Fin.ext
  match a with
  | ⟨0, _⟩ => show 0 * 8 + 1 * (y 0).val = (y 0).val; omega
  | ⟨1, _⟩ => show 0 * 2048 + 1 * (y 1).val = (y 1).val; omega
  | ⟨2, _⟩ => show 0 * 4096 + 1 * (y 2).val = (y 2).val; omega
@[inherit_doc emb0] theorem emb2 (t : Fin cfg0.N) (y : S8x2048x4096.Idx) : ((cfg0.win 2).blk t).view.emb y = y := by
  funext a
  apply Fin.ext
  match a with
  | ⟨0, _⟩ => show 0 * 8 + 1 * (y 0).val = (y 0).val; omega
  | ⟨1, _⟩ => show 0 * 2048 + 1 * (y 1).val = (y 1).val; omega
  | ⟨2, _⟩ => show 0 * 4096 + 1 * (y 2).val = (y 2).val; omega
@[inherit_doc emb0] theorem emb3 (t : Fin cfg0.N) (y : S8x2048x4096.Idx) : ((cfg0.win 3).blk t).view.emb y = y := by
  funext a
  apply Fin.ext
  match a with
  | ⟨0, _⟩ => show 0 * 8 + 1 * (y 0).val = (y 0).val; omega
  | ⟨1, _⟩ => show 0 * 2048 + 1 * (y 1).val = (y 1).val; omega
  | ⟨2, _⟩ => show 0 * 4096 + 1 * (y 2).val = (y 2).val; omega
@[inherit_doc emb0] theorem emb1 (t : Fin cfg0.N) (y : S4096x11008.Idx) : ((cfg0.win 1).blk t).view.emb y = y := by
  funext a
  apply Fin.ext
  match a with
  | ⟨0, _⟩ => show 0 * 4096 + 1 * (y 0).val = (y 0).val; omega
  | ⟨1, _⟩ => show 0 * 11008 + 1 * (y 1).val = (y 1).val; omega
@[inherit_doc emb0] theorem emb4 (t : Fin cfg0.N) (y : S4096x11008.Idx) : ((cfg0.win 4).blk t).view.emb y = y := by
  funext a
  apply Fin.ext
  match a with
  | ⟨0, _⟩ => show 0 * 4096 + 1 * (y 0).val = (y 0).val; omega
  | ⟨1, _⟩ => show 0 * 11008 + 1 * (y 1).val = (y 1).val; omega

attribute [local irreducible] codeR out0_2 out0_3 out0_4

/-- The first operand's block is the whole array, whatever it holds; likewise the second's. -/
theorem read0 (V : Valuation τ sig (Elt Ideal)) (t : Fin cfg0.N) (y : S8x2048x4096.Idx) :
    (((cfg0.win 0).blk t).view.read (Elt Ideal) (V (Pipeline.arrRef spec0 0)) : S8x2048x4096.Idx → EReal) y = (V (Proc.devRef .tc main_v34) : S8x2048x4096.Idx → EReal) y := by
  show (V (Proc.devRef .tc main_v34) : S8x2048x4096.Idx → EReal) (((cfg0.win 0).blk t).view.emb y) = _
  rw [emb0]
@[inherit_doc read0] theorem read1 (V : Valuation τ sig (Elt Ideal)) (t : Fin cfg0.N) (y : S4096x11008.Idx) :
    (((cfg0.win 1).blk t).view.read (Elt Ideal) (V (Pipeline.arrRef spec0 1)) : S4096x11008.Idx → EReal) y = (V (Proc.devRef .tc main_arg3) : S4096x11008.Idx → EReal) y := by
  show (V (Proc.devRef .tc main_arg3) : S4096x11008.Idx → EReal) (((cfg0.win 1).blk t).view.emb y) = _
  rw [emb1]

theorem in0 (t : Fin cfg0.N) (y : S8x2048x4096.Idx) : (iblk m c 0 t : S8x2048x4096.Idx → EReal) y = codeR m c y := by
  unfold iblk
  refine (read0 (Gen.V0 m c) t y).trans ?_
  exact congrFun (enter_codes m c) y
theorem in1 (t : Fin cfg0.N) (y : S4096x11008.Idx) : (iblk m c 1 t : S4096x11008.Idx → EReal) y = (m ((c.tc : Thread nD τ).loc main_arg3) : S4096x11008.Idx → EReal) y := by
  unfold iblk
  refine (read1 (Gen.V0 m c) t y).trans ?_
  exact congrFun (Gen.V_main_arg3 m c) y

theorem cov2 : (cfg0.win 2).Covers := by decide +kernel
theorem cov3 : (cfg0.win 3).Covers := by decide +kernel
theorem cov4 : (cfg0.win 4).Covers := by decide +kernel

theorem left2 (t : Fin cfg0.N) (q : S8x2048x4096.Idx) : (out0_2 (iblk m c 0 t) (iblk m c 1 t) q : EReal) = codeR m c q :=
  (out2_eq (iblk m c 0 t) (iblk m c 1 t) q).trans (in0 m c t q)
theorem left3 (t : Fin cfg0.N) (q : S8x2048x4096.Idx) : (out0_3 (iblk m c 0 t) (iblk m c 1 t) q : EReal) = codeR m c q :=
  (out3_eq (iblk m c 0 t) (iblk m c 1 t) q).trans (in0 m c t q)
theorem left4 (t : Fin cfg0.N) (q : S4096x11008.Idx) : (out0_4 (iblk m c 0 t) (iblk m c 1 t) q : EReal) = (m ((c.tc : Thread nD τ).loc main_arg3) : S4096x11008.Idx → EReal) q :=
  (out4_eq (iblk m c 0 t) (iblk m c 1 t) q).trans (in1 m c t q)

/-- The array of codes. -/
theorem reg0 : reg_main_v35_0 m c = (fun y : S8x2048x4096.Idx => (codeR m c y : EReal)) := by
  refine (dats m 0 c).arrAt_eq_of_covers 2 _ cov2 fun t hf y => ?_
  refine Eq.trans ?_ (congrArg (fun y : S8x2048x4096.Idx => (codeR m c y : EReal)) (emb2 t y)).symm
  exact left2 m c t y
/-- The array of codes, widened. -/
theorem reg1 : reg_main_v35_1 m c = (fun y : S8x2048x4096.Idx => (codeR m c y : EReal)) := by
  refine (dats m 0 c).arrAt_eq_of_covers 3 _ cov3 fun t hf y => ?_
  refine Eq.trans ?_ (congrArg (fun y : S8x2048x4096.Idx => (codeR m c y : EReal)) (emb3 t y)).symm
  exact left3 m c t y
/-- The array of weight codes, widened. -/
theorem reg2 : reg_main_v35_2 m c = (fun y : S4096x11008.Idx => ((m ((c.tc : Thread nD τ).loc main_arg3) : S4096x11008.Idx → EReal) y : EReal)) := by
  refine (dats m 0 c).arrAt_eq_of_covers 4 _ cov4 fun t hf y => ?_
  refine Eq.trans ?_ (congrArg (fun y : S4096x11008.Idx => ((m ((c.tc : Thread nD τ).loc main_arg3) : S4096x11008.Idx → EReal) y : EReal)) (emb4 t y)).symm
  exact left4 m c t y

end Cert.ReferenceIdeal.Hand

end
-- ==== Proof.Ref.Result.lean ====
/-
  The reference's three results at an index, as functions of the arguments' launch contents.
-/
module

public import proofs.«01_k».proof.Proof.Ref.Region

@[expose] public section

set_option maxRecDepth 16384

noncomputable section

namespace Cert.ReferenceIdeal.Hand

open Cert.ReferenceIdeal Cert.ReferenceIdeal.Gen Cert.ReferenceIdeal.Value Cert.ReferenceIdeal.Read Cert.Val
open Idealize.ShloMosaic Idealize.ShloMosaic.TcCoe Classical

variable (m : (ℓ : Loc nD τ sig) → Buf (Elt Ideal) ℓ) (c : Dev nD)

/-- The outlier weights, the weight codes and their scales, as launched. -/
abbrev aWo : S124x11008.Idx → EReal := m ((c.tc : Thread nD τ).loc main_arg2)
@[inherit_doc aWo] abbrev aWc : S4096x11008.Idx → EReal := m ((c.tc : Thread nD τ).loc main_arg3)
@[inherit_doc aWo] abbrev aWs : S32x86.Idx → EReal := m ((c.tc : Thread nD τ).loc main_arg4)

variable (hI : ∀ o, (aI m c o).toNat < 4096)

include hI in
theorem scaleR_at (b : Fin 8) (s : Fin 2048) (j : Fin 32) : (scaleR m c (ix3 b s j) : EReal) = rScale (amax (lst (aI m c)) (row (aX m c) b s) j) := by
  unfold scaleR
  rw [scales_at, maxima_at]
  unfold amax
  simp only [zeroed_at _ _ hI]

include hI in
theorem codeR_at (b : Fin 8) (s : Fin 2048) (k : Fin 4096) : (codeR m c (ix3 b s k) : EReal) = rCode (lst (aI m c)) (row (aX m c) b s) k := by
  unfold codeR
  rw [quotients_at, zeroed_at _ _ hI, scaleR_at m c hI]
  rfl

theorem res_eq : res_main_v58 m c = val_main_v58 (F := Ideal) (aX m c) (aI m c) (m ((c.tc : Thread nD τ).loc main_arg2)) (m ((c.tc : Thread nD τ).loc main_arg4)) (reg_main_v35_1 m c) (reg_main_v35_2 m c) (scaleR m c) := rfl

/-- The reference's result at an index, over its intermediate arrays. -/
theorem val_at (x0 : S8x2048x4096.Idx → Ideal .bf16) (x1 : S124.Idx → BitVec 32) (x2 : S124x11008.Idx → Ideal .bf16) (x4 : S32x86.Idx → Ideal .f32)
    (r1 : S8x2048x4096.Idx → Ideal .bf16) (r2 : S4096x11008.Idx → Ideal .bf16) (e0 : S8x2048x32.Idx → Ideal .f32) (b : Fin 8) (s : Fin 2048) (n : Fin 11008) :
    (val_main_v58 (F := Ideal) x0 x1 x2 x4 r1 r2 e0 (ix3 b s n) : EReal)
      = (∑ k : Fin 4096, (r1 (ix3 b s k) * e0 (ix3 b s (blkOf k))) * (r2 (ix2 k n) * x4 (ix2 (⟨k.val / 128, by omega⟩ : Fin 32) (⟨n.val / 128, by omega⟩ : Fin 86))))
        + ∑ o : Fin 124, (val_main_v55 (F := Ideal) x0 x1 (ix3 b s o) : EReal) * x2 (ix2 o n) := by
  unfold val_main_v58 val_main_v57 val_main_v56
  generalize val_main_v55 (F := Ideal) x0 x1 = g
  pointwise [val_main_v48, val_main_v47, val_main_v46, val_main_v45, val_main_v44, val_main_v43, val_main_v42, val_main_v41, val_main_v40, val_main_v39, val_main_v38, val_main_v37, val_main_v36]
  rfl

/-- The scatter's and the gather's index tables are one chain of operations. -/
theorem words_eq (x1 : S124.Idx → BitVec 32) : val_main_v54 (F := Ideal) x1 = words x1 := rfl

include hI in
/-- The reference's first result at an index. -/
theorem res_at (b : Fin 8) (s : Fin 2048) (n : Fin 11008) :
    (res_main_v58 m c (ix3 b s n) : EReal)
      = (∑ k : Fin 4096, (rCode (lst (aI m c)) (row (aX m c) b s) k * rScale (amax (lst (aI m c)) (row (aX m c) b s) (blkOf k)))
            * (aWc m c (ix2 k n) * aWs m c (ix2 (⟨k.val / 128, by omega⟩ : Fin 32) (⟨n.val / 128, by omega⟩ : Fin 86))))
        + ∑ o : Fin 124, row (aX m c) b s ⟨(lst (aI m c) o).toNat, hI _⟩ * aWo m c (ix2 o n) := by
  rw [res_eq, val_at]
  have h1 : ∀ k : Fin 4096, (reg_main_v35_1 m c (ix3 b s k) : EReal) = rCode (lst (aI m c)) (row (aX m c) b s) k := fun k => by
    rw [reg1]
    exact codeR_at m c hI b s k
  have h2 : ∀ (k : Fin 4096) (n : Fin 11008), (reg_main_v35_2 m c (ix2 k n) : EReal) = aWc m c (ix2 k n) := fun k n => by
    rw [reg2]
  have h3 : ∀ o : Fin 124, (val_main_v55 (F := Ideal) (aX m c) (aI m c) (ix3 b s o) : EReal) = row (aX m c) b s ⟨(lst (aI m c) o).toNat, hI _⟩ := fun o => by
    unfold val_main_v55
    rw [words_eq]
    exact gathered_at (aX m c) (aI m c) hI b s o
  simp only [h1, h2, h3, scaleR_at m c hI]

end Cert.ReferenceIdeal.Hand

end
-- ==== Proof.Val.Equation.lean ====
/-
  The mixed product is the dequantised product plus the outlier product: an outlier column contributes nothing to the
  dequantised product, and any other column nothing to the outlier product.
-/
module

public import proofs.«01_k».proof.Proof.Val.Spec

@[expose] public section

noncomputable section

namespace Cert.Val

open Idealize.ShloMosaic Classical

theorem clip_zero : clip 0 = 0 := by
  have h1 : Ideal.ofBits FTy.f32 0x43E00000#32 = ((448 : ℝ) : EReal) := by
    simp [Ideal.ofBits, Ideal.ieee]
    rw [← EReal.coe_mul]
    norm_num
  have h2 : Ideal.ofBits FTy.f32 0xC3E00000#32 = ((-448 : ℝ) : EReal) := by
    simp [Ideal.ofBits, Ideal.ieee]
    rw [← EReal.coe_mul]
    norm_num
  unfold clip
  rw [h1, h2, max_eq_right (by exact_mod_cast (by norm_num : (-448 : ℝ) ≤ 0)), min_eq_right (by exact_mod_cast (by norm_num : (0 : ℝ) ≤ 448))]

variable (I : Fin 124 → BitVec 32) (x : Fin 4096 → EReal)

/-- The code of an outlier column is zero. -/
theorem rCode_out (hx : ∀ k, GoodElt (x k)) (k : Fin 4096) (h : IsOut I k.val) : rCode I x k = 0 := by
  obtain ⟨s, hs, h1, _, _⟩ := scale_eq _ (good_amax I x hx (blkOf k))
  unfold rCode
  rw [h1]
  unfold kept Ideal.div
  rw [if_pos h, if_neg (by exact_mod_cast hs.ne'), zero_mul, clip_zero]

theorem y_agree (hI : ∀ o, (I o).toNat < 4096) (hd : ∀ o o', (I o).toNat = (I o').toNat → o = o') (hx : ∀ k, GoodElt (x k))
    (WO : Fin 124 → Fin 11008 → EReal) (WC : Fin 4096 → Fin 11008 → EReal) (WS : Fin 32 → Fin 86 → EReal) (n : Fin 11008) :
    (∑ k : Fin 4096, (if IsOut I k.val then x k else kCode I x k * kScale (amax I x (blkOf k))) * wmOf I WO WC WS k n)
      = (∑ k : Fin 4096, (rCode I x k * rScale (amax I x (blkOf k))) * (WC k n * WS (⟨k.val / 128, by omega⟩ : Fin 32) (⟨n.val / 128, by omega⟩ : Fin 86)))
        + ∑ o : Fin 124, x ⟨(I o).toNat, hI _⟩ * WO o n := by
  have ho : (∑ o : Fin 124, x ⟨(I o).toNat, hI _⟩ * WO o n) = ∑ k : Fin 4096, (if h : IsOut I k.val then x k * WO (Classical.choose h) n else 0) := by
    refine Finset.sum_of_injOn (fun o => (⟨(I o).toNat, hI _⟩ : Fin 4096)) ?_ ?_ ?_ ?_
    · intro o _ o' _ e
      exact hd o o' (congrArg (fun k : Fin 4096 => k.val) e)
    · intro o _
      simp
    · intro k _ hk
      rw [dif_neg]
      rintro ⟨o, e⟩
      exact hk ⟨o, by simp, Fin.ext e⟩
    · intro o _
      have h : IsOut I (⟨(I o).toNat, hI _⟩ : Fin 4096).val := ⟨o, rfl⟩
      rw [dif_pos h, hd (Classical.choose h) o (Classical.choose_spec h)]
  rw [ho, ← Finset.sum_add_distrib]
  refine Finset.sum_congr rfl fun k _ => ?_
  unfold wmOf
  by_cases h : IsOut I k.val
  · rw [if_pos h, dif_pos h, dif_pos h, rCode_out I x hx k h, zero_mul, zero_mul, zero_add]
  · rw [if_neg h, dif_neg h, dif_neg h, code_agree I x hx, scale_agree I x hx, add_zero]

end Cert.Val

end
-- ==== Proof.Agree.lean ====
/-
  The equation of values: from memories agreeing on the arguments, the kernel's three results are the reference's.
-/
module

public import proofs.«01_k».proof.Proof.KI.Result
public import proofs.«01_k».proof.Proof.Ref.Result
public import proofs.«01_k».proof.Proof.Val.Equation

@[expose] public section

set_option maxRecDepth 16384

noncomputable section

namespace Cert.Proof

open Idealize.ShloMosaic Idealize.ShloMosaic.TcCoe Cert.Val

abbrev KM : Type := (ℓ : Loc Cert.KernelIdeal.nD Cert.KernelIdeal.τ Cert.KernelIdeal.sig) → Buf (Elt Ideal) ℓ
abbrev RM : Type := (ℓ : Loc Cert.ReferenceIdeal.nD Cert.ReferenceIdeal.τ Cert.ReferenceIdeal.sig) → Buf (Elt Ideal) ℓ

/-- The two memories' arguments are one. -/
structure Same (m : KM) (m' : RM) (c : Dev Cert.KernelIdeal.nD) : Prop where
  row : ∀ b s, Cert.ReferenceIdeal.Hand.row (Cert.ReferenceIdeal.Hand.aX m' c) b s = Cert.KernelIdeal.Hand.xRow m c b s
  ind : Cert.ReferenceIdeal.Hand.lst (Cert.ReferenceIdeal.Hand.aI m' c) = Cert.KernelIdeal.Hand.lst (Cert.KernelIdeal.Hand.tbl m)
  wo : ∀ o n, Cert.ReferenceIdeal.Hand.aWo m' c (ix2 o n) = Cert.KernelIdeal.Hand.aWo m c o n
  wc : ∀ k n, Cert.ReferenceIdeal.Hand.aWc m' c (ix2 k n) = Cert.KernelIdeal.Hand.aWc m c k n
  ws : ∀ i j, Cert.ReferenceIdeal.Hand.aWs m' c (ix2 i j) = Cert.KernelIdeal.Hand.aWs m c i j

theorem same_of (m : KM) (m' : RM) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Same m m' c := by
  obtain ⟨h0, h1, h2, h3, h4⟩ := h
  obtain rfl : c = 0 := Subsingleton.elim _ _
  exact ⟨fun b s => funext fun k => congrFun h0 (ix3 b s k), funext fun o => congrFun h1 (ix1 o), fun o n => congrFun h2 (ix2 o n),
    fun k n => congrFun h3 (ix2 k n), fun i j => congrFun h4 (ix2 i j)⟩

variable (m : KM) (m' : RM) (c : Dev Cert.KernelIdeal.nD) (hs : Same m m' c)
  (hI : Cert.KernelIdeal.Hand.InRange (Cert.KernelIdeal.Hand.tbl m)) (hI' : ∀ o, (Cert.ReferenceIdeal.Hand.aI m' c o).toNat < 4096)
  (hx : ∀ b s k, GoodElt (Cert.KernelIdeal.Hand.xRow m c b s k))

/-- The kernel's results as the run leaves them. -/
abbrev out0 : Cert.KernelIdeal.S8x2048x11008.Idx → EReal := Cert.KernelIdeal.Gen.V6 m (Cert.KernelIdeal.Hand.outs m hI) c (Proc.devRef .tc Cert.KernelIdeal.main_v5)
@[inherit_doc out0] abbrev out1 : Cert.KernelIdeal.S8x2048x4096.Idx → EReal := Cert.KernelIdeal.Gen.V6 m (Cert.KernelIdeal.Hand.outs m hI) c (Proc.devRef .tc Cert.KernelIdeal.main_v6)
@[inherit_doc out0] abbrev out2 : Cert.KernelIdeal.S8x2048x32.Idx → EReal := Cert.KernelIdeal.Gen.V6 m (Cert.KernelIdeal.Hand.outs m hI) c (Proc.devRef .tc Cert.KernelIdeal.main_v7)

include hs hI' hx in
theorem scale_at (b : Fin 8) (s : Fin 2048) (j : Fin 32) : (Cert.ReferenceIdeal.Hand.scaleR m' c (ix3 b s j) : EReal) = out2 m c hI (ix3 b s j) := by
  rw [Cert.ReferenceIdeal.Hand.scaleR_at m' c hI', hs.row, hs.ind]
  refine Eq.trans ?_ (Cert.KernelIdeal.Hand.result_scale m hI c b s j).symm
  exact (scale_agree _ _ (hx b s) _).symm

include hs hI' hx in
theorem agree_scale : (fun y => (Cert.ReferenceIdeal.Hand.scaleR m' c y : EReal) : Cert.KernelIdeal.S8x2048x32.Idx → EReal) = out2 m c hI := by
  funext i
  rw [eq_ix3 i]
  exact scale_at m m' c hs hI hI' hx (i 0) (i 1) (i 2)

include hs hI' hx in
theorem codes_at (b : Fin 8) (s : Fin 2048) (j : Fin 4096) : (Cert.ReferenceIdeal.Hand.codeR m' c (ix3 b s j) : EReal) = out1 m c hI (ix3 b s j) := by
  rw [Cert.ReferenceIdeal.Hand.codeR_at m' c hI', hs.row, hs.ind]
  refine Eq.trans ?_ (Cert.KernelIdeal.Hand.result_codes m hI c b s j).symm
  exact (code_agree _ _ (hx b s) _).symm

include hs hI' hx in
theorem agree_codes : (fun y => (Cert.ReferenceIdeal.Hand.codeR m' c y : EReal) : Cert.KernelIdeal.S8x2048x4096.Idx → EReal) = out1 m c hI := by
  funext i
  rw [eq_ix3 i]
  exact codes_at m m' c hs hI hI' hx (i 0) (i 1) (i 2)

include hs hI' hx in
theorem y_at (hd : Cert.KernelIdeal.Hand.Distinct m) (b : Fin 8) (s : Fin 2048) (n : Fin 11008) :
    (Cert.ReferenceIdeal.Value.res_main_v58 m' c (ix3 b s n) : EReal) = out0 m c hI (ix3 b s n) := by
  rw [Cert.ReferenceIdeal.Hand.res_at m' c hI']
  refine Eq.trans ?_ (Cert.KernelIdeal.Hand.result_y m hI c hd b s n).symm
  unfold Cert.KernelIdeal.Hand.yK
  refine Eq.trans ?_ (y_agree (Cert.KernelIdeal.Hand.lst (Cert.KernelIdeal.Hand.tbl m)) (Cert.KernelIdeal.Hand.xRow m c b s) hI hd (hx b s)
    (Cert.KernelIdeal.Hand.aWo m c) (Cert.KernelIdeal.Hand.aWc m c) (Cert.KernelIdeal.Hand.aWs m c) n).symm
  simp only [hs.row, hs.ind, hs.wo, hs.wc, hs.ws]

include hs hI' hx in
theorem agree_y (hd : Cert.KernelIdeal.Hand.Distinct m) :
    (Cert.ReferenceIdeal.Value.res_main_v58 m' c : Cert.KernelIdeal.S8x2048x11008.Idx → EReal) = out0 m c hI := by
  funext (i : Cert.KernelIdeal.S8x2048x11008.Idx)
  rw [eq_ix3 i]
  exact y_at m m' c hs hI hI' hx hd (i 0) (i 1) (i 2)

end Cert.Proof

end
-- ==== Proof.lean ====
/-
  The certificate: each claim of `Cert.Claim`, from the modules that prove it.
-/
module

public import proofs.«01_k».proof.Defs
public import proofs.«01_k».proof.Proof.Pre
public import proofs.«01_k».proof.Proof.PreWf
public import proofs.«01_k».proof.Proof.K.Run
public import proofs.«01_k».proof.Proof.KI.Run
public import proofs.«01_k».proof.Proof.Gen.ReferenceIdeal.Frame
public import proofs.«01_k».proof.Proof.Agree

@[expose] public section

noncomputable section

namespace Cert.Proof

open Idealize.ShloMosaic

theorem frame_kernel : Cert.quiescent_Kernel (hKernel := Cert.Kernel.Gen.facts) (hPre_in_range := Cert.Pre_in_range.Gen.facts) :=
  fun m ρ h => Cert.Kernel.Hand.frame m (fun o => Pre.in_range _ _ _ _ _ (h 0) (Cert.Kernel.Hand.at1 o)) ρ

theorem frame_ideal : Cert.quiescent_KernelIdeal (hKernelIdeal := Cert.KernelIdeal.Gen.facts) (hPre_in_range := Cert.Pre_in_range.Gen.facts) :=
  fun m ρ h => Cert.KernelIdeal.Hand.frame m (fun o => Pre.in_range _ _ _ _ _ (h 0) (Cert.KernelIdeal.Hand.at1 o)) ρ

theorem frame_ideal_wf : Cert.quiescent_KernelIdeal_pre_well_formed (hKernelIdeal := Cert.KernelIdeal.Gen.facts) (hPre_well_formed := Cert.Pre_well_formed.Gen.facts) :=
  fun m ρ h => Cert.KernelIdeal.Hand.frame m (fun o => (Pre.wf_parts (h 0)).1 (Cert.KernelIdeal.Hand.at1 o)) ρ

theorem values : Cert.algebraic_KernelIdeal_ReferenceIdeal_pre_well_formed (hKernelIdeal := Cert.KernelIdeal.Gen.facts)
    (hReferenceIdeal := Cert.ReferenceIdeal.Gen.facts) (hPre_well_formed := Cert.Pre_well_formed.Gen.facts) := by
  intro m g m' g' hp hargs
  have hI : Cert.KernelIdeal.Hand.InRange (Cert.KernelIdeal.Hand.tbl m) := fun o => (Pre.wf_parts (hp 0)).1 (Cert.KernelIdeal.Hand.at1 o)
  have hd : Cert.KernelIdeal.Hand.Distinct m := fun o o' e => Pre.wf_distinct (hp 0) o o' e
  have hx : ∀ c b s k, Cert.Val.GoodElt (Cert.KernelIdeal.Hand.xRow m c b s k) := fun c b s k => (Pre.wf_parts (hp c)).2.2 (ix3 b s k)
  have hI' : ∀ c o, (Cert.ReferenceIdeal.Hand.aI m' c o).toNat < 4096 := fun c o => by
    have e := congrFun (hargs c).2.1 o
    have k := (Pre.wf_parts (hp c)).1 o
    rw [← e] at k
    exact k
  have hs := fun c => same_of m m' c (hargs c)
  refine ⟨fun c => out0 m c hI, fun c => out1 m c hI, fun c => out2 m c hI, ?_, ?_⟩
  · refine θ_run_mono (Cert.KernelIdeal.Hand.run_main m hI g) fun r h c => ⟨?_, ?_, ?_, ?_, ?_, ?_, ?_, ?_⟩
    · exact h.1 c _ (Pipeline.devRef_mem_ucRefs (b := Cert.KernelIdeal.main_v5) rfl)
    · exact h.1 c _ (Pipeline.devRef_mem_ucRefs (b := Cert.KernelIdeal.main_v6) rfl)
    · exact h.1 c _ (Pipeline.devRef_mem_ucRefs (b := Cert.KernelIdeal.main_v7) rfl)
    · exact (h.1 c _ (Pipeline.devRef_mem_ucRefs (b := Cert.KernelIdeal.main_arg0) rfl)).trans (Cert.KernelIdeal.Gen.V6_main_arg0 m _ c)
    · exact (h.1 c _ (Pipeline.devRef_mem_ucRefs (b := Cert.KernelIdeal.main_arg1) rfl)).trans (Cert.KernelIdeal.Gen.V6_main_arg1 m _ c)
    · exact (h.1 c _ (Pipeline.devRef_mem_ucRefs (b := Cert.KernelIdeal.main_arg2) rfl)).trans (Cert.KernelIdeal.Gen.V6_main_arg2 m _ c)
    · exact (h.1 c _ (Pipeline.devRef_mem_ucRefs (b := Cert.KernelIdeal.main_arg3) rfl)).trans (Cert.KernelIdeal.Gen.V6_main_arg3 m _ c)
    · exact (h.1 c _ (Pipeline.devRef_mem_ucRefs (b := Cert.KernelIdeal.main_arg4) rfl)).trans (Cert.KernelIdeal.Gen.V6_main_arg4 m _ c)
  · refine θ_run_mono (Cert.ReferenceIdeal.Value.run m' g') fun r h c => ⟨?_, ?_, ?_, (h c).2.2.2⟩
    · exact (h c).1.trans (agree_y m m' c (hs c) hI (hI' c) (hx c) hd)
    · exact (h c).2.1.trans ((Cert.ReferenceIdeal.Hand.reg0 m' c).trans (agree_codes m m' c (hs c) hI (hI' c) (hx c)))
    · exact (h c).2.2.1.trans ((Cert.ReferenceIdeal.Value.exit_main_v29 m' c).symm.trans ((Cert.ReferenceIdeal.Hand.exit_scale m' c).trans (agree_scale m m' c (hs c) hI (hI' c) (hx c))))

theorem claim : Cert.Claim :=
  ⟨Cert.Kernel.Gen.facts, Cert.KernelIdeal.Gen.facts, Cert.ReferenceIdeal.Gen.facts, Cert.Pre_in_range.Gen.facts, Cert.Pre_well_formed.Gen.facts,
    frame_kernel, frame_ideal, frame_ideal_wf, fun m ρ _ => Cert.ReferenceIdeal.Gen.frame m ρ, fun m ρ _ => Cert.ReferenceIdeal.Gen.frame m ρ, trivial, values⟩

end Cert.Proof

end
